-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "log2e_inv_sqrt_d" .f32 0x3E0293EE#32 (((Real.log 2)⁻¹ * (Real.sqrt 128)⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v10)) (v2 : (c : Dev Cert.KernelIdeal.nD) → Buf (Elt Ideal) ((c.tc : Thread Cert.KernelIdeal.nD Cert.KernelIdeal.τ).loc Cert.KernelIdeal.main_v3)) (v3 : (c : Dev Cert.KernelIdeal.nD) → Buf (Elt Ideal) ((c.tc : Thread Cert.KernelIdeal.nD Cert.KernelIdeal.τ).loc Cert.KernelIdeal.main_v11)) (v4 : (c : Dev Cert.KernelIdeal.nD) → Buf (Elt Ideal) ((c.tc : Thread Cert.KernelIdeal.nD Cert.KernelIdeal.τ).loc Cert.KernelIdeal.main_v6)) (v5 : (c : Dev Cert.KernelIdeal.nD) → Buf (Elt Ideal) ((c.tc : Thread Cert.KernelIdeal.nD Cert.KernelIdeal.τ).loc Cert.KernelIdeal.main_v12)) (v6 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v10) = v1 c
          ∧ r.2.mem ((c.tc : Thread Cert.KernelIdeal.nD Cert.KernelIdeal.τ).loc Cert.KernelIdeal.main_v3) = v2 c
          ∧ r.2.mem ((c.tc : Thread Cert.KernelIdeal.nD Cert.KernelIdeal.τ).loc Cert.KernelIdeal.main_v11) = v3 c
          ∧ r.2.mem ((c.tc : Thread Cert.KernelIdeal.nD Cert.KernelIdeal.τ).loc Cert.KernelIdeal.main_v6) = v4 c
          ∧ r.2.mem ((c.tc : Thread Cert.KernelIdeal.nD Cert.KernelIdeal.τ).loc Cert.KernelIdeal.main_v12) = v5 c
          ∧ r.2.mem ((c.tc : Thread Cert.KernelIdeal.nD Cert.KernelIdeal.τ).loc Cert.KernelIdeal.main_v9) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v126) = v0 c
          ∧ r.2.mem ((c.tc : Thread Cert.ReferenceIdeal.nD Cert.ReferenceIdeal.τ).loc Cert.ReferenceIdeal.main_v128) = v1 c
          ∧ r.2.mem ((c.tc : Thread Cert.ReferenceIdeal.nD Cert.ReferenceIdeal.τ).loc Cert.ReferenceIdeal.main_v19) = v2 c
          ∧ r.2.mem ((c.tc : Thread Cert.ReferenceIdeal.nD Cert.ReferenceIdeal.τ).loc Cert.ReferenceIdeal.main_v130) = v3 c
          ∧ r.2.mem ((c.tc : Thread Cert.ReferenceIdeal.nD Cert.ReferenceIdeal.τ).loc Cert.ReferenceIdeal.main_v47) = v4 c
          ∧ r.2.mem ((c.tc : Thread Cert.ReferenceIdeal.nD Cert.ReferenceIdeal.τ).loc Cert.ReferenceIdeal.main_v132) = v5 c
          ∧ r.2.mem ((c.tc : Thread Cert.ReferenceIdeal.nD Cert.ReferenceIdeal.τ).loc Cert.ReferenceIdeal.main_v75) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x2048x4096 : Shape := ⟨3, ![8, 2048, 4096]⟩
abbrev S8x2048x1024 : Shape := ⟨3, ![8, 2048, 1024]⟩
abbrev S8x8x16x128 : Shape := ⟨4, ![8, 8, 16, 128]⟩
abbrev S1x2048x512 : Shape := ⟨3, ![1, 2048, 512]⟩
abbrev S1x2048x128 : Shape := ⟨3, ![1, 2048, 128]⟩
abbrev S1x1x16x128 : Shape := ⟨4, ![1, 1, 16, 128]⟩
abbrev S16x128x128 : Shape := ⟨3, ![16, 128, 128]⟩
abbrev S16x1x512 : Shape := ⟨3, ![16, 1, 512]⟩
abbrev S128x512 : Shape := ⟨2, ![128, 512]⟩
abbrev S1x128 : Shape := ⟨2, ![1, 128]⟩
abbrev S1x128x128 : Shape := ⟨3, ![1, 128, 128]⟩
abbrev S128x128 : Shape := ⟨2, ![128, 128]⟩
abbrev S1 : Shape := ⟨1, ![1]⟩
abbrev S1x1x1 : Shape := ⟨3, ![1, 1, 1]⟩
abbrev S1x1 : Shape := ⟨2, ![1, 1]⟩
abbrev S1x256 : Shape := ⟨2, ![1, 256]⟩
abbrev S1x1x128 : Shape := ⟨3, ![1, 1, 128]⟩
abbrev S1x512 : Shape := ⟨2, ![1, 512]⟩
abbrev S1x1x512 : Shape := ⟨3, ![1, 1, 512]⟩
abbrev S1x1x1x128 : Shape := ⟨4, ![1, 1, 1, 128]⟩
abbrev S512x128 : Shape := ⟨2, ![512, 128]⟩
abbrev S512 : Shape := ⟨1, ![512]⟩
abbrev S8x8x16x4 : Shape := ⟨4, ![8, 8, 16, 4]⟩
abbrev S8x16x8x4 : Shape := ⟨4, ![8, 16, 8, 4]⟩
abbrev S8x16x32 : Shape := ⟨3, ![8, 16, 32]⟩
abbrev S8x8x16x1 : Shape := ⟨4, ![8, 8, 16, 1]⟩
abbrev S8x8x16 : Shape := ⟨3, ![8, 8, 16]⟩
abbrev S8x16x8 : Shape := ⟨3, ![8, 16, 8]⟩
abbrev S8x2048x32x128 : Shape := ⟨4, ![8, 2048, 32, 128]⟩
abbrev S8x2048x8x128 : Shape := ⟨4, ![8, 2048, 8, 128]⟩

abbrev nBuf : Space → Nat
  | .hbm => 20
  | .vmem => 21
  | .smem => 0
  | _ => 0

abbrev bufTy : (tb : Table) → Fin (tcTables nBuf tb) → BufTy
  | .hbm, ⟨0, _⟩ => ⟨S8x2048x4096, .bf16⟩
  | .hbm, ⟨1, _⟩ => ⟨S8x2048x1024, .bf16⟩
  | .hbm, ⟨2, _⟩ => ⟨S8x2048x1024, .bf16⟩
  | .hbm, ⟨3, _⟩ => ⟨S8x2048x4096, .bf16⟩
  | .hbm, ⟨4, _⟩ => ⟨S8x2048x4096, .fp8e4m3⟩
  | .hbm, ⟨5, _⟩ => ⟨S8x2048x1024, .fp8e4m3⟩
  | .hbm, ⟨6, _⟩ => ⟨S8x2048x1024, .fp8e4m3⟩
  | .hbm, ⟨7, _⟩ => ⟨S8x8x16x128, .f32⟩
  | .hbm, ⟨8, _⟩ => ⟨S8x8x16x4, .f32⟩
  | .hbm, ⟨9, _⟩ => ⟨S8x16x8x4, .f32⟩
  | .hbm, ⟨10, _⟩ => ⟨S8x16x32, .f32⟩
  | .hbm, ⟨11, _⟩ => ⟨S8x8x16x1, .f32⟩
  | .hbm, ⟨12, _⟩ => ⟨S8x8x16, .f32⟩
  | .hbm, ⟨13, _⟩ => ⟨S8x16x8, .f32⟩
  | .hbm, ⟨14, _⟩ => ⟨S8x8x16x1, .f32⟩
  | .hbm, ⟨15, _⟩ => ⟨S8x8x16, .f32⟩
  | .hbm, ⟨16, _⟩ => ⟨S8x16x8, .f32⟩
  | .hbm, ⟨17, _⟩ => ⟨S8x2048x32x128, .fp8e4m3⟩
  | .hbm, ⟨18, _⟩ => ⟨S8x2048x8x128, .fp8e4m3⟩
  | .hbm, ⟨19, _⟩ => ⟨S8x2048x8x128, .fp8e4m3⟩
  | .local _ .vmem, ⟨0, _⟩ => ⟨S1x2048x512, .bf16⟩
  | .local _ .vmem, ⟨1, _⟩ => ⟨S1x2048x512, .bf16⟩
  | .local _ .vmem, ⟨2, _⟩ => ⟨S1x2048x128, .bf16⟩
  | .local _ .vmem, ⟨3, _⟩ => ⟨S1x2048x128, .bf16⟩
  | .local _ .vmem, ⟨4, _⟩ => ⟨S1x2048x128, .bf16⟩
  | .local _ .vmem, ⟨5, _⟩ => ⟨S1x2048x128, .bf16⟩
  | .local _ .vmem, ⟨6, _⟩ => ⟨S1x2048x512, .bf16⟩
  | .local _ .vmem, ⟨7, _⟩ => ⟨S1x2048x512, .bf16⟩
  | .local _ .vmem, ⟨8, _⟩ => ⟨S1x2048x512, .fp8e4m3⟩
  | .local _ .vmem, ⟨9, _⟩ => ⟨S1x2048x512, .fp8e4m3⟩
  | .local _ .vmem, ⟨10, _⟩ => ⟨S1x2048x128, .fp8e4m3⟩
  | .local _ .vmem, ⟨11, _⟩ => ⟨S1x2048x128, .fp8e4m3⟩
  | .local _ .vmem, ⟨12, _⟩ => ⟨S1x2048x128, .fp8e4m3⟩
  | .local _ .vmem, ⟨13, _⟩ => ⟨S1x2048x128, .fp8e4m3⟩
  | .local _ .vmem, ⟨14, _⟩ => ⟨S1x1x16x128, .f32⟩
  | .local _ .vmem, ⟨15, _⟩ => ⟨S1x1x16x128, .f32⟩
  | .local _ .vmem, ⟨16, _⟩ => ⟨S16x128x128, .fp8e4m3⟩
  | .local _ .vmem, ⟨17, _⟩ => ⟨S16x1x512, .f32⟩
  | .local _ .vmem, ⟨18, _⟩ => ⟨S16x1x512, .f32⟩
  | .local _ .vmem, ⟨19, _⟩ => ⟨S16x1x512, .f32⟩
  | .local _ .vmem, ⟨20, _⟩ => ⟨S128x512, .f32⟩
  | _, _ => ⟨S8x2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev main_v0_4 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_scratch4 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![8, 8], ![false, false]⟩

def k0_mult1 : BitVec 32 :=
  let c0_i32_2574 : BitVec 32 := 0#32
  c0_i32_2574
def k0_mult2 : BitVec 32 :=
  let c0_i32_2632 : BitVec 32 := 0#32
  let c128_i32 : BitVec 32 := 128#32
  let v6145 : BitVec 32 := Scalar.muli c0_i32_2632 c128_i32
  v6145
def k0_off1 : Fin 3 → Nat :=
  let c0_2633 : Index := 0#32
  let c0_i32_2632 : BitVec 32 := 0#32
  let c128_i32 : BitVec 32 := 128#32
  let v6145 : BitVec 32 := Scalar.muli c0_i32_2632 c128_i32
  let v6146 : BitVec 32 := v6145
  let v6147 : Index := Scalar.indexCast v6146
  let c0_2634 : Index := 0#32
  ![0, v6147.toNat, 0]
def k0_mult3 : BitVec 32 :=
  let c128_i32_2653 : BitVec 32 := 128#32
  c128_i32_2653
@[reducible] def k0_t1_loop : Scf.Loop 32 :=
  let c0_i32_2711 : BitVec 32 := 0#32
  let c2_i32_2712 : BitVec 32 := 2#32
  let v6281 : BitVec 32 := Scalar.addi c0_i32_2711 c2_i32_2712
  let c1_i32_2713 : BitVec 32 := 1#32
  ⟨c0_i32_2711, v6281, c1_i32_2713⟩
def k0_mult4 (k0_t1 : Fin k0_t1_loop.trips) : BitVec 32 :=
  let c0_i32_2711 : BitVec 32 := 0#32
  let c1_i32_2713 : BitVec 32 := 1#32
  let arg15 : BitVec 32 := Scf.iv c0_i32_2711 c1_i32_2713 k0_t1
  let c128_i32_3535 : BitVec 32 := 128#32
  let v7538 : BitVec 32 := Scalar.muli arg15 c128_i32_3535
  v7538
def k0_off2 (k0_t1 : Fin k0_t1_loop.trips) : Fin 3 → Nat :=
  let c0_3536 : Index := 0#32
  let c0_i32_2711 : BitVec 32 := 0#32
  let c1_i32_2713 : BitVec 32 := 1#32
  let arg15 : BitVec 32 := Scf.iv c0_i32_2711 c1_i32_2713 k0_t1
  let c128_i32_3535 : BitVec 32 := 128#32
  let v7538 : BitVec 32 := Scalar.muli arg15 c128_i32_3535
  let v7539 : BitVec 32 := v7538
  let v7540 : Index := Scalar.indexCast v7539
  let c0_3537 : Index := 0#32
  ![0, v7540.toNat, 0]
def k0_off3 (k0_t1 : Fin k0_t1_loop.trips) : Fin 3 → Nat :=
  let c0_i32_2711 : BitVec 32 := 0#32
  let c1_i32_2713 : BitVec 32 := 1#32
  let arg15 : BitVec 32 := Scf.iv c0_i32_2711 c1_i32_2713 k0_t1
  let v7544 : Index := Scalar.indexCast arg15
  let c0_3539 : Index := 0#32
  let c0_3540 : Index := 0#32
  ![v7544.toNat, 0, 0]
def k0_off4 (k0_t1 : Fin k0_t1_loop.trips) : Fin 3 → Nat :=
  let c0_i32_2711 : BitVec 32 := 0#32
  let c1_i32_2713 : BitVec 32 := 1#32
  let arg15 : BitVec 32 := Scf.iv c0_i32_2711 c1_i32_2713 k0_t1
  let v7569 : Index := Scalar.indexCast arg15
  let c0_3546 : Index := 0#32
  let c0_3547 : Index := 0#32
  ![v7569.toNat, 0, 0]
def k0_mult5 : BitVec 32 :=
  let c256_i32 : BitVec 32 := 256#32
  c256_i32
@[reducible] def k0_t2_loop : Scf.Loop 32 :=
  let c0_i32_2772 : BitVec 32 := 0#32
  let c3_i32_2773 : BitVec 32 := 3#32
  let v6372 : BitVec 32 := Scalar.addi c0_i32_2772 c3_i32_2773
  let c1_i32_2774 : BitVec 32 := 1#32
  ⟨c0_i32_2772, v6372, c1_i32_2774⟩
def k0_mult6 (k0_t2 : Fin k0_t2_loop.trips) : BitVec 32 :=
  let c0_i32_2772 : BitVec 32 := 0#32
  let c1_i32_2774 : BitVec 32 := 1#32
  let arg15 : BitVec 32 := Scf.iv c0_i32_2772 c1_i32_2774 k0_t2
  let c128_i32_3535 : BitVec 32 := 128#32
  let v7538 : BitVec 32 := Scalar.muli arg15 c128_i32_3535
  v7538
def k0_off5 (k0_t2 : Fin k0_t2_loop.trips) : Fin 3 → Nat :=
  let c0_3536 : Index := 0#32
  let c0_i32_2772 : BitVec 32 := 0#32
  let c1_i32_2774 : BitVec 32 := 1#32
  let arg15 : BitVec 32 := Scf.iv c0_i32_2772 c1_i32_2774 k0_t2
  let c128_i32_3535 : BitVec 32 := 128#32
  let v7538 : BitVec 32 := Scalar.muli arg15 c128_i32_3535
  let v7539 : BitVec 32 := v7538
  let v7540 : Index := Scalar.indexCast v7539
  let c0_3537 : Index := 0#32
  ![0, v7540.toNat, 0]
def k0_off6 (k0_t2 : Fin k0_t2_loop.trips) : Fin 3 → Nat :=
  let c0_i32_2772 : BitVec 32 := 0#32
  let c1_i32_2774 : BitVec 32 := 1#32
  let arg15 : BitVec 32 := Scf.iv c0_i32_2772 c1_i32_2774 k0_t2
  let v7544 : Index := Scalar.indexCast arg15
  let c0_3539 : Index := 0#32
  let c0_3540 : Index := 0#32
  ![v7544.toNat, 0, 0]
def k0_off7 (k0_t2 : Fin k0_t2_loop.trips) : Fin 3 → Nat :=
  let c0_i32_2772 : BitVec 32 := 0#32
  let c1_i32_2774 : BitVec 32 := 1#32
  let arg15 : BitVec 32 := Scf.iv c0_i32_2772 c1_i32_2774 k0_t2
  let v7569 : Index := Scalar.indexCast arg15
  let c0_3546 : Index := 0#32
  let c0_3547 : Index := 0#32
  ![v7569.toNat, 0, 0]
def k0_mult7 : BitVec 32 :=
  let c384_i32 : BitVec 32 := 384#32
  c384_i32
@[reducible] def k0_t3_loop : Scf.Loop 32 :=
  let c0_i32_2833 : BitVec 32 := 0#32
  let c4_i32_2834 : BitVec 32 := 4#32
  let v6463 : BitVec 32 := Scalar.addi c0_i32_2833 c4_i32_2834
  let c1_i32_2835 : BitVec 32 := 1#32
  ⟨c0_i32_2833, v6463, c1_i32_2835⟩
def k0_mult8 (k0_t3 : Fin k0_t3_loop.trips) : BitVec 32 :=
  let c0_i32_2833 : BitVec 32 := 0#32
  let c1_i32_2835 : BitVec 32 := 1#32
  let arg15 : BitVec 32 := Scf.iv c0_i32_2833 c1_i32_2835 k0_t3
  let c128_i32_3535 : BitVec 32 := 128#32
  let v7538 : BitVec 32 := Scalar.muli arg15 c128_i32_3535
  v7538
def k0_off8 (k0_t3 : Fin k0_t3_loop.trips) : Fin 3 → Nat :=
  let c0_3536 : Index := 0#32
  let c0_i32_2833 : BitVec 32 := 0#32
  let c1_i32_2835 : BitVec 32 := 1#32
  let arg15 : BitVec 32 := Scf.iv c0_i32_2833 c1_i32_2835 k0_t3
  let c128_i32_3535 : BitVec 32 := 128#32
  let v7538 : BitVec 32 := Scalar.muli arg15 c128_i32_3535
  let v7539 : BitVec 32 := v7538
  let v7540 : Index := Scalar.indexCast v7539
  let c0_3537 : Index := 0#32
  ![0, v7540.toNat, 0]
def k0_off9 (k0_t3 : Fin k0_t3_loop.trips) : Fin 3 → Nat :=
  let c0_i32_2833 : BitVec 32 := 0#32
  let c1_i32_2835 : BitVec 32 := 1#32
  let arg15 : BitVec 32 := Scf.iv c0_i32_2833 c1_i32_2835 k0_t3
  let v7544 : Index := Scalar.indexCast arg15
  let c0_3539 : Index := 0#32
  let c0_3540 : Index := 0#32
  ![v7544.toNat, 0, 0]
def k0_off10 (k0_t3 : Fin k0_t3_loop.trips) : Fin 3 → Nat :=
  let c0_i32_2833 : BitVec 32 := 0#32
  let c1_i32_2835 : BitVec 32 := 1#32
  let arg15 : BitVec 32 := Scf.iv c0_i32_2833 c1_i32_2835 k0_t3
  let v7569 : Index := Scalar.indexCast arg15
  let c0_3546 : Index := 0#32
  let c0_3547 : Index := 0#32
  ![v7569.toNat, 0, 0]
def k0_mult9 : BitVec 32 :=
  let c512_i32 : BitVec 32 := 512#32
  c512_i32
@[reducible] def k0_t4_loop : Scf.Loop 32 :=
  let c0_i32_2894 : BitVec 32 := 0#32
  let c5_i32_2895 : BitVec 32 := 5#32
  let v6554 : BitVec 32 := Scalar.addi c0_i32_2894 c5_i32_2895
  let c1_i32_2896 : BitVec 32 := 1#32
  ⟨c0_i32_2894, v6554, c1_i32_2896⟩
def k0_mult10 (k0_t4 : Fin k0_t4_loop.trips) : BitVec 32 :=
  let c0_i32_2894 : BitVec 32 := 0#32
  let c1_i32_2896 : BitVec 32 := 1#32
  let arg15 : BitVec 32 := Scf.iv c0_i32_2894 c1_i32_2896 k0_t4
  let c128_i32_3535 : BitVec 32 := 128#32
  let v7538 : BitVec 32 := Scalar.muli arg15 c128_i32_3535
  v7538
def k0_off11 (k0_t4 : Fin k0_t4_loop.trips) : Fin 3 → Nat :=
  let c0_3536 : Index := 0#32
  let c0_i32_2894 : BitVec 32 := 0#32
  let c1_i32_2896 : BitVec 32 := 1#32
  let arg15 : BitVec 32 := Scf.iv c0_i32_2894 c1_i32_2896 k0_t4
  let c128_i32_3535 : BitVec 32 := 128#32
  let v7538 : BitVec 32 := Scalar.muli arg15 c128_i32_3535
  let v7539 : BitVec 32 := v7538
  let v7540 : Index := Scalar.indexCast v7539
  let c0_3537 : Index := 0#32
  ![0, v7540.toNat, 0]
def k0_off12 (k0_t4 : Fin k0_t4_loop.trips) : Fin 3 → Nat :=
  let c0_i32_2894 : BitVec 32 := 0#32
  let c1_i32_2896 : BitVec 32 := 1#32
  let arg15 : BitVec 32 := Scf.iv c0_i32_2894 c1_i32_2896 k0_t4
  let v7544 : Index := Scalar.indexCast arg15
  let c0_3539 : Index := 0#32
  let c0_3540 : Index := 0#32
  ![v7544.toNat, 0, 0]
def k0_off13 (k0_t4 : Fin k0_t4_loop.trips) : Fin 3 → Nat :=
  let c0_i32_2894 : BitVec 32 := 0#32
  let c1_i32_2896 : BitVec 32 := 1#32
  let arg15 : BitVec 32 := Scf.iv c0_i32_2894 c1_i32_2896 k0_t4
  let v7569 : Index := Scalar.indexCast arg15
  let c0_3546 : Index := 0#32
  let c0_3547 : Index := 0#32
  ![v7569.toNat, 0, 0]
def k0_mult11 : BitVec 32 :=
  let c640_i32 : BitVec 32 := 640#32
  c640_i32
@[reducible] def k0_t5_loop : Scf.Loop 32 :=
  let c0_i32_2955 : BitVec 32 := 0#32
  let c6_i32 : BitVec 32 := 6#32
  let v6645 : BitVec 32 := Scalar.addi c0_i32_2955 c6_i32
  let c1_i32_2956 : BitVec 32 := 1#32
  ⟨c0_i32_2955, v6645, c1_i32_2956⟩
def k0_mult12 (k0_t5 : Fin k0_t5_loop.trips) : BitVec 32 :=
  let c0_i32_2955 : BitVec 32 := 0#32
  let c1_i32_2956 : BitVec 32 := 1#32
  let arg15 : BitVec 32 := Scf.iv c0_i32_2955 c1_i32_2956 k0_t5
  let c128_i32_3535 : BitVec 32 := 128#32
  let v7538 : BitVec 32 := Scalar.muli arg15 c128_i32_3535
  v7538
def k0_off14 (k0_t5 : Fin k0_t5_loop.trips) : Fin 3 → Nat :=
  let c0_3536 : Index := 0#32
  let c0_i32_2955 : BitVec 32 := 0#32
  let c1_i32_2956 : BitVec 32 := 1#32
  let arg15 : BitVec 32 := Scf.iv c0_i32_2955 c1_i32_2956 k0_t5
  let c128_i32_3535 : BitVec 32 := 128#32
  let v7538 : BitVec 32 := Scalar.muli arg15 c128_i32_3535
  let v7539 : BitVec 32 := v7538
  let v7540 : Index := Scalar.indexCast v7539
  let c0_3537 : Index := 0#32
  ![0, v7540.toNat, 0]
def k0_off15 (k0_t5 : Fin k0_t5_loop.trips) : Fin 3 → Nat :=
  let c0_i32_2955 : BitVec 32 := 0#32
  let c1_i32_2956 : BitVec 32 := 1#32
  let arg15 : BitVec 32 := Scf.iv c0_i32_2955 c1_i32_2956 k0_t5
  let v7544 : Index := Scalar.indexCast arg15
  let c0_3539 : Index := 0#32
  let c0_3540 : Index := 0#32
  ![v7544.toNat, 0, 0]
def k0_off16 (k0_t5 : Fin k0_t5_loop.trips) : Fin 3 → Nat :=
  let c0_i32_2955 : BitVec 32 := 0#32
  let c1_i32_2956 : BitVec 32 := 1#32
  let arg15 : BitVec 32 := Scf.iv c0_i32_2955 c1_i32_2956 k0_t5
  let v7569 : Index := Scalar.indexCast arg15
  let c0_3546 : Index := 0#32
  let c0_3547 : Index := 0#32
  ![v7569.toNat, 0, 0]
def k0_mult13 : BitVec 32 :=
  let c768_i32 : BitVec 32 := 768#32
  c768_i32
@[reducible] def k0_t6_loop : Scf.Loop 32 :=
  let c0_i32_3015 : BitVec 32 := 0#32
  let c7_i32 : BitVec 32 := 7#32
  let v6736 : BitVec 32 := Scalar.addi c0_i32_3015 c7_i32
  let c1_i32_3016 : BitVec 32 := 1#32
  ⟨c0_i32_3015, v6736, c1_i32_3016⟩
def k0_mult14 (k0_t6 : Fin k0_t6_loop.trips) : BitVec 32 :=
  let c0_i32_3015 : BitVec 32 := 0#32
  let c1_i32_3016 : BitVec 32 := 1#32
  let arg15 : BitVec 32 := Scf.iv c0_i32_3015 c1_i32_3016 k0_t6
  let c128_i32_3535 : BitVec 32 := 128#32
  let v7538 : BitVec 32 := Scalar.muli arg15 c128_i32_3535
  v7538
def k0_off17 (k0_t6 : Fin k0_t6_loop.trips) : Fin 3 → Nat :=
  let c0_3536 : Index := 0#32
  let c0_i32_3015 : BitVec 32 := 0#32
  let c1_i32_3016 : BitVec 32 := 1#32
  let arg15 : BitVec 32 := Scf.iv c0_i32_3015 c1_i32_3016 k0_t6
  let c128_i32_3535 : BitVec 32 := 128#32
  let v7538 : BitVec 32 := Scalar.muli arg15 c128_i32_3535
  let v7539 : BitVec 32 := v7538
  let v7540 : Index := Scalar.indexCast v7539
  let c0_3537 : Index := 0#32
  ![0, v7540.toNat, 0]
def k0_off18 (k0_t6 : Fin k0_t6_loop.trips) : Fin 3 → Nat :=
  let c0_i32_3015 : BitVec 32 := 0#32
  let c1_i32_3016 : BitVec 32 := 1#32
  let arg15 : BitVec 32 := Scf.iv c0_i32_3015 c1_i32_3016 k0_t6
  let v7544 : Index := Scalar.indexCast arg15
  let c0_3539 : Index := 0#32
  let c0_3540 : Index := 0#32
  ![v7544.toNat, 0, 0]
def k0_off19 (k0_t6 : Fin k0_t6_loop.trips) : Fin 3 → Nat :=
  let c0_i32_3015 : BitVec 32 := 0#32
  let c1_i32_3016 : BitVec 32 := 1#32
  let arg15 : BitVec 32 := Scf.iv c0_i32_3015 c1_i32_3016 k0_t6
  let v7569 : Index := Scalar.indexCast arg15
  let c0_3546 : Index := 0#32
  let c0_3547 : Index := 0#32
  ![v7569.toNat, 0, 0]
def k0_mult15 : BitVec 32 :=
  let c896_i32 : BitVec 32 := 896#32
  c896_i32
@[reducible] def k0_t7_loop : Scf.Loop 32 :=
  let c0_i32_3075 : BitVec 32 := 0#32
  let c8_i32 : BitVec 32 := 8#32
  let v6827 : BitVec 32 := Scalar.addi c0_i32_3075 c8_i32
  let c1_i32_3076 : BitVec 32 := 1#32
  ⟨c0_i32_3075, v6827, c1_i32_3076⟩
def k0_mult16 (k0_t7 : Fin k0_t7_loop.trips) : BitVec 32 :=
  let c0_i32_3075 : BitVec 32 := 0#32
  let c1_i32_3076 : BitVec 32 := 1#32
  let arg15 : BitVec 32 := Scf.iv c0_i32_3075 c1_i32_3076 k0_t7
  let c128_i32_3535 : BitVec 32 := 128#32
  let v7538 : BitVec 32 := Scalar.muli arg15 c128_i32_3535
  v7538
def k0_off20 (k0_t7 : Fin k0_t7_loop.trips) : Fin 3 → Nat :=
  let c0_3536 : Index := 0#32
  let c0_i32_3075 : BitVec 32 := 0#32
  let c1_i32_3076 : BitVec 32 := 1#32
  let arg15 : BitVec 32 := Scf.iv c0_i32_3075 c1_i32_3076 k0_t7
  let c128_i32_3535 : BitVec 32 := 128#32
  let v7538 : BitVec 32 := Scalar.muli arg15 c128_i32_3535
  let v7539 : BitVec 32 := v7538
  let v7540 : Index := Scalar.indexCast v7539
  let c0_3537 : Index := 0#32
  ![0, v7540.toNat, 0]
def k0_off21 (k0_t7 : Fin k0_t7_loop.trips) : Fin 3 → Nat :=
  let c0_i32_3075 : BitVec 32 := 0#32
  let c1_i32_3076 : BitVec 32 := 1#32
  let arg15 : BitVec 32 := Scf.iv c0_i32_3075 c1_i32_3076 k0_t7
  let v7544 : Index := Scalar.indexCast arg15
  let c0_3539 : Index := 0#32
  let c0_3540 : Index := 0#32
  ![v7544.toNat, 0, 0]
def k0_off22 (k0_t7 : Fin k0_t7_loop.trips) : Fin 3 → Nat :=
  let c0_i32_3075 : BitVec 32 := 0#32
  let c1_i32_3076 : BitVec 32 := 1#32
  let arg15 : BitVec 32 := Scf.iv c0_i32_3075 c1_i32_3076 k0_t7
  let v7569 : Index := Scalar.indexCast arg15
  let c0_3546 : Index := 0#32
  let c0_3547 : Index := 0#32
  ![v7569.toNat, 0, 0]
def k0_mult17 : BitVec 32 :=
  let c1024_i32 : BitVec 32 := 1024#32
  c1024_i32
@[reducible] def k0_t8_loop : Scf.Loop 32 :=
  let c0_i32_3135 : BitVec 32 := 0#32
  let c9_i32 : BitVec 32 := 9#32
  let v6918 : BitVec 32 := Scalar.addi c0_i32_3135 c9_i32
  let c1_i32_3136 : BitVec 32 := 1#32
  ⟨c0_i32_3135, v6918, c1_i32_3136⟩
def k0_mult18 (k0_t8 : Fin k0_t8_loop.trips) : BitVec 32 :=
  let c0_i32_3135 : BitVec 32 := 0#32
  let c1_i32_3136 : BitVec 32 := 1#32
  let arg15 : BitVec 32 := Scf.iv c0_i32_3135 c1_i32_3136 k0_t8
  let c128_i32_3535 : BitVec 32 := 128#32
  let v7538 : BitVec 32 := Scalar.muli arg15 c128_i32_3535
  v7538
def k0_off23 (k0_t8 : Fin k0_t8_loop.trips) : Fin 3 → Nat :=
  let c0_3536 : Index := 0#32
  let c0_i32_3135 : BitVec 32 := 0#32
  let c1_i32_3136 : BitVec 32 := 1#32
  let arg15 : BitVec 32 := Scf.iv c0_i32_3135 c1_i32_3136 k0_t8
  let c128_i32_3535 : BitVec 32 := 128#32
  let v7538 : BitVec 32 := Scalar.muli arg15 c128_i32_3535
  let v7539 : BitVec 32 := v7538
  let v7540 : Index := Scalar.indexCast v7539
  let c0_3537 : Index := 0#32
  ![0, v7540.toNat, 0]
def k0_off24 (k0_t8 : Fin k0_t8_loop.trips) : Fin 3 → Nat :=
  let c0_i32_3135 : BitVec 32 := 0#32
  let c1_i32_3136 : BitVec 32 := 1#32
  let arg15 : BitVec 32 := Scf.iv c0_i32_3135 c1_i32_3136 k0_t8
  let v7544 : Index := Scalar.indexCast arg15
  let c0_3539 : Index := 0#32
  let c0_3540 : Index := 0#32
  ![v7544.toNat, 0, 0]
def k0_off25 (k0_t8 : Fin k0_t8_loop.trips) : Fin 3 → Nat :=
  let c0_i32_3135 : BitVec 32 := 0#32
  let c1_i32_3136 : BitVec 32 := 1#32
  let arg15 : BitVec 32 := Scf.iv c0_i32_3135 c1_i32_3136 k0_t8
  let v7569 : Index := Scalar.indexCast arg15
  let c0_3546 : Index := 0#32
  let c0_3547 : Index := 0#32
  ![v7569.toNat, 0, 0]
def k0_mult19 : BitVec 32 :=
  let c1152_i32 : BitVec 32 := 1152#32
  c1152_i32
@[reducible] def k0_t9_loop : Scf.Loop 32 :=
  let c0_i32_3195 : BitVec 32 := 0#32
  let c10_i32 : BitVec 32 := 10#32
  let v7009 : BitVec 32 := Scalar.addi c0_i32_3195 c10_i32
  let c1_i32_3196 : BitVec 32 := 1#32
  ⟨c0_i32_3195, v7009, c1_i32_3196⟩
def k0_mult20 (k0_t9 : Fin k0_t9_loop.trips) : BitVec 32 :=
  let c0_i32_3195 : BitVec 32 := 0#32
  let c1_i32_3196 : BitVec 32 := 1#32
  let arg15 : BitVec 32 := Scf.iv c0_i32_3195 c1_i32_3196 k0_t9
  let c128_i32_3535 : BitVec 32 := 128#32
  let v7538 : BitVec 32 := Scalar.muli arg15 c128_i32_3535
  v7538
def k0_off26 (k0_t9 : Fin k0_t9_loop.trips) : Fin 3 → Nat :=
  let c0_3536 : Index := 0#32
  let c0_i32_3195 : BitVec 32 := 0#32
  let c1_i32_3196 : BitVec 32 := 1#32
  let arg15 : BitVec 32 := Scf.iv c0_i32_3195 c1_i32_3196 k0_t9
  let c128_i32_3535 : BitVec 32 := 128#32
  let v7538 : BitVec 32 := Scalar.muli arg15 c128_i32_3535
  let v7539 : BitVec 32 := v7538
  let v7540 : Index := Scalar.indexCast v7539
  let c0_3537 : Index := 0#32
  ![0, v7540.toNat, 0]
def k0_off27 (k0_t9 : Fin k0_t9_loop.trips) : Fin 3 → Nat :=
  let c0_i32_3195 : BitVec 32 := 0#32
  let c1_i32_3196 : BitVec 32 := 1#32
  let arg15 : BitVec 32 := Scf.iv c0_i32_3195 c1_i32_3196 k0_t9
  let v7544 : Index := Scalar.indexCast arg15
  let c0_3539 : Index := 0#32
  let c0_3540 : Index := 0#32
  ![v7544.toNat, 0, 0]
def k0_off28 (k0_t9 : Fin k0_t9_loop.trips) : Fin 3 → Nat :=
  let c0_i32_3195 : BitVec 32 := 0#32
  let c1_i32_3196 : BitVec 32 := 1#32
  let arg15 : BitVec 32 := Scf.iv c0_i32_3195 c1_i32_3196 k0_t9
  let v7569 : Index := Scalar.indexCast arg15
  let c0_3546 : Index := 0#32
  let c0_3547 : Index := 0#32
  ![v7569.toNat, 0, 0]
def k0_mult21 : BitVec 32 :=
  let c1280_i32 : BitVec 32 := 1280#32
  c1280_i32
@[reducible] def k0_t10_loop : Scf.Loop 32 :=
  let c0_i32_3255 : BitVec 32 := 0#32
  let c11_i32 : BitVec 32 := 11#32
  let v7100 : BitVec 32 := Scalar.addi c0_i32_3255 c11_i32
  let c1_i32_3256 : BitVec 32 := 1#32
  ⟨c0_i32_3255, v7100, c1_i32_3256⟩
def k0_mult22 (k0_t10 : Fin k0_t10_loop.trips) : BitVec 32 :=
  let c0_i32_3255 : BitVec 32 := 0#32
  let c1_i32_3256 : BitVec 32 := 1#32
  let arg15 : BitVec 32 := Scf.iv c0_i32_3255 c1_i32_3256 k0_t10
  let c128_i32_3535 : BitVec 32 := 128#32
  let v7538 : BitVec 32 := Scalar.muli arg15 c128_i32_3535
  v7538
def k0_off29 (k0_t10 : Fin k0_t10_loop.trips) : Fin 3 → Nat :=
  let c0_3536 : Index := 0#32
  let c0_i32_3255 : BitVec 32 := 0#32
  let c1_i32_3256 : BitVec 32 := 1#32
  let arg15 : BitVec 32 := Scf.iv c0_i32_3255 c1_i32_3256 k0_t10
  let c128_i32_3535 : BitVec 32 := 128#32
  let v7538 : BitVec 32 := Scalar.muli arg15 c128_i32_3535
  let v7539 : BitVec 32 := v7538
  let v7540 : Index := Scalar.indexCast v7539
  let c0_3537 : Index := 0#32
  ![0, v7540.toNat, 0]
def k0_off30 (k0_t10 : Fin k0_t10_loop.trips) : Fin 3 → Nat :=
  let c0_i32_3255 : BitVec 32 := 0#32
  let c1_i32_3256 : BitVec 32 := 1#32
  let arg15 : BitVec 32 := Scf.iv c0_i32_3255 c1_i32_3256 k0_t10
  let v7544 : Index := Scalar.indexCast arg15
  let c0_3539 : Index := 0#32
  let c0_3540 : Index := 0#32
  ![v7544.toNat, 0, 0]
def k0_off31 (k0_t10 : Fin k0_t10_loop.trips) : Fin 3 → Nat :=
  let c0_i32_3255 : BitVec 32 := 0#32
  let c1_i32_3256 : BitVec 32 := 1#32
  let arg15 : BitVec 32 := Scf.iv c0_i32_3255 c1_i32_3256 k0_t10
  let v7569 : Index := Scalar.indexCast arg15
  let c0_3546 : Index := 0#32
  let c0_3547 : Index := 0#32
  ![v7569.toNat, 0, 0]
def k0_mult23 : BitVec 32 :=
  let c1408_i32 : BitVec 32 := 1408#32
  c1408_i32
@[reducible] def k0_t11_loop : Scf.Loop 32 :=
  let c0_i32_3315 : BitVec 32 := 0#32
  let c12_i32 : BitVec 32 := 12#32
  let v7191 : BitVec 32 := Scalar.addi c0_i32_3315 c12_i32
  let c1_i32_3316 : BitVec 32 := 1#32
  ⟨c0_i32_3315, v7191, c1_i32_3316⟩
def k0_mult24 (k0_t11 : Fin k0_t11_loop.trips) : BitVec 32 :=
  let c0_i32_3315 : BitVec 32 := 0#32
  let c1_i32_3316 : BitVec 32 := 1#32
  let arg15 : BitVec 32 := Scf.iv c0_i32_3315 c1_i32_3316 k0_t11
  let c128_i32_3535 : BitVec 32 := 128#32
  let v7538 : BitVec 32 := Scalar.muli arg15 c128_i32_3535
  v7538
def k0_off32 (k0_t11 : Fin k0_t11_loop.trips) : Fin 3 → Nat :=
  let c0_3536 : Index := 0#32
  let c0_i32_3315 : BitVec 32 := 0#32
  let c1_i32_3316 : BitVec 32 := 1#32
  let arg15 : BitVec 32 := Scf.iv c0_i32_3315 c1_i32_3316 k0_t11
  let c128_i32_3535 : BitVec 32 := 128#32
  let v7538 : BitVec 32 := Scalar.muli arg15 c128_i32_3535
  let v7539 : BitVec 32 := v7538
  let v7540 : Index := Scalar.indexCast v7539
  let c0_3537 : Index := 0#32
  ![0, v7540.toNat, 0]
def k0_off33 (k0_t11 : Fin k0_t11_loop.trips) : Fin 3 → Nat :=
  let c0_i32_3315 : BitVec 32 := 0#32
  let c1_i32_3316 : BitVec 32 := 1#32
  let arg15 : BitVec 32 := Scf.iv c0_i32_3315 c1_i32_3316 k0_t11
  let v7544 : Index := Scalar.indexCast arg15
  let c0_3539 : Index := 0#32
  let c0_3540 : Index := 0#32
  ![v7544.toNat, 0, 0]
def k0_off34 (k0_t11 : Fin k0_t11_loop.trips) : Fin 3 → Nat :=
  let c0_i32_3315 : BitVec 32 := 0#32
  let c1_i32_3316 : BitVec 32 := 1#32
  let arg15 : BitVec 32 := Scf.iv c0_i32_3315 c1_i32_3316 k0_t11
  let v7569 : Index := Scalar.indexCast arg15
  let c0_3546 : Index := 0#32
  let c0_3547 : Index := 0#32
  ![v7569.toNat, 0, 0]
def k0_mult25 : BitVec 32 :=
  let c1536_i32 : BitVec 32 := 1536#32
  c1536_i32
@[reducible] def k0_t12_loop : Scf.Loop 32 :=
  let c0_i32_3375 : BitVec 32 := 0#32
  let c13_i32 : BitVec 32 := 13#32
  let v7282 : BitVec 32 := Scalar.addi c0_i32_3375 c13_i32
  let c1_i32_3376 : BitVec 32 := 1#32
  ⟨c0_i32_3375, v7282, c1_i32_3376⟩
def k0_mult26 (k0_t12 : Fin k0_t12_loop.trips) : BitVec 32 :=
  let c0_i32_3375 : BitVec 32 := 0#32
  let c1_i32_3376 : BitVec 32 := 1#32
  let arg15 : BitVec 32 := Scf.iv c0_i32_3375 c1_i32_3376 k0_t12
  let c128_i32_3535 : BitVec 32 := 128#32
  let v7538 : BitVec 32 := Scalar.muli arg15 c128_i32_3535
  v7538
def k0_off35 (k0_t12 : Fin k0_t12_loop.trips) : Fin 3 → Nat :=
  let c0_3536 : Index := 0#32
  let c0_i32_3375 : BitVec 32 := 0#32
  let c1_i32_3376 : BitVec 32 := 1#32
  let arg15 : BitVec 32 := Scf.iv c0_i32_3375 c1_i32_3376 k0_t12
  let c128_i32_3535 : BitVec 32 := 128#32
  let v7538 : BitVec 32 := Scalar.muli arg15 c128_i32_3535
  let v7539 : BitVec 32 := v7538
  let v7540 : Index := Scalar.indexCast v7539
  let c0_3537 : Index := 0#32
  ![0, v7540.toNat, 0]
def k0_off36 (k0_t12 : Fin k0_t12_loop.trips) : Fin 3 → Nat :=
  let c0_i32_3375 : BitVec 32 := 0#32
  let c1_i32_3376 : BitVec 32 := 1#32
  let arg15 : BitVec 32 := Scf.iv c0_i32_3375 c1_i32_3376 k0_t12
  let v7544 : Index := Scalar.indexCast arg15
  let c0_3539 : Index := 0#32
  let c0_3540 : Index := 0#32
  ![v7544.toNat, 0, 0]
def k0_off37 (k0_t12 : Fin k0_t12_loop.trips) : Fin 3 → Nat :=
  let c0_i32_3375 : BitVec 32 := 0#32
  let c1_i32_3376 : BitVec 32 := 1#32
  let arg15 : BitVec 32 := Scf.iv c0_i32_3375 c1_i32_3376 k0_t12
  let v7569 : Index := Scalar.indexCast arg15
  let c0_3546 : Index := 0#32
  let c0_3547 : Index := 0#32
  ![v7569.toNat, 0, 0]
def k0_mult27 : BitVec 32 :=
  let c1664_i32 : BitVec 32 := 1664#32
  c1664_i32
@[reducible] def k0_t13_loop : Scf.Loop 32 :=
  let c0_i32_3435 : BitVec 32 := 0#32
  let c14_i32 : BitVec 32 := 14#32
  let v7373 : BitVec 32 := Scalar.addi c0_i32_3435 c14_i32
  let c1_i32_3436 : BitVec 32 := 1#32
  ⟨c0_i32_3435, v7373, c1_i32_3436⟩
def k0_mult28 (k0_t13 : Fin k0_t13_loop.trips) : BitVec 32 :=
  let c0_i32_3435 : BitVec 32 := 0#32
  let c1_i32_3436 : BitVec 32 := 1#32
  let arg15 : BitVec 32 := Scf.iv c0_i32_3435 c1_i32_3436 k0_t13
  let c128_i32_3535 : BitVec 32 := 128#32
  let v7538 : BitVec 32 := Scalar.muli arg15 c128_i32_3535
  v7538
def k0_off38 (k0_t13 : Fin k0_t13_loop.trips) : Fin 3 → Nat :=
  let c0_3536 : Index := 0#32
  let c0_i32_3435 : BitVec 32 := 0#32
  let c1_i32_3436 : BitVec 32 := 1#32
  let arg15 : BitVec 32 := Scf.iv c0_i32_3435 c1_i32_3436 k0_t13
  let c128_i32_3535 : BitVec 32 := 128#32
  let v7538 : BitVec 32 := Scalar.muli arg15 c128_i32_3535
  let v7539 : BitVec 32 := v7538
  let v7540 : Index := Scalar.indexCast v7539
  let c0_3537 : Index := 0#32
  ![0, v7540.toNat, 0]
def k0_off39 (k0_t13 : Fin k0_t13_loop.trips) : Fin 3 → Nat :=
  let c0_i32_3435 : BitVec 32 := 0#32
  let c1_i32_3436 : BitVec 32 := 1#32
  let arg15 : BitVec 32 := Scf.iv c0_i32_3435 c1_i32_3436 k0_t13
  let v7544 : Index := Scalar.indexCast arg15
  let c0_3539 : Index := 0#32
  let c0_3540 : Index := 0#32
  ![v7544.toNat, 0, 0]
def k0_off40 (k0_t13 : Fin k0_t13_loop.trips) : Fin 3 → Nat :=
  let c0_i32_3435 : BitVec 32 := 0#32
  let c1_i32_3436 : BitVec 32 := 1#32
  let arg15 : BitVec 32 := Scf.iv c0_i32_3435 c1_i32_3436 k0_t13
  let v7569 : Index := Scalar.indexCast arg15
  let c0_3546 : Index := 0#32
  let c0_3547 : Index := 0#32
  ![v7569.toNat, 0, 0]
def k0_mult29 : BitVec 32 :=
  let c1792_i32 : BitVec 32 := 1792#32
  c1792_i32
@[reducible] def k0_t14_loop : Scf.Loop 32 :=
  let c0_i32_3495 : BitVec 32 := 0#32
  let c15_i32 : BitVec 32 := 15#32
  let v7464 : BitVec 32 := Scalar.addi c0_i32_3495 c15_i32
  let c1_i32_3496 : BitVec 32 := 1#32
  ⟨c0_i32_3495, v7464, c1_i32_3496⟩
def k0_mult30 (k0_t14 : Fin k0_t14_loop.trips) : BitVec 32 :=
  let c0_i32_3495 : BitVec 32 := 0#32
  let c1_i32_3496 : BitVec 32 := 1#32
  let arg15 : BitVec 32 := Scf.iv c0_i32_3495 c1_i32_3496 k0_t14
  let c128_i32_3535 : BitVec 32 := 128#32
  let v7538 : BitVec 32 := Scalar.muli arg15 c128_i32_3535
  v7538
def k0_off41 (k0_t14 : Fin k0_t14_loop.trips) : Fin 3 → Nat :=
  let c0_3536 : Index := 0#32
  let c0_i32_3495 : BitVec 32 := 0#32
  let c1_i32_3496 : BitVec 32 := 1#32
  let arg15 : BitVec 32 := Scf.iv c0_i32_3495 c1_i32_3496 k0_t14
  let c128_i32_3535 : BitVec 32 := 128#32
  let v7538 : BitVec 32 := Scalar.muli arg15 c128_i32_3535
  let v7539 : BitVec 32 := v7538
  let v7540 : Index := Scalar.indexCast v7539
  let c0_3537 : Index := 0#32
  ![0, v7540.toNat, 0]
def k0_off42 (k0_t14 : Fin k0_t14_loop.trips) : Fin 3 → Nat :=
  let c0_i32_3495 : BitVec 32 := 0#32
  let c1_i32_3496 : BitVec 32 := 1#32
  let arg15 : BitVec 32 := Scf.iv c0_i32_3495 c1_i32_3496 k0_t14
  let v7544 : Index := Scalar.indexCast arg15
  let c0_3539 : Index := 0#32
  let c0_3540 : Index := 0#32
  ![v7544.toNat, 0, 0]
def k0_off43 (k0_t14 : Fin k0_t14_loop.trips) : Fin 3 → Nat :=
  let c0_i32_3495 : BitVec 32 := 0#32
  let c1_i32_3496 : BitVec 32 := 1#32
  let arg15 : BitVec 32 := Scf.iv c0_i32_3495 c1_i32_3496 k0_t14
  let v7569 : Index := Scalar.indexCast arg15
  let c0_3546 : Index := 0#32
  let c0_3547 : Index := 0#32
  ![v7569.toNat, 0, 0]
def k0_mult31 : BitVec 32 :=
  let c1920_i32 : BitVec 32 := 1920#32
  c1920_i32
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2048x512 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x2048x128 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x2048x128 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x16x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== KernelIdeal.lean ====
variable {F : FTy → Type} [FloatOps F] [Named F]
def κ : String → Option EReal := fun
  | "log2e_inv_sqrt_d" => some (((Real.log 2)⁻¹ * (Real.sqrt 128)⁻¹ : ℝ) : EReal)
  | _ => none
-- ==== ReferenceIdeal.lean ====
abbrev S8x2048x4096 : Shape := ⟨3, ![8, 2048, 4096]⟩
abbrev S8x2048x1024 : Shape := ⟨3, ![8, 2048, 1024]⟩
abbrev S8x16x128x32x128 : Shape := ⟨5, ![8, 16, 128, 32, 128]⟩
abbrev S_ : Shape := ⟨0, ![]⟩
abbrev S8x16x32 : Shape := ⟨3, ![8, 16, 32]⟩
abbrev S8x16x1x32x1 : Shape := ⟨5, ![8, 16, 1, 32, 1]⟩
abbrev S8x16x128x8x128 : Shape := ⟨5, ![8, 16, 128, 8, 128]⟩
abbrev S8x16x8 : Shape := ⟨3, ![8, 16, 8]⟩
abbrev S8x16x1x8x1 : Shape := ⟨5, ![8, 16, 1, 8, 1]⟩
abbrev S8x2048x32x128 : Shape := ⟨4, ![8, 2048, 32, 128]⟩
abbrev S8x2048x8x4x128 : Shape := ⟨5, ![8, 2048, 8, 4, 128]⟩
abbrev S8x2048x8x128 : Shape := ⟨4, ![8, 2048, 8, 128]⟩
abbrev S8x8x2048x2048x4 : Shape := ⟨5, ![8, 8, 2048, 2048, 4]⟩
abbrev S8x8x4x2048x2048 : Shape := ⟨5, ![8, 8, 4, 2048, 2048]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S8x8x4x2048 : Shape := ⟨4, ![8, 8, 4, 2048]⟩
abbrev S8x8x4x2048x1 : Shape := ⟨5, ![8, 8, 4, 2048, 1]⟩
abbrev S8x8x4x2048x128 : Shape := ⟨5, ![8, 8, 4, 2048, 128]⟩

abbrev nBuf : Space → Nat
  | .hbm => 218
  | .vmem => 0
  | .smem => 0
  | _ => 0

abbrev hbmTy0_0 (i : Nat) : BufTy := match i % 128 with
  | 0 => ⟨S8x2048x4096, .bf16⟩
  | 1 => ⟨S8x2048x1024, .bf16⟩
  | 2 => ⟨S8x2048x1024, .bf16⟩
  | 3 => ⟨S8x2048x4096, .f32⟩
  | 4 => ⟨S8x16x128x32x128, .f32⟩
  | 5 => ⟨S8x16x128x32x128, .f32⟩
  | 6 => ⟨S_, .f32⟩
  | 7 => ⟨S8x16x32, .f32⟩
  | 8 => ⟨S_, .f32⟩
  | 9 => ⟨S8x16x32, .f32⟩
  | 10 => ⟨S8x16x32, .f32⟩
  | 11 => ⟨S_, .f32⟩
  | 12 => ⟨S_, .f32⟩
  | 13 => ⟨S8x16x32, .f32⟩
  | 14 => ⟨S8x16x32, .f32⟩
  | 15 => ⟨S8x16x32, .f32⟩
  | 16 => ⟨S8x16x32, .f32⟩
  | 17 => ⟨S_, .f32⟩
  | 18 => ⟨S8x16x32, .f32⟩
  | 19 => ⟨S8x16x32, .f32⟩
  | 20 => ⟨S_, .f32⟩
  | 21 => ⟨S_, .f32⟩
  | 22 => ⟨S_, .f32⟩
  | 23 => ⟨S8x16x32, .f32⟩
  | 24 => ⟨S8x16x32, .f32⟩
  | 25 => ⟨S_, .f32⟩
  | 26 => ⟨S8x16x32, .f32⟩
  | 27 => ⟨S8x16x32, .f32⟩
  | 28 => ⟨S_, .f32⟩
  | 29 => ⟨S8x16x32, .f32⟩
  | 30 => ⟨S8x16x32, .i1⟩
  | 31 => ⟨S_, .f32⟩
  | 32 => ⟨S_, .f32⟩
  | 33 => ⟨S8x16x32, .f32⟩
  | 34 => ⟨S8x16x32, .f32⟩
  | 35 => ⟨S8x16x32, .f32⟩
  | 36 => ⟨S8x16x32, .f32⟩
  | 37 => ⟨S8x16x32, .f32⟩
  | 38 => ⟨S8x16x32, .f32⟩
  | 39 => ⟨S8x16x32, .f32⟩
  | 40 => ⟨S8x16x32, .f32⟩
  | 41 => ⟨S8x16x32, .f32⟩
  | 42 => ⟨S8x16x1x32x1, .f32⟩
  | 43 => ⟨S8x16x128x32x128, .f32⟩
  | 44 => ⟨S8x16x128x32x128, .f32⟩
  | 45 => ⟨S_, .f32⟩
  | 46 => ⟨S_, .f32⟩
  | 47 => ⟨S_, .f32⟩
  | 48 => ⟨S8x16x128x32x128, .f32⟩
  | 49 => ⟨S8x16x128x32x128, .f32⟩
  | 50 => ⟨S_, .f32⟩
  | 51 => ⟨S8x16x128x32x128, .f32⟩
  | 52 => ⟨S8x16x128x32x128, .f32⟩
  | 53 => ⟨S8x2048x1024, .f32⟩
  | 54 => ⟨S8x16x128x8x128, .f32⟩
  | 55 => ⟨S8x16x128x8x128, .f32⟩
  | 56 => ⟨S_, .f32⟩
  | 57 => ⟨S8x16x8, .f32⟩
  | 58 => ⟨S_, .f32⟩
  | 59 => ⟨S8x16x8, .f32⟩
  | 60 => ⟨S8x16x8, .f32⟩
  | 61 => ⟨S_, .f32⟩
  | 62 => ⟨S_, .f32⟩
  | 63 => ⟨S8x16x8, .f32⟩
  | 64 => ⟨S8x16x8, .f32⟩
  | 65 => ⟨S8x16x8, .f32⟩
  | 66 => ⟨S8x16x8, .f32⟩
  | 67 => ⟨S_, .f32⟩
  | 68 => ⟨S8x16x8, .f32⟩
  | 69 => ⟨S8x16x8, .f32⟩
  | 70 => ⟨S_, .f32⟩
  | 71 => ⟨S_, .f32⟩
  | 72 => ⟨S_, .f32⟩
  | 73 => ⟨S8x16x8, .f32⟩
  | 74 => ⟨S8x16x8, .f32⟩
  | 75 => ⟨S_, .f32⟩
  | 76 => ⟨S8x16x8, .f32⟩
  | 77 => ⟨S8x16x8, .f32⟩
  | 78 => ⟨S_, .f32⟩
  | 79 => ⟨S8x16x8, .f32⟩
  | 80 => ⟨S8x16x8, .i1⟩
  | 81 => ⟨S_, .f32⟩
  | 82 => ⟨S_, .f32⟩
  | 83 => ⟨S8x16x8, .f32⟩
  | 84 => ⟨S8x16x8, .f32⟩
  | 85 => ⟨S8x16x8, .f32⟩
  | 86 => ⟨S8x16x8, .f32⟩
  | 87 => ⟨S8x16x8, .f32⟩
  | 88 => ⟨S8x16x8, .f32⟩
  | 89 => ⟨S8x16x8, .f32⟩
  | 90 => ⟨S8x16x8, .f32⟩
  | 91 => ⟨S8x16x8, .f32⟩
  | 92 => ⟨S8x16x1x8x1, .f32⟩
  | 93 => ⟨S8x16x128x8x128, .f32⟩
  | 94 => ⟨S8x16x128x8x128, .f32⟩
  | 95 => ⟨S_, .f32⟩
  | 96 => ⟨S_, .f32⟩
  | 97 => ⟨S_, .f32⟩
  | 98 => ⟨S8x16x128x8x128, .f32⟩
  | 99 => ⟨S8x16x128x8x128, .f32⟩
  | 100 => ⟨S_, .f32⟩
  | 101 => ⟨S8x16x128x8x128, .f32⟩
  | 102 => ⟨S8x16x128x8x128, .f32⟩
  | 103 => ⟨S8x2048x1024, .f32⟩
  | 104 => ⟨S8x16x128x8x128, .f32⟩
  | 105 => ⟨S8x16x128x8x128, .f32⟩
  | 106 => ⟨S_, .f32⟩
  | 107 => ⟨S8x16x8, .f32⟩
  | 108 => ⟨S_, .f32⟩
  | 109 => ⟨S8x16x8, .f32⟩
  | 110 => ⟨S8x16x8, .f32⟩
  | 111 => ⟨S_, .f32⟩
  | 112 => ⟨S_, .f32⟩
  | 113 => ⟨S8x16x8, .f32⟩
  | 114 => ⟨S8x16x8, .f32⟩
  | 115 => ⟨S8x16x8, .f32⟩
  | 116 => ⟨S8x16x8, .f32⟩
  | 117 => ⟨S_, .f32⟩
  | 118 => ⟨S8x16x8, .f32⟩
  | 119 => ⟨S8x16x8, .f32⟩
  | 120 => ⟨S_, .f32⟩
  | 121 => ⟨S_, .f32⟩
  | 122 => ⟨S_, .f32⟩
  | 123 => ⟨S8x16x8, .f32⟩
  | 124 => ⟨S8x16x8, .f32⟩
  | 125 => ⟨S_, .f32⟩
  | 126 => ⟨S8x16x8, .f32⟩
  | 127 => ⟨S8x16x8, .f32⟩
  | _ => ⟨S8x2048x4096, .bf16⟩

abbrev hbmTy0_1 (i : Nat) : BufTy := match i % 128 with
  | 0 => ⟨S_, .f32⟩
  | 1 => ⟨S8x16x8, .f32⟩
  | 2 => ⟨S8x16x8, .i1⟩
  | 3 => ⟨S_, .f32⟩
  | 4 => ⟨S_, .f32⟩
  | 5 => ⟨S8x16x8, .f32⟩
  | 6 => ⟨S8x16x8, .f32⟩
  | 7 => ⟨S8x16x8, .f32⟩
  | 8 => ⟨S8x16x8, .f32⟩
  | 9 => ⟨S8x16x8, .f32⟩
  | 10 => ⟨S8x16x8, .f32⟩
  | 11 => ⟨S8x16x8, .f32⟩
  | 12 => ⟨S8x16x8, .f32⟩
  | 13 => ⟨S8x16x8, .f32⟩
  | 14 => ⟨S8x16x1x8x1, .f32⟩
  | 15 => ⟨S8x16x128x8x128, .f32⟩
  | 16 => ⟨S8x16x128x8x128, .f32⟩
  | 17 => ⟨S_, .f32⟩
  | 18 => ⟨S_, .f32⟩
  | 19 => ⟨S_, .f32⟩
  | 20 => ⟨S8x16x128x8x128, .f32⟩
  | 21 => ⟨S8x16x128x8x128, .f32⟩
  | 22 => ⟨S_, .f32⟩
  | 23 => ⟨S8x16x128x8x128, .f32⟩
  | 24 => ⟨S8x16x128x8x128, .f32⟩
  | 25 => ⟨S8x16x1x32x1, .f32⟩
  | 26 => ⟨S8x16x128x32x128, .f32⟩
  | 27 => ⟨S8x16x128x32x128, .f32⟩
  | 28 => ⟨S8x2048x32x128, .f32⟩
  | 29 => ⟨S8x2048x8x4x128, .f32⟩
  | 30 => ⟨S8x16x1x8x1, .f32⟩
  | 31 => ⟨S8x16x128x8x128, .f32⟩
  | 32 => ⟨S8x16x128x8x128, .f32⟩
  | 33 => ⟨S8x2048x8x128, .f32⟩
  | 34 => ⟨S8x16x1x8x1, .f32⟩
  | 35 => ⟨S8x16x128x8x128, .f32⟩
  | 36 => ⟨S8x16x128x8x128, .f32⟩
  | 37 => ⟨S8x2048x8x128, .f32⟩
  | 38 => ⟨S8x8x2048x2048x4, .f32⟩
  | 39 => ⟨S8x8x4x2048x2048, .f32⟩
  | 40 => ⟨S_, .f32⟩
  | 41 => ⟨S_, .f32⟩
  | 42 => ⟨S8x8x4x2048x2048, .f32⟩
  | 43 => ⟨S8x8x4x2048x2048, .f32⟩
  | 44 => ⟨S2048, .i32⟩
  | 45 => ⟨S2048x1, .i32⟩
  | 46 => ⟨S1x2048, .i32⟩
  | 47 => ⟨S2048x2048, .i32⟩
  | 48 => ⟨S2048x2048, .i32⟩
  | 49 => ⟨S2048x2048, .i1⟩
  | 50 => ⟨S_, .f32⟩
  | 51 => ⟨S_, .f32⟩
  | 52 => ⟨S8x8x4x2048x2048, .i1⟩
  | 53 => ⟨S8x8x4x2048x2048, .f32⟩
  | 54 => ⟨S8x8x4x2048x2048, .f32⟩
  | 55 => ⟨S_, .f32⟩
  | 56 => ⟨S8x8x4x2048, .f32⟩
  | 57 => ⟨S8x8x4x2048x1, .f32⟩
  | 58 => ⟨S8x8x4x2048x2048, .f32⟩
  | 59 => ⟨S8x8x4x2048x2048, .f32⟩
  | 60 => ⟨S8x8x4x2048x2048, .f32⟩
  | 61 => ⟨S_, .f32⟩
  | 62 => ⟨S8x8x4x2048, .f32⟩
  | 63 => ⟨S_, .f32⟩
  | 64 => ⟨S8x8x4x2048x2048, .f32⟩
  | 65 => ⟨S8x8x4x2048x2048, .f32⟩
  | 66 => ⟨S_, .f32⟩
  | 67 => ⟨S_, .f32⟩
  | 68 => ⟨S_, .f32⟩
  | 69 => ⟨S8x8x4x2048x2048, .f32⟩
  | 70 => ⟨S8x8x4x2048x2048, .f32⟩
  | 71 => ⟨S_, .f32⟩
  | 72 => ⟨S8x8x4x2048x2048, .f32⟩
  | 73 => ⟨S8x8x4x2048x2048, .f32⟩
  | 74 => ⟨S8x8x4x2048x128, .f32⟩
  | 75 => ⟨S_, .f32⟩
  | 76 => ⟨S8x8x4x2048x128, .f32⟩
  | 77 => ⟨S8x8x4x2048x128, .f32⟩
  | 78 => ⟨S8x8x4x2048x1, .f32⟩
  | 79 => ⟨S8x8x4x2048x128, .f32⟩
  | 80 => ⟨S8x8x4x2048x128, .f32⟩
  | 81 => ⟨S8x2048x8x4x128, .f32⟩
  | 82 => ⟨S8x2048x4096, .f32⟩
  | 83 => ⟨S8x2048x4096, .bf16⟩
  | 84 => ⟨S8x2048x32x128, .f32⟩
  | 85 => ⟨S8x2048x32x128, .fp8e4m3⟩
  | 86 => ⟨S8x2048x8x128, .f32⟩
  | 87 => ⟨S8x2048x8x128, .fp8e4m3⟩
  | 88 => ⟨S8x2048x8x128, .f32⟩
  | 89 => ⟨S8x2048x8x128, .fp8e4m3⟩
  | _ => ⟨S8x2048x4096, .bf16⟩

abbrev hbmTy (i : Nat) : BufTy := match i / 128 with
  | 0 => hbmTy0_0 i
  | 1 => hbmTy0_1 i
  | _ => ⟨S8x2048x4096, .bf16⟩

abbrev bufTy : (tb : Table) → Fin (tcTables nBuf tb) → BufTy
  | .hbm, ⟨i, _⟩ => hbmTy i
  | _, _ => ⟨S8x2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_cst_3 : Ref sig .tc := ⟨.hbm, 20, rfl⟩
abbrev main_cst_4 : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_v13 : Ref sig .tc := ⟨.hbm, 27, rfl⟩
abbrev main_cst_5 : Ref sig .tc := ⟨.hbm, 28, rfl⟩
abbrev main_v14 : Ref sig .tc := ⟨.hbm, 29, rfl⟩
abbrev main_v15 : Ref sig .tc := ⟨.hbm, 30, rfl⟩
abbrev main_cst_6 : Ref sig .tc := ⟨.hbm, 31, rfl⟩
abbrev main_call1_v0 : Ref sig .tc := ⟨.hbm, 32, rfl⟩
abbrev main_call1_v1 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst_7 : Ref sig .tc := ⟨.hbm, 45, rfl⟩
abbrev main_cst_8 : Ref sig .tc := ⟨.hbm, 46, rfl⟩
abbrev main_call2_v0 : Ref sig .tc := ⟨.hbm, 47, rfl⟩
abbrev main_call2_v1 : Ref sig .tc := ⟨.hbm, 48, rfl⟩
abbrev main_call2_v2 : Ref sig .tc := ⟨.hbm, 49, rfl⟩
abbrev main_call2_v3 : Ref sig .tc := ⟨.hbm, 50, rfl⟩
abbrev main_call2_v4 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_cst_9 : Ref sig .tc := ⟨.hbm, 56, rfl⟩
abbrev main_v31 : Ref sig .tc := ⟨.hbm, 57, rfl⟩
abbrev main_cst_10 : Ref sig .tc := ⟨.hbm, 58, rfl⟩
abbrev main_v32 : Ref sig .tc := ⟨.hbm, 59, rfl⟩
abbrev main_v33 : Ref sig .tc := ⟨.hbm, 60, rfl⟩
abbrev main_cst_11 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_cst_12 : Ref sig .tc := ⟨.hbm, 67, rfl⟩
abbrev main_v39 : Ref sig .tc := ⟨.hbm, 68, rfl⟩
abbrev main_v40 : Ref sig .tc := ⟨.hbm, 69, rfl⟩
abbrev main_cst_13 : Ref sig .tc := ⟨.hbm, 70, rfl⟩
abbrev main_cst_14 : Ref sig .tc := ⟨.hbm, 71, rfl⟩
abbrev main_call3_v0 : Ref sig .tc := ⟨.hbm, 72, rfl⟩
abbrev main_call3_v1 : Ref sig .tc := ⟨.hbm, 73, rfl⟩
abbrev main_call3_v2 : Ref sig .tc := ⟨.hbm, 74, rfl⟩
abbrev main_call3_v3 : Ref sig .tc := ⟨.hbm, 75, rfl⟩
abbrev main_call3_v4 : Ref sig .tc := ⟨.hbm, 76, rfl⟩
abbrev main_v41 : Ref sig .tc := ⟨.hbm, 77, rfl⟩
abbrev main_cst_15 : Ref sig .tc := ⟨.hbm, 78, rfl⟩
abbrev main_v42 : Ref sig .tc := ⟨.hbm, 79, rfl⟩
abbrev main_v43 : Ref sig .tc := ⟨.hbm, 80, rfl⟩
abbrev main_cst_16 : Ref sig .tc := ⟨.hbm, 81, rfl⟩
abbrev main_call4_v0 : Ref sig .tc := ⟨.hbm, 82, rfl⟩
abbrev main_call4_v1 : Ref sig .tc := ⟨.hbm, 83, rfl⟩
abbrev main_v44 : Ref sig .tc := ⟨.hbm, 84, rfl⟩
abbrev main_v45 : Ref sig .tc := ⟨.hbm, 85, rfl⟩
abbrev main_v46 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩
abbrev main_v51 : Ref sig .tc := ⟨.hbm, 91, rfl⟩
abbrev main_v52 : Ref sig .tc := ⟨.hbm, 92, rfl⟩
abbrev main_v53 : Ref sig .tc := ⟨.hbm, 93, rfl⟩
abbrev main_v54 : Ref sig .tc := ⟨.hbm, 94, rfl⟩
abbrev main_cst_17 : Ref sig .tc := ⟨.hbm, 95, rfl⟩
abbrev main_cst_18 : Ref sig .tc := ⟨.hbm, 96, rfl⟩
abbrev main_call5_v0 : Ref sig .tc := ⟨.hbm, 97, rfl⟩
abbrev main_call5_v1 : Ref sig .tc := ⟨.hbm, 98, rfl⟩
abbrev main_call5_v2 : Ref sig .tc := ⟨.hbm, 99, rfl⟩
abbrev main_call5_v3 : Ref sig .tc := ⟨.hbm, 100, rfl⟩
abbrev main_call5_v4 : Ref sig .tc := ⟨.hbm, 101, rfl⟩
abbrev main_v55 : Ref sig .tc := ⟨.hbm, 102, rfl⟩
abbrev main_v56 : Ref sig .tc := ⟨.hbm, 103, rfl⟩
abbrev main_v57 : Ref sig .tc := ⟨.hbm, 104, rfl⟩
abbrev main_v58 : Ref sig .tc := ⟨.hbm, 105, rfl⟩
abbrev main_cst_19 : Ref sig .tc := ⟨.hbm, 106, rfl⟩
abbrev main_v59 : Ref sig .tc := ⟨.hbm, 107, rfl⟩
abbrev main_cst_20 : Ref sig .tc := ⟨.hbm, 108, rfl⟩
abbrev main_v60 : Ref sig .tc := ⟨.hbm, 109, rfl⟩
abbrev main_v61 : Ref sig .tc := ⟨.hbm, 110, rfl⟩
abbrev main_cst_21 : Ref sig .tc := ⟨.hbm, 111, rfl⟩
abbrev main_v62 : Ref sig .tc := ⟨.hbm, 112, rfl⟩
abbrev main_v63 : Ref sig .tc := ⟨.hbm, 113, rfl⟩
abbrev main_v64 : Ref sig .tc := ⟨.hbm, 114, rfl⟩
abbrev main_v65 : Ref sig .tc := ⟨.hbm, 115, rfl⟩
abbrev main_v66 : Ref sig .tc := ⟨.hbm, 116, rfl⟩
abbrev main_cst_22 : Ref sig .tc := ⟨.hbm, 117, rfl⟩
abbrev main_v67 : Ref sig .tc := ⟨.hbm, 118, rfl⟩
abbrev main_v68 : Ref sig .tc := ⟨.hbm, 119, rfl⟩
abbrev main_cst_23 : Ref sig .tc := ⟨.hbm, 120, rfl⟩
abbrev main_cst_24 : Ref sig .tc := ⟨.hbm, 121, rfl⟩
abbrev main_call6_v0 : Ref sig .tc := ⟨.hbm, 122, rfl⟩
abbrev main_call6_v1 : Ref sig .tc := ⟨.hbm, 123, rfl⟩
abbrev main_call6_v2 : Ref sig .tc := ⟨.hbm, 124, rfl⟩
abbrev main_call6_v3 : Ref sig .tc := ⟨.hbm, 125, rfl⟩
abbrev main_call6_v4 : Ref sig .tc := ⟨.hbm, 126, rfl⟩
abbrev main_v69 : Ref sig .tc := ⟨.hbm, 127, rfl⟩
abbrev main_cst_25 : Ref sig .tc := ⟨.hbm, 128, rfl⟩
abbrev main_v70 : Ref sig .tc := ⟨.hbm, 129, rfl⟩
abbrev main_v71 : Ref sig .tc := ⟨.hbm, 130, rfl⟩
abbrev main_cst_26 : Ref sig .tc := ⟨.hbm, 131, rfl⟩
abbrev main_call7_v0 : Ref sig .tc := ⟨.hbm, 132, rfl⟩
abbrev main_call7_v1 : Ref sig .tc := ⟨.hbm, 133, rfl⟩
abbrev main_v72 : Ref sig .tc := ⟨.hbm, 134, rfl⟩
abbrev main_v73 : Ref sig .tc := ⟨.hbm, 135, rfl⟩
abbrev main_v74 : Ref sig .tc := ⟨.hbm, 136, rfl⟩
abbrev main_v75 : Ref sig .tc := ⟨.hbm, 137, rfl⟩
abbrev main_v76 : Ref sig .tc := ⟨.hbm, 138, rfl⟩
abbrev main_v77 : Ref sig .tc := ⟨.hbm, 139, rfl⟩
abbrev main_v78 : Ref sig .tc := ⟨.hbm, 140, rfl⟩
abbrev main_v79 : Ref sig .tc := ⟨.hbm, 141, rfl⟩
abbrev main_v80 : Ref sig .tc := ⟨.hbm, 142, rfl⟩
abbrev main_v81 : Ref sig .tc := ⟨.hbm, 143, rfl⟩
abbrev main_v82 : Ref sig .tc := ⟨.hbm, 144, rfl⟩
abbrev main_cst_27 : Ref sig .tc := ⟨.hbm, 145, rfl⟩
abbrev main_cst_28 : Ref sig .tc := ⟨.hbm, 146, rfl⟩
abbrev main_call8_v0 : Ref sig .tc := ⟨.hbm, 147, rfl⟩
abbrev main_call8_v1 : Ref sig .tc := ⟨.hbm, 148, rfl⟩
abbrev main_call8_v2 : Ref sig .tc := ⟨.hbm, 149, rfl⟩
abbrev main_call8_v3 : Ref sig .tc := ⟨.hbm, 150, rfl⟩
abbrev main_call8_v4 : Ref sig .tc := ⟨.hbm, 151, rfl⟩
abbrev main_v83 : Ref sig .tc := ⟨.hbm, 152, rfl⟩
abbrev main_v84 : Ref sig .tc := ⟨.hbm, 153, rfl⟩
abbrev main_v85 : Ref sig .tc := ⟨.hbm, 154, rfl⟩
abbrev main_v86 : Ref sig .tc := ⟨.hbm, 155, rfl⟩
abbrev main_v87 : Ref sig .tc := ⟨.hbm, 156, rfl⟩
abbrev main_v88 : Ref sig .tc := ⟨.hbm, 157, rfl⟩
abbrev main_v89 : Ref sig .tc := ⟨.hbm, 158, rfl⟩
abbrev main_v90 : Ref sig .tc := ⟨.hbm, 159, rfl⟩
abbrev main_v91 : Ref sig .tc := ⟨.hbm, 160, rfl⟩
abbrev main_v92 : Ref sig .tc := ⟨.hbm, 161, rfl⟩
abbrev main_v93 : Ref sig .tc := ⟨.hbm, 162, rfl⟩
abbrev main_v94 : Ref sig .tc := ⟨.hbm, 163, rfl⟩
abbrev main_v95 : Ref sig .tc := ⟨.hbm, 164, rfl⟩
abbrev main_v96 : Ref sig .tc := ⟨.hbm, 165, rfl⟩
abbrev main_v97 : Ref sig .tc := ⟨.hbm, 166, rfl⟩
abbrev main_v98 : Ref sig .tc := ⟨.hbm, 167, rfl⟩
abbrev main_cst_29 : Ref sig .tc := ⟨.hbm, 168, rfl⟩
abbrev main_v99 : Ref sig .tc := ⟨.hbm, 169, rfl⟩
abbrev main_v100 : Ref sig .tc := ⟨.hbm, 170, rfl⟩
abbrev main_v101 : Ref sig .tc := ⟨.hbm, 171, rfl⟩
abbrev main_v102 : Ref sig .tc := ⟨.hbm, 172, rfl⟩
abbrev main_v103 : Ref sig .tc := ⟨.hbm, 173, rfl⟩
abbrev main_v104 : Ref sig .tc := ⟨.hbm, 174, rfl⟩
abbrev main_v105 : Ref sig .tc := ⟨.hbm, 175, rfl⟩
abbrev main_v106 : Ref sig .tc := ⟨.hbm, 176, rfl⟩
abbrev main_v107 : Ref sig .tc := ⟨.hbm, 177, rfl⟩
abbrev main_cst_30 : Ref sig .tc := ⟨.hbm, 178, rfl⟩
abbrev main_call9_v0 : Ref sig .tc := ⟨.hbm, 179, rfl⟩
abbrev main_call9_v1 : Ref sig .tc := ⟨.hbm, 180, rfl⟩
abbrev main_call9_v2 : Ref sig .tc := ⟨.hbm, 181, rfl⟩
abbrev main_v108 : Ref sig .tc := ⟨.hbm, 182, rfl⟩
abbrev main_cst_31 : Ref sig .tc := ⟨.hbm, 183, rfl⟩
abbrev main_v109 : Ref sig .tc := ⟨.hbm, 184, rfl⟩
abbrev main_v110 : Ref sig .tc := ⟨.hbm, 185, rfl⟩
abbrev main_v111 : Ref sig .tc := ⟨.hbm, 186, rfl⟩
abbrev main_v112 : Ref sig .tc := ⟨.hbm, 187, rfl⟩
abbrev main_v113 : Ref sig .tc := ⟨.hbm, 188, rfl⟩
abbrev main_cst_32 : Ref sig .tc := ⟨.hbm, 189, rfl⟩
abbrev main_v114 : Ref sig .tc := ⟨.hbm, 190, rfl⟩
abbrev main_cst_33 : Ref sig .tc := ⟨.hbm, 191, rfl⟩
abbrev main_v115 : Ref sig .tc := ⟨.hbm, 192, rfl⟩
abbrev main_v116 : Ref sig .tc := ⟨.hbm, 193, rfl⟩
abbrev main_cst_34 : Ref sig .tc := ⟨.hbm, 194, rfl⟩
abbrev main_cst_35 : Ref sig .tc := ⟨.hbm, 195, rfl⟩
abbrev main_call10_v0 : Ref sig .tc := ⟨.hbm, 196, rfl⟩
abbrev main_call10_v1 : Ref sig .tc := ⟨.hbm, 197, rfl⟩
abbrev main_call10_v2 : Ref sig .tc := ⟨.hbm, 198, rfl⟩
abbrev main_call10_v3 : Ref sig .tc := ⟨.hbm, 199, rfl⟩
abbrev main_call10_v4 : Ref sig .tc := ⟨.hbm, 200, rfl⟩
abbrev main_v117 : Ref sig .tc := ⟨.hbm, 201, rfl⟩
abbrev main_v118 : Ref sig .tc := ⟨.hbm, 202, rfl⟩
abbrev main_cst_36 : Ref sig .tc := ⟨.hbm, 203, rfl⟩
abbrev main_v119 : Ref sig .tc := ⟨.hbm, 204, rfl⟩
abbrev main_v120 : Ref sig .tc := ⟨.hbm, 205, rfl⟩
abbrev main_v121 : Ref sig .tc := ⟨.hbm, 206, rfl⟩
abbrev main_v122 : Ref sig .tc := ⟨.hbm, 207, rfl⟩
abbrev main_v123 : Ref sig .tc := ⟨.hbm, 208, rfl⟩
abbrev main_v124 : Ref sig .tc := ⟨.hbm, 209, rfl⟩
abbrev main_v125 : Ref sig .tc := ⟨.hbm, 210, rfl⟩
abbrev main_v126 : Ref sig .tc := ⟨.hbm, 211, rfl⟩
abbrev main_v127 : Ref sig .tc := ⟨.hbm, 212, rfl⟩
abbrev main_v128 : Ref sig .tc := ⟨.hbm, 213, rfl⟩
abbrev main_v129 : Ref sig .tc := ⟨.hbm, 214, rfl⟩
abbrev main_v130 : Ref sig .tc := ⟨.hbm, 215, rfl⟩
abbrev main_v131 : Ref sig .tc := ⟨.hbm, 216, rfl⟩
abbrev main_v132 : Ref sig .tc := ⟨.hbm, 217, rfl⟩

abbrev nD : Nat := 1
abbrev τ : Topo := Topo.v7x

variable {F : FTy → Type} [FloatOps F]
-- ==== Proof.KernelKit.lean ====
/- What `Kernel`'s frame is stated over: @main around its one region, the arrays' contents there (`V`), each window's
   block at a point (`iblk`), the staging and scratch memrefs at a point, and the frame claim's post from a run of
   the region. -/
module

public import proofs.«01_k».proof.Proof.Gen.Kernel.Launch
public import proofs.«01_k».proof.Proof.Gen.Kernel.Skeleton
public import proofs.«01_k».proof.Proof.Gen.Kernel.Loops
public import proofs.«01_k».proof.Proof.Gen.Kernel.Points
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main around the region -/

/-- Core `c`'s TensorCore buffers when the region is entered, as a valuation: as launched (no host line runs before). -/
abbrev V0 (c : Dev nD) : Valuation τ sig (Elt F) := StableHlo.after (List.flatten []) (fun b => m (c, b))
/-- The same read at a TensorCore reference. -/
abbrev V (c : Dev nD) (b : Ref sig .tc) : Buf (Elt F) ((c : Thread nD τ).loc b) := V0 m c (Proc.devRef .tc b)

theorem hostOps1_fresh : (hostOps1 : List (HloOp τ sig (Elt F))).Forall fun op => op.fresh = ∅ := by
  simp only [List.Forall]; repeat' constructor

set_option maxHeartbeats 800000 in
/-- @main is the region and then the host lines that cut and reshape its results. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ([hostOps1].map StableHlo.seq)) :=
  Pipeline.hmain_around cfgs 0 defs₀ 𝒱₀ m main [] [hostOps1] (by simp only [List.Forall]) (by simp only [List.Forall]) main_chain

/-- The lines after the region touch the pipeline's arrays and the buffers beside them only, -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)

/-- allocate nothing, -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop

set_option maxHeartbeats 800000 in
/-- and write no array of the pipeline. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl | rfl | rfl | rfl | rfl | rfl | rfl | rfl | rfl | rfl | rfl | rfl
  all_goals intro w; fin_cases w <;> simp only [StableHlo.unary_writes, StableHlo.reshape_writes, Finset.mem_singleton] <;> exact StableHlo.devRef_ne_of_ne (by decide)

/-- What they write. -/
def T0 : Finset (Ref sig .tc) := {main_v1, main_v2, main_v3, main_v4, main_v5, main_v6, main_v7, main_v8, main_v9, main_v10, main_v11, main_v12}

theorem sfx_writes : ∀ ops ∈ ([hostOps1] : List (List (HloOp τ sig (Elt F)))), ∀ op ∈ ops,
    ∀ b : Ref sig .tc, Proc.devRef .tc b ∈ op.writes → b ∈ T0 := by
  intro ops hops op hop
  simp only [List.mem_cons, List.mem_nil_iff, or_false] at hops
  rcases hops with rfl
  simp only [hostOps1, List.mem_cons, List.mem_nil_iff, or_false] at hop
  rcases hop with rfl | rfl | rfl | rfl | rfl | rfl | rfl | rfl | rfl | rfl | rfl | rfl
  all_goals intro b hb; simp only [StableHlo.unary_writes, StableHlo.reshape_writes, Finset.mem_singleton] at hb; cases Proc.devRef_injective _ hb; decide

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePostR` read at the argument arrays — a staged input by the library's
    `RDat.FramePostR.arr_in`, an array no window stages by the post's second clause, each then by `V_…` — is the frame
    claim's post (`Cert.frame_Kernel`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePostR (cfgs 0) rdat T0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(Pipeline.RDat.FramePostR.arr_in h c 0 rfl).trans ((hA c 0).trans (V_main_arg0 m c)),
      (Pipeline.RDat.FramePostR.arr_in h c 1 rfl).trans ((hA c 1).trans (V_main_arg1 m c)),
      (Pipeline.RDat.FramePostR.arr_in h c 2 rfl).trans ((hA c 2).trans (V_main_arg2 m c))⟩) h

/-! ## The kernel body on any staging memrefs: a subtype the run finds -/

/-- Each window's current staging memref at point `t`, spelled as the pipeline passes it (`bodyAt0`), and its wholeness. -/
abbrev ms0_0 (t : Fin cfg0.N) : Memref sig .tc .vmem S1x2048x512 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x2048x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x2048x128 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x2048x512 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x2048x512 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x2048x128 .fp8e4m3 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x2048x128 .fp8e4m3 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x1x16x128 .f32 := win0_7.stage (cfg0.slots t 7)
abbrev hs0_7 (t : Fin cfg0.N) : (ms0_7 t).IsWhole := hstage0_7 ((cfg0.slots t 7).cast nbuf0_7)
/-- The scratch operands: whole scoped buffers of the kernel's own, passed beside the windows. -/
abbrev scM0_0 : Memref sig .tc .vmem S16x128x128 .fp8e4m3 := Memref.whole cc0_scratch0
abbrev scM0_1 : Memref sig .tc .vmem S16x1x512 .f32 := Memref.whole cc0_scratch1
abbrev scM0_2 : Memref sig .tc .vmem S16x1x512 .f32 := Memref.whole cc0_scratch2
abbrev scM0_3 : Memref sig .tc .vmem S16x1x512 .f32 := Memref.whole cc0_scratch3
abbrev scM0_4 : Memref sig .tc .vmem S128x512 .f32 := Memref.whole cc0_scratch4

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := by
  unfold Pipeline.ΦA; rw [scopedRest0_eq]; simp only [scM0_0, scM0_1, scM0_2, scM0_3, scM0_4, owns_whole]; try rfl

end Cert.Kernel.Gen

end
-- ==== Proof.KernelRun.lean ====
/- The whole-body run of `Kernel`'s kernel, its outputs forgotten: every buffer is handed back, the inputs unchanged.
   The printed body is three levels of parts deep; each level is replaced by its skeleton before the run. -/
module

public import proofs.«01_k».proof.Proof.KernelKit

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 8320000 in
/-- The body's triple: on whole staging memrefs — the inputs' at their contents,
    the FORGOTTEN outputs' (3, 4, 5, 6, 7) at anything, handed back at some contents nothing names —
    the body runs to the continuation holding the inputs' as they were, the scratch at some contents: the printed functions are their skeletons (`Gen.*_eq_skeleton`),
    which `sl_exec` runs (Lib/Exec.lean). -/
theorem kernelRun0_A (c : Dev nD) (i : grid0.Coords) (arg2 : Memref sig .tc .vmem S1x2048x512 .bf16) (harg2 : arg2.IsWhole) (arg3 : Memref sig .tc .vmem S1x2048x128 .bf16) (harg3 : arg3.IsWhole) (arg4 : Memref sig .tc .vmem S1x2048x128 .bf16) (harg4 : arg4.IsWhole) (arg5 : Memref sig .tc .vmem S1x2048x512 .bf16) (harg5 : arg5.IsWhole) (arg6 : Memref sig .tc .vmem S1x2048x512 .fp8e4m3) (harg6 : arg6.IsWhole) (arg7 : Memref sig .tc .vmem S1x2048x128 .fp8e4m3) (harg7 : arg7.IsWhole) (arg8 : Memref sig .tc .vmem S1x2048x128 .fp8e4m3) (harg8 : arg8.IsWhole) (arg9 : Memref sig .tc .vmem S1x1x16x128 .f32) (harg9 : arg9.IsWhole) (arg10 : Memref sig .tc .vmem S16x128x128 .fp8e4m3) (harg10 : arg10.IsWhole) (arg11 : Memref sig .tc .vmem S16x1x512 .f32) (harg11 : arg11.IsWhole) (arg12 : Memref sig .tc .vmem S16x1x512 .f32) (harg12 : arg12.IsWhole) (arg13 : Memref sig .tc .vmem S16x1x512 .f32) (harg13 : arg13.IsWhole) (arg14 : Memref sig .tc .vmem S128x512 .f32) (harg14 : arg14.IsWhole)
    (x0 : Vec F S1x2048x512 .bf16) (x1 : Vec F S1x2048x128 .bf16) (x2 : Vec F S1x2048x128 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
            ∗ (iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)) -∗ K ⟨⟩))
          ⊢ wp frame (wpE (defs₀ (F := F)) Variants.none c none) E (cc0_fp8_gqa_attention i arg2 harg2 arg3 harg3 arg4 harg4 arg5 harg5 arg6 harg6 arg7 harg7 arg8 harg8 arg9 harg9 arg10 harg10 arg11 harg11 arg12 harg12 arg13 harg13 arg14 harg14) K := by
    intro E K
    simp only [cc0_fp8_gqa_attention_eq_skeleton]; unfold cc0_fp8_gqa_attention_skel
    simp only [k0_part206_eq_skeleton, k0_part207_eq_skeleton, k0_part208_eq_skeleton]
    unfold k0_part206_skel k0_part207_skel k0_part208_skel
    simp only [k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part207_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part208_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, ⟨%d7, %f7, -, H7⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
    obtain rfl := harg2.eq_unread hf0; obtain rfl := harg3.eq_unread hf1; obtain rfl := harg4.eq_unread hf2
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _, _; isplitr; swap; · iexact H3
      ipureintro; rfl
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    iexists _, _; isplitr; swap; · iexact HS4
    ipureintro; rfl

end Cert.Kernel.Gen

end
-- ==== Proof.KernelFrame.lean ====
/- The frame of `Kernel`: the run of `KernelRun` as the pipeline's body obligation at every grid point, the
   launch, and the claim that the arguments end unchanged with every semaphore counter at zero. -/
module

public import proofs.«01_k».proof.Proof.KernelRun
public import Idealize.ShloMosaic.Lib.Claim

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The output windows this certificate FORGETS (3, 4, 5, 6, 7): nothing reads what the kernel leaves in them, so nothing
    of it is named (Lib/Pipeline/Dat.lean `Dat.toRForget`). -/
def forgets0 : Fin 8 → Bool := fun w => w.val == 3 || w.val == 4 || w.val == 5 || w.val == 6 || w.val == 7

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, h⟩ => Pipeline.Dat.unnamed (cfg := cfg0) ⟨3, h⟩ t
    | ⟨4, h⟩ => Pipeline.Dat.unnamed (cfg := cfg0) ⟨4, h⟩ t
    | ⟨5, h⟩ => Pipeline.Dat.unnamed (cfg := cfg0) ⟨5, h⟩ t
    | ⟨6, h⟩ => Pipeline.Dat.unnamed (cfg := cfg0) ⟨6, h⟩ t
    | ⟨7, h⟩ => Pipeline.Dat.unnamed (cfg := cfg0) ⟨7, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare d)
    ∗ (∃ d, owns (c : Thread nD τ) (ms0_4 t) fullShare d)
    ∗ (∃ d, owns (c : Thread nD τ) (ms0_5 t) fullShare d)
    ∗ (∃ d, owns (c : Thread nD τ) (ms0_6 t) fullShare d)
    ∗ (∃ d, owns (c : Thread nD τ) (ms0_7 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ (∃ d, owns (c : Thread nD τ) (ms0_3 t) fullShare d)
    ∗ (∃ d, owns (c : Thread nD τ) (ms0_4 t) fullShare d)
    ∗ (∃ d, owns (c : Thread nD τ) (ms0_5 t) fullShare d)
    ∗ (∃ d, owns (c : Thread nD τ) (ms0_6 t) fullShare d)
    ∗ (∃ d, owns (c : Thread nD τ) (ms0_7 t) fullShare d))

set_option maxHeartbeats 1200000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2]
  rw [show (dats m 0 c).Φ t.castSucc = Pipeline.ΦA spec0 c from rfl, PhiA0_eq]
  iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((kernelRun0_A c (grid0.coords t) _ _ _ _ _ _ _ _ _ _ _ _ _ _ _ _ _ _ _ _ _ _ _ _ _ _ (iblk m c 0 t) (iblk m c 1 t) (iblk m c 2 t)) Set.univ _)
  isplitl [H0]; · iexact H0
  isplitl [H1]; · iexact H1
  isplitl [H2]; · iexact H2
  isplitl [H3]; · iexists _; iexact H3
  isplitl [H4]; · iexists _; iexact H4
  isplitl [H5]; · iexists _; iexact H5
  isplitl [H6]; · iexists _; iexact H6
  isplitl [H7]; · iexists _; iexact H7
  isplitl [HS0]; · iexact HS0
  isplitl [HS1]; · iexact HS1
  isplitl [HS2]; · iexact HS2
  isplitl [HS3]; · iexact HS3
  isplitl [HS4]; · iexact HS4
  iintro ⟨H0, H1, H2, H3, H4, H5, H6, H7, HS0, HS1, HS2, HS3, HS4⟩
  isplitl [HS0 HS1 HS2 HS3 HS4 Hg]
  · isplitl [HS0 HS1 HS2 HS3 HS4]
    · isplitl [HS0]
      · iexact HS0
      isplitl [HS1]
      · iexact HS1
      isplitl [HS2]
      · iexact HS2
      isplitl [HS3]
      · iexact HS3
      iexact HS4
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_around_T_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePostR (cfgs 0) (fun c => (dats m 0 c).toRForget forgets0) T0 (V m)) r ∧ r.2.sem = fun _ => 0) :=
  Pipeline.θ_run_frame_around_T_forget (Q' := _) cfgs (dats m) (0 : Fin 1) launch0 defs₀ Variants.none forgets0 T0 m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps) (hT := sfx_writes) (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (windows 3, 4, 5, 6, 7) (Lib/Pipeline/Frame.lean `RDat.FramePostR` over the proof data with those windows
    forgotten, Dat.lean `Dat.toRForget`), and every other unscoped buffer the host lines do not write at its region-entry contents. -/
theorem run_main : θ_run defs (onTc (τ := τ) (main (F := F))) (s₀ m ρ) (Pipeline.RDat.FramePostR (cfgs 0) (fun c => (dats m 0 c).toRForget forgets0) T0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (fun c => (dats m 0 c).toRForget forgets0) (A_eq m) (run_main m ρ)

/-- THE FRAME: `Cert.quiescent_Kernel`'s statement (Defs.lean) at any `F` — Proof.lean cites it at `Bits`:
    `theorem Cert.Proof.claim : Cert.Claim := ⟨Cert.Kernel.Gen.facts, fun m ρ _ => Cert.Kernel.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.Kernel.Gen

end
-- ==== Proof.KernelIdealKit.lean ====
/- What `KernelIdeal`'s frame is stated over: @main around its one region, the arrays' contents there (`V`), each window's
   block at a point (`iblk`), the staging and scratch memrefs at a point, and the frame claim's post from a run of
   the region. -/
module

public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-! ## @main around the region -/

/-- Core `c`'s TensorCore buffers when the region is entered, as a valuation: as launched (no host line runs before). -/
abbrev V0 (c : Dev nD) : Valuation τ sig (Elt F) := StableHlo.after (List.flatten []) (fun b => m (c, b))
/-- The same read at a TensorCore reference. -/
abbrev V (c : Dev nD) (b : Ref sig .tc) : Buf (Elt F) ((c : Thread nD τ).loc b) := V0 m c (Proc.devRef .tc b)

theorem hostOps1_fresh : (hostOps1 : List (HloOp τ sig (Elt F))).Forall fun op => op.fresh = ∅ := by
  simp only [List.Forall]; repeat' constructor

set_option maxHeartbeats 800000 in
/-- @main is the region and then the host lines that cut and reshape its results. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ([hostOps1].map StableHlo.seq)) :=
  Pipeline.hmain_around cfgs 0 defs₀ 𝒱₀ m main [] [hostOps1] (by simp only [List.Forall]) (by simp only [List.Forall]) main_chain

/-- The lines after the region touch the pipeline's arrays and the buffers beside them only, -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)

/-- allocate nothing, -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop

set_option maxHeartbeats 800000 in
/-- and write no array of the pipeline. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl | rfl | rfl | rfl | rfl | rfl | rfl | rfl | rfl | rfl | rfl | rfl
  all_goals intro w; fin_cases w <;> simp only [StableHlo.unary_writes, StableHlo.reshape_writes, Finset.mem_singleton] <;> exact StableHlo.devRef_ne_of_ne (by decide)

/-- What they write. -/
def T0 : Finset (Ref sig .tc) := {main_v1, main_v2, main_v3, main_v4, main_v5, main_v6, main_v7, main_v8, main_v9, main_v10, main_v11, main_v12}

theorem sfx_writes : ∀ ops ∈ ([hostOps1] : List (List (HloOp τ sig (Elt F)))), ∀ op ∈ ops,
    ∀ b : Ref sig .tc, Proc.devRef .tc b ∈ op.writes → b ∈ T0 := by
  intro ops hops op hop
  simp only [List.mem_cons, List.mem_nil_iff, or_false] at hops
  rcases hops with rfl
  simp only [hostOps1, List.mem_cons, List.mem_nil_iff, or_false] at hop
  rcases hop with rfl | rfl | rfl | rfl | rfl | rfl | rfl | rfl | rfl | rfl | rfl | rfl
  all_goals intro b hb; simp only [StableHlo.unary_writes, StableHlo.reshape_writes, Finset.mem_singleton] at hb; cases Proc.devRef_injective _ hb; decide

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePostR` read at the argument arrays — a staged input by the library's
    `RDat.FramePostR.arr_in`, an array no window stages by the post's second clause, each then by `V_…` — is the frame
    claim's post (`Cert.frame_KernelIdeal`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePostR (cfgs 0) rdat T0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(Pipeline.RDat.FramePostR.arr_in h c 0 rfl).trans ((hA c 0).trans (V_main_arg0 m c)),
      (Pipeline.RDat.FramePostR.arr_in h c 1 rfl).trans ((hA c 1).trans (V_main_arg1 m c)),
      (Pipeline.RDat.FramePostR.arr_in h c 2 rfl).trans ((hA c 2).trans (V_main_arg2 m c))⟩) h

/-! ## The kernel body on any staging memrefs: a subtype the run finds -/

/-- Each window's current staging memref at point `t`, spelled as the pipeline passes it (`bodyAt0`), and its wholeness. -/
abbrev ms0_0 (t : Fin cfg0.N) : Memref sig .tc .vmem S1x2048x512 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x2048x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x2048x128 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x2048x512 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x2048x512 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x2048x128 .fp8e4m3 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x2048x128 .fp8e4m3 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x1x16x128 .f32 := win0_7.stage (cfg0.slots t 7)
abbrev hs0_7 (t : Fin cfg0.N) : (ms0_7 t).IsWhole := hstage0_7 ((cfg0.slots t 7).cast nbuf0_7)
/-- The scratch operands: whole scoped buffers of the kernel's own, passed beside the windows. -/
abbrev scM0_0 : Memref sig .tc .vmem S16x128x128 .fp8e4m3 := Memref.whole cc0_scratch0
abbrev scM0_1 : Memref sig .tc .vmem S16x1x512 .f32 := Memref.whole cc0_scratch1
abbrev scM0_2 : Memref sig .tc .vmem S16x1x512 .f32 := Memref.whole cc0_scratch2
abbrev scM0_3 : Memref sig .tc .vmem S16x1x512 .f32 := Memref.whole cc0_scratch3
abbrev scM0_4 : Memref sig .tc .vmem S128x512 .f32 := Memref.whole cc0_scratch4

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := by
  unfold Pipeline.ΦA; rw [scopedRest0_eq]; simp only [scM0_0, scM0_1, scM0_2, scM0_3, scM0_4, owns_whole]; try rfl

end Cert.KernelIdeal.Gen

end
-- ==== Proof.KernelIdealRun.lean ====
/- The whole-body run of `KernelIdeal`'s kernel, its outputs forgotten: every buffer is handed back, the inputs unchanged.
   The printed body is three levels of parts deep; each level is replaced by its skeleton before the run. -/
module

public import proofs.«01_k».proof.Proof.KernelIdealKit

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 8320000 in
/-- The body's triple: on whole staging memrefs — the inputs' at their contents,
    the FORGOTTEN outputs' (3, 4, 5, 6, 7) at anything, handed back at some contents nothing names —
    the body runs to the continuation holding the inputs' as they were, the scratch at some contents: the printed functions are their skeletons (`Gen.*_eq_skeleton`),
    which `sl_exec` runs (Lib/Exec.lean). -/
theorem kernelRun0_A (c : Dev nD) (i : grid0.Coords) (arg2 : Memref sig .tc .vmem S1x2048x512 .bf16) (harg2 : arg2.IsWhole) (arg3 : Memref sig .tc .vmem S1x2048x128 .bf16) (harg3 : arg3.IsWhole) (arg4 : Memref sig .tc .vmem S1x2048x128 .bf16) (harg4 : arg4.IsWhole) (arg5 : Memref sig .tc .vmem S1x2048x512 .bf16) (harg5 : arg5.IsWhole) (arg6 : Memref sig .tc .vmem S1x2048x512 .fp8e4m3) (harg6 : arg6.IsWhole) (arg7 : Memref sig .tc .vmem S1x2048x128 .fp8e4m3) (harg7 : arg7.IsWhole) (arg8 : Memref sig .tc .vmem S1x2048x128 .fp8e4m3) (harg8 : arg8.IsWhole) (arg9 : Memref sig .tc .vmem S1x1x16x128 .f32) (harg9 : arg9.IsWhole) (arg10 : Memref sig .tc .vmem S16x128x128 .fp8e4m3) (harg10 : arg10.IsWhole) (arg11 : Memref sig .tc .vmem S16x1x512 .f32) (harg11 : arg11.IsWhole) (arg12 : Memref sig .tc .vmem S16x1x512 .f32) (harg12 : arg12.IsWhole) (arg13 : Memref sig .tc .vmem S16x1x512 .f32) (harg13 : arg13.IsWhole) (arg14 : Memref sig .tc .vmem S128x512 .f32) (harg14 : arg14.IsWhole)
    (x0 : Vec F S1x2048x512 .bf16) (x1 : Vec F S1x2048x128 .bf16) (x2 : Vec F S1x2048x128 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
            ∗ (iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)) -∗ K ⟨⟩))
          ⊢ wp frame (wpE (defs₀ (F := F)) Variants.none c none) E (cc0_fp8_gqa_attention i arg2 harg2 arg3 harg3 arg4 harg4 arg5 harg5 arg6 harg6 arg7 harg7 arg8 harg8 arg9 harg9 arg10 harg10 arg11 harg11 arg12 harg12 arg13 harg13 arg14 harg14) K := by
    intro E K
    simp only [cc0_fp8_gqa_attention_eq_skeleton]; unfold cc0_fp8_gqa_attention_skel
    simp only [k0_part206_eq_skeleton, k0_part207_eq_skeleton, k0_part208_eq_skeleton]
    unfold k0_part206_skel k0_part207_skel k0_part208_skel
    simp only [k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part207_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part208_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, ⟨%d7, %f7, -, H7⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
    obtain rfl := harg2.eq_unread hf0; obtain rfl := harg3.eq_unread hf1; obtain rfl := harg4.eq_unread hf2
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _, _; isplitr; swap; · iexact H3
      ipureintro; rfl
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    iexists _, _; isplitr; swap; · iexact HS4
    ipureintro; rfl

end Cert.KernelIdeal.Gen

end
-- ==== Proof.KernelIdealFrame.lean ====
/- The frame of `KernelIdeal`: the run of `KernelIdealRun` as the pipeline's body obligation at every grid point, the
   launch, and the claim that the arguments end unchanged with every semaphore counter at zero. -/
module

public import proofs.«01_k».proof.Proof.KernelIdealRun
public import Idealize.ShloMosaic.Lib.Claim

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-! ## The pipeline's proof data -/

/-- The output windows this certificate FORGETS (3, 4, 5, 6, 7): nothing reads what the kernel leaves in them, so nothing
    of it is named (Lib/Pipeline/Dat.lean `Dat.toRForget`). -/
def forgets0 : Fin 8 → Bool := fun w => w.val == 3 || w.val == 4 || w.val == 5 || w.val == 6 || w.val == 7

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, h⟩ => Pipeline.Dat.unnamed (cfg := cfg0) ⟨3, h⟩ t
    | ⟨4, h⟩ => Pipeline.Dat.unnamed (cfg := cfg0) ⟨4, h⟩ t
    | ⟨5, h⟩ => Pipeline.Dat.unnamed (cfg := cfg0) ⟨5, h⟩ t
    | ⟨6, h⟩ => Pipeline.Dat.unnamed (cfg := cfg0) ⟨6, h⟩ t
    | ⟨7, h⟩ => Pipeline.Dat.unnamed (cfg := cfg0) ⟨7, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare d)
    ∗ (∃ d, owns (c : Thread nD τ) (ms0_4 t) fullShare d)
    ∗ (∃ d, owns (c : Thread nD τ) (ms0_5 t) fullShare d)
    ∗ (∃ d, owns (c : Thread nD τ) (ms0_6 t) fullShare d)
    ∗ (∃ d, owns (c : Thread nD τ) (ms0_7 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ (∃ d, owns (c : Thread nD τ) (ms0_3 t) fullShare d)
    ∗ (∃ d, owns (c : Thread nD τ) (ms0_4 t) fullShare d)
    ∗ (∃ d, owns (c : Thread nD τ) (ms0_5 t) fullShare d)
    ∗ (∃ d, owns (c : Thread nD τ) (ms0_6 t) fullShare d)
    ∗ (∃ d, owns (c : Thread nD τ) (ms0_7 t) fullShare d))

set_option maxHeartbeats 1200000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2]
  rw [show (dats m 0 c).Φ t.castSucc = Pipeline.ΦA spec0 c from rfl, PhiA0_eq]
  iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((kernelRun0_A c (grid0.coords t) _ _ _ _ _ _ _ _ _ _ _ _ _ _ _ _ _ _ _ _ _ _ _ _ _ _ (iblk m c 0 t) (iblk m c 1 t) (iblk m c 2 t)) Set.univ _)
  isplitl [H0]; · iexact H0
  isplitl [H1]; · iexact H1
  isplitl [H2]; · iexact H2
  isplitl [H3]; · iexists _; iexact H3
  isplitl [H4]; · iexists _; iexact H4
  isplitl [H5]; · iexists _; iexact H5
  isplitl [H6]; · iexists _; iexact H6
  isplitl [H7]; · iexists _; iexact H7
  isplitl [HS0]; · iexact HS0
  isplitl [HS1]; · iexact HS1
  isplitl [HS2]; · iexact HS2
  isplitl [HS3]; · iexact HS3
  isplitl [HS4]; · iexact HS4
  iintro ⟨H0, H1, H2, H3, H4, H5, H6, H7, HS0, HS1, HS2, HS3, HS4⟩
  isplitl [HS0 HS1 HS2 HS3 HS4 Hg]
  · isplitl [HS0 HS1 HS2 HS3 HS4]
    · isplitl [HS0]
      · iexact HS0
      isplitl [HS1]
      · iexact HS1
      isplitl [HS2]
      · iexact HS2
      isplitl [HS3]
      · iexact HS3
      iexact HS4
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_around_T_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePostR (cfgs 0) (fun c => (dats m 0 c).toRForget forgets0) T0 (V m)) r ∧ r.2.sem = fun _ => 0) :=
  Pipeline.θ_run_frame_around_T_forget (Q' := _) cfgs (dats m) (0 : Fin 1) launch0 defs₀ Variants.none forgets0 T0 m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps) (hT := sfx_writes) (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (windows 3, 4, 5, 6, 7) (Lib/Pipeline/Frame.lean `RDat.FramePostR` over the proof data with those windows
    forgotten, Dat.lean `Dat.toRForget`), and every other unscoped buffer the host lines do not write at its region-entry contents. -/
theorem run_main : θ_run defs (onTc (τ := τ) (main (F := F))) (s₀ m ρ) (Pipeline.RDat.FramePostR (cfgs 0) (fun c => (dats m 0 c).toRForget forgets0) T0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (fun c => (dats m 0 c).toRForget forgets0) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.KernelIdeal.Gen

end
-- ==== Proof.Blocks.lean ====
/- The kernel body, block by block. `KernelIdeal`'s body is sixteen quantisation blocks and then sixteen attention
   blocks; here each is written once, over its block number, with its values as named functions of what it loads.
   `body_eq` (BodyEq.lean) says that the printed body is these thirty-two blocks in order. -/
module

public import proofs.«01_k».proof.Proof.Gen.KernelIdeal

@[expose] public section

noncomputable section

namespace Cert.KernelIdeal.Hand

open Idealize.ShloMosaic Idealize.ShloMosaic.TcCoe Idealize.SL.Sem
open Cert.KernelIdeal Cert.KernelIdeal.Gen

variable {F : FTy → Type} [FloatOps F] [Named F]

/-! ## Values -/

/-- A loaded 128 × 128 tile at f32. -/
def wide (v : Vec F S1x128x128 .bf16) : FVec F S128x128 .f32 :=
  extf .f32 (shapeCast S128x128 v shapeCasts_S1x128x128_S128x128 : FVec F S128x128 .bf16) bitsLt_bf16_f32

/-- The largest magnitude of a tile, times the constant 1/448. -/
def tileMax (t : FVec F S128x128 .f32) : FVec F S1x1 .f32 :=
  mulf (broadcast S1x1 (extractAt ![0, 0, 0] (shapeCast S1x1x1
    (multiReduction .maximumf [1, 2] S1 (shapeCast S1x128x128 (absf t) shapeCasts_S128x128_S1x128x128) 0xFF800000#32
      reduces_S1x128x128_S1 (.inl rfl) rfl : FVec F S1 .f32) shapeCasts_S1_S1x1x1 : FVec F S1x1x1 .f32) inpos_S1x1x1_p0_0_0))
    (broadcast S1x1 (Scalar.ofBits .f32 0x3B124925#32))

/-- The exponent of a tile's scale: how many of the powers of two `2^(s-127)` lie at or below `tileMax`, less one, at
    most 252, less 126; and 0 for a tile of zeros. -/
def tileExp (y : FVec F S1x1 .f32) : IVec S1x1 32 :=
  select (cmpf .oeq y (broadcast S1x1 (Scalar.ofBits .f32 0x00000000#32))) (broadcast S1x1 0#32)
    (subi (minsi (subi (shapeCast S1x1 (multiReductionI .add [1] S1
      (extui 32 (cmpf .oge (broadcastTo S1x256 y broadcasts_S1x1_S1x256)
        (bitcastToFloat .f32 (shli (iota .tc S1x256 32 [1] iota_S1x256_d1_w32) (broadcast S1x256 23#32)) : FVec F S1x256 .f32)) natLt_1_32)
      0#32 reduces_S1x256_S1 rfl : IVec S1 32) shapeCasts_S1_S1x1) (broadcast S1x1 1#32)) (broadcast S1x1 252#32)) (broadcast S1x1 126#32))

/-- The tile's scale `2^e`. -/
def tileScale (y : FVec F S1x1 .f32) : FVec F S1x1 .f32 :=
  bitcastToFloat .f32 (shli (addi (tileExp y) (broadcast S1x1 127#32)) (broadcast S1x1 23#32))

/-- The scale's inverse `2^-e`. -/
def tileInv (y : FVec F S1x1 .f32) : FVec F S1x1 .f32 :=
  bitcastToFloat .f32 (shli (subi (broadcast S1x1 127#32) (tileExp y)) (broadcast S1x1 23#32))

/-- The tile's codes before the change of format: the tile over its scale, clipped to ±448. -/
def tileCodes (t : FVec F S128x128 .f32) : FVec F S128x128 .f32 :=
  minimumf (broadcast S128x128 (Scalar.ofBits .f32 0x43E00000#32))
    (maximumf (broadcast S128x128 (Scalar.ofBits .f32 0xC3E00000#32))
      (mulf t (broadcastTo S128x128 (tileInv (tileMax t)) broadcasts_S1x1_S128x128)))

/-- What is stored of a tile's codes. -/
def codesOut (v : Vec F S1x128x128 .bf16) : FVec F S1x128x128 .fp8e4m3 :=
  shapeCast S1x128x128 (truncf .fp8e4m3 (tileCodes (wide v)) bitsLt_fp8e4m3_f32 : FVec F S128x128 .fp8e4m3) shapeCasts_S128x128_S1x128x128

/-- What is stored of a tile's transposed codes. -/
def codesOutT (v : Vec F S1x128x128 .bf16) : FVec F S1x128x128 .fp8e4m3 :=
  shapeCast S1x128x128 (truncf .fp8e4m3 (transpose S128x128 [1, 0] (tileCodes (wide v)) transposes_S128x128_p1_0_S128x128)
    bitsLt_fp8e4m3_f32 : FVec F S128x128 .fp8e4m3) shapeCasts_S128x128_S1x128x128

/-- A tile's scale. -/
def scaleOf (v : Vec F S1x128x128 .bf16) : FVec F S1x1 .f32 := tileScale (tileMax (wide v))

/-- A query tile's scale times the softmax factor, along 128 lanes. -/
def qScaleOut (v : Vec F S1x128x128 .bf16) : FVec F S1x1x128 .f32 :=
  shapeCast S1x1x128 (broadcastTo S1x128 (shapeCast S1x1 (mulf (scaleOf v)
    (broadcast S1x1 (Named.named κ "log2e_inv_sqrt_d" 0x3E0293EE#32))) shapeCasts_S1x1_S1x1 : FVec F S1x1 .f32)
    broadcasts_S1x1_S1x128 : FVec F S1x128 .f32) shapeCasts_S1x128_S1x1x128

/-- A key or value tile's scale, along 512 lanes. -/
def kvScaleOut (v : Vec F S1x128x128 .bf16) : FVec F S1x1x512 .f32 :=
  shapeCast S1x1x512 (broadcastTo S1x512 (shapeCast S1x1 (scaleOf v) shapeCasts_S1x1_S1x1 : FVec F S1x1 .f32)
    broadcasts_S1x1_S1x512 : FVec F S1x512 .f32) shapeCasts_S1x512_S1x1x512

/-- Lane `g` of a row replaced by a scale. -/
def setLane (g : BitVec 32) (s : FVec F S1x1 .f32) (row : FVec F S1x128 .f32) : FVec F S1x128 .f32 :=
  select (cmpi .eq (iota .tc S1x128 32 [1] iota_S1x128_d1_w32) (broadcast S1x128 g))
    (broadcastTo S1x128 (shapeCast S1x1 s shapeCasts_S1x1_S1x1 : FVec F S1x1 .f32) broadcasts_S1x1_S1x128) row

/-- The row of scales of a block: the four query tiles', the key tile's, the value tile's, then zeros. -/
def scalesOut (q0 q1 q2 q3 k v : Vec F S1x128x128 .bf16) : FVec F S1x1x1x128 .f32 :=
  shapeCast S1x1x1x128 (setLane 5#32 (scaleOf v) (setLane 4#32 (scaleOf k) (setLane 3#32 (scaleOf q3) (setLane 2#32 (scaleOf q2)
    (setLane 1#32 (scaleOf q1) (setLane 0#32 (scaleOf q0) (broadcast S1x128 (Scalar.ofBits .f32 0x00000000#32)))))))) shapeCasts_S1x128_S1x1x1x128

/-- The four query tiles stacked. -/
def qCat (q0 q1 q2 q3 : Vec F S1x128x128 .fp8e4m3) : FVec F S512x128 .fp8e4m3 :=
  concatenate S512x128 0 [⟨S128x128, shapeCast S128x128 q0 shapeCasts_S1x128x128_S128x128⟩,
    ⟨S128x128, shapeCast S128x128 q1 shapeCasts_S1x128x128_S128x128⟩,
    ⟨S128x128, shapeCast S128x128 q2 shapeCasts_S1x128x128_S128x128⟩,
    ⟨S128x128, shapeCast S128x128 q3 shapeCasts_S1x128x128_S128x128⟩]
    concatenates_S128x128_S128x128_S128x128_S128x128_S512x128_d0

/-- The scaled scores of one key block, keys down the rows, queries along the lanes. -/
def scoresOf (q : FVec F S512x128 .fp8e4m3) (qs : FVec F S1x512 .f32) (kb : Vec F S1x128x128 .fp8e4m3) (ks : Vec F S1x1x512 .f32) :
    FVec F S128x512 .f32 :=
  mulf (matmul dot_S128x128_S512x128_S128x512_1_1_0_0_n_n none (shapeCast S128x128 kb shapeCasts_S1x128x128_S128x128 : FVec F S128x128 .fp8e4m3) q
      (constant S128x512 .f32 0x00000000#32))
    (broadcastTo S128x512 (mulf qs (shapeCast S1x512 ks shapeCasts_S1x1x512_S1x512 : FVec F S1x512 .f32)) broadcasts_S1x512_S128x512)

/-- The causal mask within a diagonal block. -/
def causal : IVec S128x512 1 :=
  cmpi .sge (andi (iota .tc S128x512 32 [1] iota_S128x512_d1_w32) (broadcast S128x512 127#32)) (iota .tc S128x512 32 [0] iota_S128x512_d0_w32)

/-- The scores of the diagonal block, masked. -/
def masked (t : FVec F S128x512 .f32) : FVec F S128x512 .f32 :=
  select causal t (broadcast S128x512 (Scalar.ofBits .f32 0xFF800000#32))

/-- The running maximum after a block of scores. -/
def newMax (m : FVec F S1x512 .f32) (t : FVec F S128x512 .f32) : FVec F S1x512 .f32 :=
  maximumf m (shapeCast S1x512 (multiReduction .maximumf [0] S512 t 0xFF800000#32 reduces_S128x512_S512 (.inl rfl) rfl : FVec F S512 .f32)
    shapeCasts_S512_S1x512)

/-- The factor by which what was accumulated is rescaled. -/
def alphaOf (m : FVec F S1x512 .f32) (t : FVec F S128x512 .f32) : FVec F S1x512 .f32 := exp2 (subf m (newMax m t))

/-- The block's weights, times 256. -/
def weights (m : FVec F S1x512 .f32) (t : FVec F S128x512 .f32) : FVec F S128x512 .f32 :=
  exp2 (subf t (broadcastTo S128x512 (subf (newMax m t) (broadcast S1x512 (Scalar.ofBits .f32 0x41000000#32))) broadcasts_S1x512_S128x512))

/-- The running sum of weights after the block. -/
def newSum (m l : FVec F S1x512 .f32) (t : FVec F S128x512 .f32) : FVec F S1x512 .f32 :=
  addf (mulf (alphaOf m t) l) (shapeCast S1x512 (multiReduction .add [0] S512 (weights m t) 0x00000000#32 reduces_S128x512_S512 (.inl rfl) rfl : FVec F S512 .f32)
    shapeCasts_S512_S1x512)

/-- The accumulator after the block. -/
def newAcc (m : FVec F S1x512 .f32) (t : FVec F S128x512 .f32) (vb : Vec F S1x128x128 .fp8e4m3) (vs : Vec F S1x1x512 .f32) (a : Vec F S128x512 .f32) :
    FVec F S128x512 .f32 :=
  addf (mulf (broadcastTo S128x512 (alphaOf m t) broadcasts_S1x512_S128x512) a)
    (mulf (matmul dot_S128x128_S128x512_S128x512_1_0_0_1_n_n none (shapeCast S128x128 vb shapeCasts_S1x128x128_S128x128 : FVec F S128x128 .fp8e4m3)
        (truncf .fp8e4m3 (minimumf (broadcast S128x512 (Scalar.ofBits .f32 0x43E00000#32))
          (maximumf (broadcast S128x512 (Scalar.ofBits .f32 0xC3E00000#32)) (weights m t))) bitsLt_fp8e4m3_f32)
        (constant S128x512 .f32 0x00000000#32))
      (broadcastTo S128x512 (shapeCast S1x512 vs shapeCasts_S1x1x512_S1x512 : FVec F S1x512 .f32) broadcasts_S1x512_S128x512))

/-- The block's output, features down the rows, queries along the lanes. -/
def quotient (l : FVec F S1x512 .f32) (a : Vec F S128x512 .f32) : FVec F S128x512 .f32 :=
  divf a (broadcastTo S128x512 l broadcasts_S1x512_S128x512)

/-- One head's tile of the output, as stored. -/
def outTile (o : FVec F S128x512 .f32) (off : Fin 2 → Nat) (h : S128x512.Slices off S128x128) : FVec F S1x128x128 .bf16 :=
  shapeCast S1x128x128 (truncf .bf16 (transpose S128x128 [1, 0] (extractStridedSlice S128x128 off o h)
    transposes_S128x128_p1_0_S128x128) bitsLt_bf16_f32 : FVec F S128x128 .bf16) shapeCasts_S128x128_S1x128x128

end Cert.KernelIdeal.Hand

end
-- ==== Proof.BlockProg.lean ====
/- The kernel body's blocks as programs over their block number (BlockProg), their accesses inside the buffers. -/
module

public import proofs.«01_k».proof.Proof.Blocks

@[expose] public section

noncomputable section

namespace Cert.KernelIdeal.Hand

open Idealize.ShloMosaic Idealize.ShloMosaic.TcCoe Idealize.SL.Sem
open Cert.KernelIdeal Cert.KernelIdeal.Gen

variable {F : FTy → Type} [FloatOps F] [Named F]

/-! ## The accesses -/

theorem inbX (nb : Fin 16) (g : Fin 4) : ∀ a, (![0, 128 * nb.val, 128 * g.val] : Fin 3 → Nat) a + S1x128x128.size a ≤ S1x2048x512.size a := by
  revert nb g; decide
theorem inbKV (nb : Fin 16) : ∀ a, (![0, 128 * nb.val, 0] : Fin 3 → Nat) a + S1x128x128.size a ≤ S1x2048x128.size a := by
  revert nb; decide
theorem inbVT (nb : Fin 16) : ∀ a, (![nb.val, 0, 0] : Fin 3 → Nat) a + S1x128x128.size a ≤ S16x128x128.size a := by
  revert nb; decide
theorem inbS (nb : Fin 16) : ∀ a, (![nb.val, 0, 0] : Fin 3 → Nat) a + S1x1x512.size a ≤ S16x1x512.size a := by
  revert nb; decide
theorem inbSg (nb : Fin 16) (g : Fin 4) : ∀ a, (![nb.val, 0, 128 * g.val] : Fin 3 → Nat) a + S1x1x128.size a ≤ S16x1x512.size a := by
  revert nb g; decide
theorem inbSc (nb : Fin 16) : ∀ a, (![0, 0, nb.val, 0] : Fin 4 → Nat) a + S1x1x1x128.size a ≤ S1x1x16x128.size a := by
  revert nb; decide
theorem packedX (nb : Fin 16) (g : Fin 4) :
    (Rect.unit (s := S1x2048x512) ![0, 128 * nb.val, 128 * g.val] S1x128x128.size (inbX nb g)).PackedRows (EltTy.packing .fp8e4m3) := by
  revert nb g; decide
theorem packedY (nb : Fin 16) (g : Fin 4) :
    (Rect.unit (s := S1x2048x512) ![0, 128 * nb.val, 128 * g.val] S1x128x128.size (inbX nb g)).PackedRows (EltTy.packing .bf16) := by
  revert nb g; decide
theorem packedKV (nb : Fin 16) :
    (Rect.unit (s := S1x2048x128) ![0, 128 * nb.val, 0] S1x128x128.size (inbKV nb)).PackedRows (EltTy.packing .fp8e4m3) := by
  revert nb; decide
theorem packedVT (nb : Fin 16) :
    (Rect.unit (s := S16x128x128) ![nb.val, 0, 0] S1x128x128.size (inbVT nb)).PackedRows (EltTy.packing .fp8e4m3) := by
  revert nb; decide

/-! ## The accesses' rectangles -/

abbrev rX (nb : Fin 16) (g : Fin 4) : Rect S1x2048x512 := Rect.unit (s := S1x2048x512) ![0, 128 * nb.val, 128 * g.val] S1x128x128.size (inbX nb g)
abbrev rKV (nb : Fin 16) : Rect S1x2048x128 := Rect.unit (s := S1x2048x128) ![0, 128 * nb.val, 0] S1x128x128.size (inbKV nb)
abbrev rVT (nb : Fin 16) : Rect S16x128x128 := Rect.unit (s := S16x128x128) ![nb.val, 0, 0] S1x128x128.size (inbVT nb)
abbrev rS (nb : Fin 16) : Rect S16x1x512 := Rect.unit (s := S16x1x512) ![nb.val, 0, 0] S1x1x512.size (inbS nb)
abbrev rSg (nb : Fin 16) (g : Fin 4) : Rect S16x1x512 := Rect.unit (s := S16x1x512) ![nb.val, 0, 128 * g.val] S1x1x128.size (inbSg nb g)
abbrev rSc (nb : Fin 16) : Rect S1x1x16x128 := Rect.unit (s := S1x1x16x128) ![0, 0, nb.val, 0] S1x1x1x128.size (inbSc nb)
abbrev rA : Rect S128x512 := Rect.unit (s := S128x512) ![0, 0] S128x512.size inb_S128x512_S128x512_0_0

/-! ## The loop over the key blocks before the diagonal -/

/-- Its bounds: the key blocks below `n`. -/
abbrev lp (n : Fin 16) : Scf.Loop 32 := ⟨0#32, Scalar.addi 0#32 (BitVec.ofNat 32 n.val), 1#32⟩
theorem lp_ok (n : Fin 16) : (lp n).OK := by revert n; decide +kernel
theorem lp_trips (n : Fin 16) : (lp n).trips = n.val := by revert n; decide +kernel

/-- The key block's offsets at trip `k`, as the kernel computes them, -/
def offK (n : Fin 16) (k : Fin (lp n).trips) : Fin 3 → Nat :=
  ![0, (Scalar.indexCast (Scalar.muli (Scf.iv 0#32 1#32 k) 128#32) : Index).toNat, 0]
/-- and a scale row's or a transposed value block's. -/
def offS (n : Fin 16) (k : Fin (lp n).trips) : Fin 3 → Nat := ![(Scalar.indexCast (Scf.iv 0#32 1#32 k : BitVec 32) : Index).toNat, 0, 0]
theorem offK_eq (n : Fin 16) (k : Fin (lp n).trips) : offK n k = ![0, 128 * k.val, 0] := by revert n k; decide +kernel
theorem offS_eq (n : Fin 16) (k : Fin (lp n).trips) : offS n k = ![k.val, 0, 0] := by revert n k; decide +kernel
/-- A trip's key block. -/
def kOf (n : Fin 16) (k : Fin (lp n).trips) : Fin 16 := ⟨k.val, by have := k.isLt; have := lp_trips n; omega⟩
theorem offK_inb (n : Fin 16) (k : Fin (lp n).trips) : ∀ a, offK n k a + S1x128x128.size a ≤ S1x2048x128.size a := by
  rw [offK_eq]; exact inbKV (kOf n k)
theorem offV_inb (n : Fin 16) (k : Fin (lp n).trips) : ∀ a, offS n k a + S1x128x128.size a ≤ S16x128x128.size a := by
  rw [offS_eq]; exact inbVT (kOf n k)
theorem offS_inb (n : Fin 16) (k : Fin (lp n).trips) : ∀ a, offS n k a + S1x1x512.size a ≤ S16x1x512.size a := by
  rw [offS_eq]; exact inbS (kOf n k)

/-! ## The blocks -/

section Programs

variable (arg2 : Memref sig .tc .vmem S1x2048x512 .bf16) (arg3 : Memref sig .tc .vmem S1x2048x128 .bf16) (arg4 : Memref sig .tc .vmem S1x2048x128 .bf16)
  (arg5 : Memref sig .tc .vmem S1x2048x512 .bf16) (harg5 : arg5.IsWhole) (arg6 : Memref sig .tc .vmem S1x2048x512 .fp8e4m3) (harg6 : arg6.IsWhole)
  (arg7 : Memref sig .tc .vmem S1x2048x128 .fp8e4m3) (harg7 : arg7.IsWhole) (arg8 : Memref sig .tc .vmem S1x2048x128 .fp8e4m3) (harg8 : arg8.IsWhole)
  (arg9 : Memref sig .tc .vmem S1x1x16x128 .f32) (arg10 : Memref sig .tc .vmem S16x128x128 .fp8e4m3) (harg10 : arg10.IsWhole)
  (arg11 : Memref sig .tc .vmem S16x1x512 .f32) (arg12 : Memref sig .tc .vmem S16x1x512 .f32) (arg13 : Memref sig .tc .vmem S16x1x512 .f32)
  (arg14 : Memref sig .tc .vmem S128x512 .f32)

/-- A query tile: loaded, its codes and its scaled scale stored; handed on. -/
def quantQ (nb : Fin 16) (g : Fin 4) : Prog (TpuEff nD τ sig (Elt F) Λ₀ .tc) (Vec F S1x128x128 .bf16) := do
  let v : Vec F S1x128x128 .bf16 ← Prog.lift (.load arg2 (rX nb g).toLoadRect (View.loadsAt_vmem h_S1x128x128))
  let _ : Vec F S1x128x128 .fp8e4m3 ← Prog.lift (.load arg6 (rX nb g).toLoadRect (View.loadsAt_vmem h_S1x128x128))
  Prog.lift (.store arg6 (rX nb g) (codesOut v) Finset.univ (View.stores_vmem h_S1x128x128 (harg6.storeExact_slice rfl _ (packedX nb g)) (fun _ => rfl)) (.inl rfl))
  let _ : Vec F S1x1x128 .f32 ← Prog.lift (.load arg11 (rSg nb g).toLoadRect (View.loadsAt_vmem h_S1x1x128))
  Prog.lift (.store arg11 (rSg nb g) (qScaleOut v) Finset.univ (View.stores_vmem_bits_univ h_S1x1x128 rfl) (.inl rfl))
  pure v

/-- A key tile. -/
def quantK (nb : Fin 16) : Prog (TpuEff nD τ sig (Elt F) Λ₀ .tc) (Vec F S1x128x128 .bf16) := do
  let v : Vec F S1x128x128 .bf16 ← Prog.lift (.load arg3 (rKV nb).toLoadRect (View.loadsAt_vmem h_S1x128x128))
  let _ : Vec F S1x128x128 .fp8e4m3 ← Prog.lift (.load arg7 (rKV nb).toLoadRect (View.loadsAt_vmem h_S1x128x128))
  Prog.lift (.store arg7 (rKV nb) (codesOut v) Finset.univ (View.stores_vmem h_S1x128x128 (harg7.storeExact_slice rfl _ (packedKV nb)) (fun _ => rfl)) (.inl rfl))
  let _ : Vec F S1x1x512 .f32 ← Prog.lift (.load arg12 (rS nb).toLoadRect (View.loadsAt_vmem h_S1x1x512))
  Prog.lift (.store arg12 (rS nb) (kvScaleOut v) Finset.univ (View.stores_vmem_bits_univ h_S1x1x512 rfl) (.inl rfl))
  pure v

/-- A value tile: its codes are also stored transposed. -/
def quantV (nb : Fin 16) : Prog (TpuEff nD τ sig (Elt F) Λ₀ .tc) (Vec F S1x128x128 .bf16) := do
  let v : Vec F S1x128x128 .bf16 ← Prog.lift (.load arg4 (rKV nb).toLoadRect (View.loadsAt_vmem h_S1x128x128))
  let _ : Vec F S1x128x128 .fp8e4m3 ← Prog.lift (.load arg8 (rKV nb).toLoadRect (View.loadsAt_vmem h_S1x128x128))
  Prog.lift (.store arg8 (rKV nb) (codesOut v) Finset.univ (View.stores_vmem h_S1x128x128 (harg8.storeExact_slice rfl _ (packedKV nb)) (fun _ => rfl)) (.inl rfl))
  let _ : Vec F S1x128x128 .fp8e4m3 ← Prog.lift (.load arg10 (rVT nb).toLoadRect (View.loadsAt_vmem h_S1x128x128))
  Prog.lift (.store arg10 (rVT nb) (codesOutT v) Finset.univ (View.stores_vmem h_S1x128x128 (harg10.storeExact_slice rfl _ (packedVT nb)) (fun _ => rfl)) (.inl rfl))
  let _ : Vec F S1x1x512 .f32 ← Prog.lift (.load arg13 (rS nb).toLoadRect (View.loadsAt_vmem h_S1x1x512))
  Prog.lift (.store arg13 (rS nb) (kvScaleOut v) Finset.univ (View.stores_vmem_bits_univ h_S1x1x512 rfl) (.inl rfl))
  pure v

/-- Block `nb` quantised, and its row of scales stored. -/
def quant (nb : Fin 16) : Prog (TpuEff nD τ sig (Elt F) Λ₀ .tc) PUnit := do
  let q0 ← quantQ arg2 arg6 harg6 arg11 nb 0
  let q1 ← quantQ arg2 arg6 harg6 arg11 nb 1
  let q2 ← quantQ arg2 arg6 harg6 arg11 nb 2
  let q3 ← quantQ arg2 arg6 harg6 arg11 nb 3
  let k ← quantK arg3 arg7 harg7 arg12 nb
  let v ← quantV arg4 arg8 harg8 arg10 harg10 arg13 nb
  let _ : Vec F S1x1x1x128 .f32 ← Prog.lift (.load arg9 (rSc nb).toLoadRect (View.loadsAt_vmem h_S1x1x1x128))
  Prog.lift (.store arg9 (rSc nb) (scalesOut q0 q1 q2 q3 k v) Finset.univ (View.stores_vmem_bits_univ h_S1x1x1x128 rfl) (.inl rfl))

/-- A query block's codes stacked and its row of scales; the accumulator cleared. -/
def attnHead (qi : Fin 16) : Prog (TpuEff nD τ sig (Elt F) Λ₀ .tc) (FVec F S512x128 .fp8e4m3 × FVec F S1x512 .f32) := do
  let q0 : Vec F S1x128x128 .fp8e4m3 ← Prog.lift (.load arg6 (rX qi 0).toLoadRect (View.loadsAt_vmem h_S1x128x128))
  let q1 : Vec F S1x128x128 .fp8e4m3 ← Prog.lift (.load arg6 (rX qi 1).toLoadRect (View.loadsAt_vmem h_S1x128x128))
  let q2 : Vec F S1x128x128 .fp8e4m3 ← Prog.lift (.load arg6 (rX qi 2).toLoadRect (View.loadsAt_vmem h_S1x128x128))
  let q3 : Vec F S1x128x128 .fp8e4m3 ← Prog.lift (.load arg6 (rX qi 3).toLoadRect (View.loadsAt_vmem h_S1x128x128))
  let qs : Vec F S1x1x512 .f32 ← Prog.lift (.load arg11 (rS qi).toLoadRect (View.loadsAt_vmem h_S1x1x512))
  let _ : Vec F S128x512 .f32 ← Prog.lift (.load arg14 rA.toLoadRect (View.loadsAt_vmem h_S128x512))
  Prog.lift (.store arg14 rA (shapeCast S128x512 (broadcast S128x512 (Scalar.ofBits .f32 0x00000000#32) : FVec F S128x512 .f32) shapeCasts_S128x512_S128x512)
    Finset.univ (View.stores_vmem_bits_univ h_S128x512 rfl) (.inl rfl))
  pure (qCat q0 q1 q2 q3, shapeCast S1x512 qs shapeCasts_S1x1x512_S1x512)

/-- What the running maximum and sum start from. -/
def carry0 : FVec F S1x512 .f32 × FVec F S1x512 .f32 :=
  (broadcast S1x512 (Scalar.ofBits .f32 0xFF800000#32), broadcast S1x512 (Scalar.ofBits .f32 0x00000000#32))

/-- One key block's step, at the offsets given, its scores through `msk`. -/
def attnStep (msk : FVec F S128x512 .f32 → FVec F S128x512 .f32) (q : FVec F S512x128 .fp8e4m3) (qs : FVec F S1x512 .f32)
    (oK oS oV oS' : Fin 3 → Nat) (hK : ∀ a, oK a + S1x128x128.size a ≤ S1x2048x128.size a) (hS : ∀ a, oS a + S1x1x512.size a ≤ S16x1x512.size a)
    (hV : ∀ a, oV a + S1x128x128.size a ≤ S16x128x128.size a) (hS' : ∀ a, oS' a + S1x1x512.size a ≤ S16x1x512.size a) (m l : FVec F S1x512 .f32) :
    Prog (TpuEff nD τ sig (Elt F) Λ₀ .tc) (FVec F S1x512 .f32 × FVec F S1x512 .f32) := do
  let kb : Vec F S1x128x128 .fp8e4m3 ← Prog.lift (.load arg7 (Rect.unit (s := S1x2048x128) oK S1x128x128.size hK).toLoadRect (View.loadsAt_vmem h_S1x128x128))
  let ks : Vec F S1x1x512 .f32 ← Prog.lift (.load arg12 (Rect.unit (s := S16x1x512) oS S1x1x512.size hS).toLoadRect (View.loadsAt_vmem h_S1x1x512))
  let vb : Vec F S1x128x128 .fp8e4m3 ← Prog.lift (.load arg10 (Rect.unit (s := S16x128x128) oV S1x128x128.size hV).toLoadRect (View.loadsAt_vmem h_S1x128x128))
  let a : Vec F S128x512 .f32 ← Prog.lift (.load arg14 rA.toLoadRect (View.loadsAt_vmem h_S128x512))
  let vs : Vec F S1x1x512 .f32 ← Prog.lift (.load arg13 (Rect.unit (s := S16x1x512) oS' S1x1x512.size hS').toLoadRect (View.loadsAt_vmem h_S1x1x512))
  let _ : Vec F S128x512 .f32 ← Prog.lift (.load arg14 rA.toLoadRect (View.loadsAt_vmem h_S128x512))
  Prog.lift (.store arg14 rA (shapeCast S128x512 (newAcc m (msk (scoresOf q qs kb ks)) vb vs a) shapeCasts_S128x512_S128x512)
    Finset.univ (View.stores_vmem_bits_univ h_S128x512 rfl) (.inl rfl))
  pure (newMax m (msk (scoresOf q qs kb ks)), newSum m l (msk (scoresOf q qs kb ks)))

/-- The step at key block `kj`. -/
def attnAt (msk : FVec F S128x512 .f32 → FVec F S128x512 .f32) (q : FVec F S512x128 .fp8e4m3) (qs : FVec F S1x512 .f32) (kj : Fin 16) (m l : FVec F S1x512 .f32) :
    Prog (TpuEff nD τ sig (Elt F) Λ₀ .tc) (FVec F S1x512 .f32 × FVec F S1x512 .f32) :=
  attnStep arg7 arg10 arg12 arg13 arg14 msk q qs ![0, 128 * kj.val, 0] ![kj.val, 0, 0] ![kj.val, 0, 0] ![kj.val, 0, 0] (inbKV kj) (inbS kj) (inbVT kj) (inbS kj) m l

/-- The key blocks before the diagonal, as a counted loop. -/
def attnLoop (qi : Fin 16) (q : FVec F S512x128 .fp8e4m3) (qs : FVec F S1x512 .f32) :
    Prog (TpuEff nD τ sig (Elt F) Λ₀ .tc) (FVec F S1x512 .f32 × FVec F S1x512 .f32) :=
  Scf.Loop.for (lp qi) (lp_ok qi) carry0 fun k (m, l) =>
    attnStep arg7 arg10 arg12 arg13 arg14 id q qs (offK qi k) (offS qi k) (offS qi k) (offS qi k) (offK_inb qi k) (offS_inb qi k) (offV_inb qi k) (offS_inb qi k) m l

/-- One head's tile of the output stored. -/
def attnStore (qi : Fin 16) (g : Fin 4) (off : Fin 2 → Nat) (h : S128x512.Slices off S128x128) (o : FVec F S128x512 .f32) :
    Prog (TpuEff nD τ sig (Elt F) Λ₀ .tc) PUnit := do
  let _ : Vec F S1x128x128 .bf16 ← Prog.lift (.load arg5 (rX qi g).toLoadRect (View.loadsAt_vmem h_S1x128x128))
  Prog.lift (.store arg5 (rX qi g) (outTile o off h) Finset.univ (View.stores_vmem h_S1x128x128 (harg5.storeExact_slice rfl _ (packedY qi g)) (fun _ => rfl)) (.inl rfl))

/-- The quotient taken and the four heads' tiles stored. -/
def attnTail (qi : Fin 16) (l : FVec F S1x512 .f32) : Prog (TpuEff nD τ sig (Elt F) Λ₀ .tc) PUnit := do
  let a : Vec F S128x512 .f32 ← Prog.lift (.load arg14 rA.toLoadRect (View.loadsAt_vmem h_S128x512))
  attnStore arg5 harg5 qi 0 ![0, 0] slices_S128x512_o0_0_S128x128 (quotient l a)
  attnStore arg5 harg5 qi 1 ![0, 128] slices_S128x512_o0_128_S128x128 (quotient l a)
  attnStore arg5 harg5 qi 2 ![0, 256] slices_S128x512_o0_256_S128x128 (quotient l a)
  attnStore arg5 harg5 qi 3 ![0, 384] slices_S128x512_o0_384_S128x128 (quotient l a)

/-- Query block `qi`, its key blocks before the diagonal by `mid`. -/
def attn (mid : FVec F S512x128 .fp8e4m3 → FVec F S1x512 .f32 → Prog (TpuEff nD τ sig (Elt F) Λ₀ .tc) (FVec F S1x512 .f32 × FVec F S1x512 .f32))
    (qi : Fin 16) : Prog (TpuEff nD τ sig (Elt F) Λ₀ .tc) PUnit := do
  let (q, qs) ← attnHead arg6 arg11 arg14 qi
  let (m, l) ← mid q qs
  let (_, l) ← attnAt arg7 arg10 arg12 arg13 arg14 masked q qs qi m l
  attnTail arg5 harg5 arg14 qi l

/-- The key blocks before the diagonal of query block 0 (none), of query block 1 (one), and of the others (a loop). -/
def attnMid : Fin 16 → FVec F S512x128 .fp8e4m3 → FVec F S1x512 .f32 → Prog (TpuEff nD τ sig (Elt F) Λ₀ .tc) (FVec F S1x512 .f32 × FVec F S1x512 .f32)
  | ⟨0, _⟩, _, _ => pure carry0
  | ⟨1, _⟩, q, qs => attnAt arg7 arg10 arg12 arg13 arg14 id q qs 0 carry0.1 carry0.2
  | ⟨n + 2, h⟩, q, qs => attnLoop arg7 arg10 arg12 arg13 arg14 ⟨n + 2, h⟩ q qs

/-- Query block `qi`. -/
def attnBlock (qi : Fin 16) : Prog (TpuEff nD τ sig (Elt F) Λ₀ .tc) PUnit :=
  attn arg5 harg5 arg6 arg7 arg10 arg11 arg12 arg13 arg14 (attnMid arg7 arg10 arg12 arg13 arg14 qi) qi

/-- Programs one after another. -/
def inOrder (p : Fin 16 → Prog (TpuEff nD τ sig (Elt F) Λ₀ .tc) PUnit) : List (Fin 16) → Prog (TpuEff nD τ sig (Elt F) Λ₀ .tc) PUnit
  | [] => pure ⟨⟩
  | n :: ns => do p n; inOrder p ns

/-- The body: sixteen quantisation blocks, then sixteen attention blocks. -/
def body : Prog (TpuEff nD τ sig (Elt F) Λ₀ .tc) PUnit := do
  inOrder (quant arg2 arg3 arg4 arg6 harg6 arg7 harg7 arg8 harg8 arg9 arg10 harg10 arg11 arg12 arg13) [0, 1, 2, 3, 4, 5, 6, 7, 8, 9, 10, 11, 12, 13, 14, 15]
  inOrder (attnBlock arg5 harg5 arg6 arg7 arg10 arg11 arg12 arg13 arg14) [0, 1, 2, 3, 4, 5, 6, 7, 8, 9, 10, 11, 12, 13, 14, 15]

end Programs

end Cert.KernelIdeal.Hand

end
-- ==== Proof.Runs.lean ====
/- A small logic for the body's blocks. The thirteen buffers the body touches are one state (`St`); `Runs p S P` says
   that program `p` from state `S` ends with a result and a state satisfying `P`. Loads read the state, stores overlay it,
   and a counted loop keeps an invariant; so what the blocks compute is proved without the buffers' ownership. -/
module

public import proofs.«01_k».proof.Proof.BlockProg
public import proofs.«01_k».proof.Proof.KernelIdealKit

@[expose] public section

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F] [Named F]

local notation "𝕄" => MT nD τ sig Unit (Elt F) ℕ (UR sig nD τ) ℕ

/-- What the thirteen buffers hold. -/
structure St (F : FTy → Type) where
  x : Vec F S1x2048x512 .bf16
  k : Vec F S1x2048x128 .bf16
  v : Vec F S1x2048x128 .bf16
  y : Vec F S1x2048x512 .bf16
  q8 : Vec F S1x2048x512 .fp8e4m3
  k8 : Vec F S1x2048x128 .fp8e4m3
  v8 : Vec F S1x2048x128 .fp8e4m3
  sc : Vec F S1x1x16x128 .f32
  vt : Vec F S16x128x128 .fp8e4m3
  qs : Vec F S16x1x512 .f32
  ks : Vec F S16x1x512 .f32
  vs : Vec F S16x1x512 .f32
  acc : Vec F S128x512 .f32

/-- What a rectangle of a buffer holds. -/
abbrev tl {s : Shape} {e : EltTy} (X : Vec F s e) (r : Rect s) : Vec F r.shape e := fun i => X (r.emb i)

/-! ## One load, one store -/

section Access

variable (c : Dev nD) {s : Shape} {e : EltTy} (m : Memref sig .tc .vmem s e) (r : Rect s)

theorem wp_load_tl (X : Vec F s e) {hl : m.view.LoadsAt r.toLoadRect} (E : Set ℕ) (Q : (r.toLoadRect.shape.Idx → Elt F e) → sProp 𝕄) :
    iprop(owns (c : Thread nD τ) m fullShare X ∗ (owns (c : Thread nD τ) m fullShare X -∗ Q (tl X r)))
      ⊢ wp frame (wpE (defs₀ (F := F)) Variants.none c none) E (Prog.lift (.load m r.toLoadRect hl)) Q := by
  unfold owns
  iintro ⟨⟨%f, %hf, H⟩, HK⟩
  subst hf
  iapply (wp_load Variants.none (c : Thread nD τ) none E (S := m.view.set) (View.setOn_subset_set _ _)) $$ H
  iintro H
  rw [wp_ret, show m.view.readAt (Elt F) r.toLoadRect f = tl (m.view.read (Elt F) f) r from rfl]
  imodintro
  iapply HK
  iexists f
  isplitr; · ipureintro; rfl
  iexact H

theorem wp_store_tl (X : Vec F s e) (w : r.shape.Idx → Elt F e) {hx : (m.access r).Stores Finset.univ} {hm : Finset.univ = Finset.univ ∨ ∀ a, r.stride a = 1}
    (E : Set ℕ) (Q : PUnit → sProp 𝕄) :
    iprop(owns (c : Thread nD τ) m fullShare X ∗ (owns (c : Thread nD τ) m fullShare (r.overlay X w) -∗ Q ⟨⟩))
      ⊢ wp frame (wpE (defs₀ (F := F)) Variants.none c none) E (Prog.lift (.store m r w Finset.univ hx hm)) Q := by
  unfold owns
  iintro ⟨⟨%f, %hf, H⟩, HK⟩
  subst hf
  have h := wp_store (defs := defs₀ (F := F)) Variants.none (c : Thread nD τ) none (Γ := []) E (m := m) (r := r) (w := w) (hx := hx) (hm := hm) (k := .ret) (Q := Q)
    (f := f) (S := m.view.set) (View.set_slice_subset _ _)
  iapply h $$ H
  iintro H
  rw [wp_ret]
  imodintro
  iapply HK
  iexists _
  isplitr; swap; · iexact H
  ipureintro
  funext j
  by_cases hj : j ∈ r.set
  · obtain ⟨i, rfl⟩ := r.exists_idx_of_mem hj
    exact (View.read_slice_write_emb r _ _ (Finset.mem_univ i)).trans (Rect.overlay_emb r _ _ i).symm
  · exact (View.read_slice_write_of_not_mem r _ _ _ (by rwa [Rect.map_emb_univ])).trans (Rect.overlay_of_not_mem r _ _ hj).symm

end Access

/-! ## The state's ownership -/

section State

variable (c : Dev nD)
  (arg2 : Memref sig .tc .vmem S1x2048x512 .bf16) (arg3 : Memref sig .tc .vmem S1x2048x128 .bf16) (arg4 : Memref sig .tc .vmem S1x2048x128 .bf16) (arg5 : Memref sig .tc .vmem S1x2048x512 .bf16) (arg6 : Memref sig .tc .vmem S1x2048x512 .fp8e4m3) (arg7 : Memref sig .tc .vmem S1x2048x128 .fp8e4m3) (arg8 : Memref sig .tc .vmem S1x2048x128 .fp8e4m3) (arg9 : Memref sig .tc .vmem S1x1x16x128 .f32) (arg10 : Memref sig .tc .vmem S16x128x128 .fp8e4m3) (arg11 : Memref sig .tc .vmem S16x1x512 .f32) (arg12 : Memref sig .tc .vmem S16x1x512 .f32) (arg13 : Memref sig .tc .vmem S16x1x512 .f32) (arg14 : Memref sig .tc .vmem S128x512 .f32)

/-- The buffers, owned at the state. -/
def st (S : St F) : sProp 𝕄 :=
  iprop(owns (c : Thread nD τ) arg2 fullShare S.x ∗ owns (c : Thread nD τ) arg3 fullShare S.k ∗ owns (c : Thread nD τ) arg4 fullShare S.v ∗ owns (c : Thread nD τ) arg5 fullShare S.y ∗ owns (c : Thread nD τ) arg6 fullShare S.q8 ∗ owns (c : Thread nD τ) arg7 fullShare S.k8 ∗ owns (c : Thread nD τ) arg8 fullShare S.v8 ∗ owns (c : Thread nD τ) arg9 fullShare S.sc ∗ owns (c : Thread nD τ) arg10 fullShare S.vt ∗ owns (c : Thread nD τ) arg11 fullShare S.qs ∗ owns (c : Thread nD τ) arg12 fullShare S.ks ∗ owns (c : Thread nD τ) arg13 fullShare S.vs ∗ owns (c : Thread nD τ) arg14 fullShare S.acc)

/-- Program `p` from state `S` ends with a result and a state satisfying `P`. -/
def Runs {α : Type} (p : Prog (TpuEff nD τ sig (Elt F) Λ₀ .tc) α) (S : St F) (P : α → St F → Prop) : Prop :=
  ∃ a S', P a S' ∧ ∀ (E : Set ℕ) (Q : α → sProp 𝕄),
    iprop((st c arg2 arg3 arg4 arg5 arg6 arg7 arg8 arg9 arg10 arg11 arg12 arg13 arg14) S ∗ ((st c arg2 arg3 arg4 arg5 arg6 arg7 arg8 arg9 arg10 arg11 arg12 arg13 arg14) S' -∗ Q a)) ⊢ wp frame (wpE (defs₀ (F := F)) Variants.none c none) E p Q

variable {c arg2 arg3 arg4 arg5 arg6 arg7 arg8 arg9 arg10 arg11 arg12 arg13 arg14}

theorem Runs.mono {α : Type} {p : Prog (TpuEff nD τ sig (Elt F) Λ₀ .tc) α} {S : St F} {P P' : α → St F → Prop} (h : (Runs c arg2 arg3 arg4 arg5 arg6 arg7 arg8 arg9 arg10 arg11 arg12 arg13 arg14) p S P)
    (hP : ∀ a S', P a S' → P' a S') : (Runs c arg2 arg3 arg4 arg5 arg6 arg7 arg8 arg9 arg10 arg11 arg12 arg13 arg14) p S P' := by
  obtain ⟨a, S', h1, h2⟩ := h
  exact ⟨a, S', hP _ _ h1, h2⟩

theorem Runs.pure {α : Type} {a : α} {S : St F} {P : α → St F → Prop} (h : P a S) : (Runs c arg2 arg3 arg4 arg5 arg6 arg7 arg8 arg9 arg10 arg11 arg12 arg13 arg14) (Pure.pure a) S P := by
  refine ⟨a, S, h, fun E Q => ?_⟩
  show _ ⊢ wp frame _ E (.ret a) Q
  rw [wp_ret]
  iintro ⟨HS, HK⟩
  imodintro
  iapply HK; iexact HS

theorem Runs.bind {α β : Type} {p : Prog (TpuEff nD τ sig (Elt F) Λ₀ .tc) α} {k : α → Prog (TpuEff nD τ sig (Elt F) Λ₀ .tc) β} {S : St F}
    {P : β → St F → Prop} (h : (Runs c arg2 arg3 arg4 arg5 arg6 arg7 arg8 arg9 arg10 arg11 arg12 arg13 arg14) p S fun a S' => (Runs c arg2 arg3 arg4 arg5 arg6 arg7 arg8 arg9 arg10 arg11 arg12 arg13 arg14) (k a) S' P) : (Runs c arg2 arg3 arg4 arg5 arg6 arg7 arg8 arg9 arg10 arg11 arg12 arg13 arg14) (p >>= k) S P := by
  obtain ⟨a, S', ⟨b, S'', hP, h2⟩, h1⟩ := h
  refine ⟨b, S'', hP, fun E Q => ?_⟩
  rw [wp_bind]
  iintro ⟨HS, HK⟩
  iapply (h1 E _)
  isplitl [HS]; · iexact HS
  iintro HS
  iapply (h2 E _)
  isplitl [HS]; · iexact HS
  iexact HK

/-- A counted loop keeps an invariant. -/
theorem Runs.loop {σ : Type} (L : Scf.Loop 32) (hok : L.OK) (init : σ) (body : Fin L.trips → σ → Prog (TpuEff nD τ sig (Elt F) Λ₀ .tc) σ)
    (I : ℕ → σ → St F → Prop) (hbody : ∀ (t : Fin L.trips) a S, I t.val a S → (Runs c arg2 arg3 arg4 arg5 arg6 arg7 arg8 arg9 arg10 arg11 arg12 arg13 arg14) (body t a) S (I (t.val + 1))) {S : St F} (h0 : I 0 init S) :
    (Runs c arg2 arg3 arg4 arg5 arg6 arg7 arg8 arg9 arg10 arg11 arg12 arg13 arg14) (Scf.Loop.for L hok init body) S (I L.trips) := by
  rw [show Scf.Loop.for L hok init body = Scf.forFrom body ((List.finRange L.trips).drop 0) init from Scf.for_eq _ _ _ _ _ _]
  suffices H : ∀ (d j : ℕ), j + d = L.trips → ∀ a S, I j a S → (Runs c arg2 arg3 arg4 arg5 arg6 arg7 arg8 arg9 arg10 arg11 arg12 arg13 arg14) (Scf.forFrom body ((List.finRange L.trips).drop j) a) S (I L.trips) from
    H L.trips 0 (Nat.zero_add _) init S h0
  intro d
  induction d with
  | zero =>
    intro j hj a S h
    obtain rfl : j = L.trips := hj
    rw [List.drop_of_length_le (by simp)]
    exact Runs.pure h
  | succ d ih =>
    intro j hj a S h
    have hlt : j < L.trips := by omega
    rw [List.drop_eq_getElem_cons (by simpa using hlt), List.getElem_finRange, Fin.cast_mk, Scf.forFrom_cons]
    exact Runs.bind ((hbody ⟨j, hlt⟩ a S h).mono fun a' S' h' => ih (j + 1) (by omega) a' S' h')

/-- Programs one after another keep what holds of those already run. -/
theorem Runs.inOrder {p : Fin 16 → Prog (TpuEff nD τ sig (Elt F) Λ₀ .tc) PUnit} (I : List (Fin 16) → St F → Prop)
    (h : ∀ n done S, I done S → (Runs c arg2 arg3 arg4 arg5 arg6 arg7 arg8 arg9 arg10 arg11 arg12 arg13 arg14) (p n) S fun _ S' => I (n :: done) S') :
    ∀ (ns done : List (Fin 16)) (S : St F), I done S → (Runs c arg2 arg3 arg4 arg5 arg6 arg7 arg8 arg9 arg10 arg11 arg12 arg13 arg14) (inOrder p ns) S fun _ S' => I (ns.reverse ++ done) S'
  | [], done, S, h0 => Runs.pure h0
  | n :: ns, done, S, h0 => by
    refine Runs.bind ((h n done S h0).mono fun _ S' h' => ?_)
    have := Runs.inOrder I h ns (n :: done) S' h'
    simpa using this

/-- A run, as a specification of the program's weakest precondition. -/
theorem Runs.wp {p : Prog (TpuEff nD τ sig (Elt F) Λ₀ .tc) PUnit} {S : St F} {P : PUnit → St F → Prop} (h : (Runs c arg2 arg3 arg4 arg5 arg6 arg7 arg8 arg9 arg10 arg11 arg12 arg13 arg14) p S P) (E : Set ℕ) (K : PUnit → sProp 𝕄) :
    iprop((st c arg2 arg3 arg4 arg5 arg6 arg7 arg8 arg9 arg10 arg11 arg12 arg13 arg14) S ∗ (∀ S', ⌜P ⟨⟩ S'⌝ -∗ (st c arg2 arg3 arg4 arg5 arg6 arg7 arg8 arg9 arg10 arg11 arg12 arg13 arg14) S' -∗ K ⟨⟩)) ⊢ wp frame (wpE (defs₀ (F := F)) Variants.none c none) E p K := by
  obtain ⟨a, S', hP, h1⟩ := h
  iintro ⟨HS, HK⟩
  iapply (h1 E K)
  isplitl [HS]; · iexact HS
  iintro HS
  ispecialize HK $$ %S'
  ihave HK := HK $$ %hP
  iapply HK; iexact HS

/-- The load rule of a buffer that the state holds at `X`; -/
theorem load_of {s : Shape} {e : EltTy} {m : Memref sig .tc .vmem s e} {S : St F} {X : Vec F s e} {upd : Vec F s e → St F}
    (hL : (st c arg2 arg3 arg4 arg5 arg6 arg7 arg8 arg9 arg10 arg11 arg12 arg13 arg14) S ⊢ iprop(owns (c : Thread nD τ) m fullShare X ∗ ∀ X', owns (c : Thread nD τ) m fullShare X' -∗ (st c arg2 arg3 arg4 arg5 arg6 arg7 arg8 arg9 arg10 arg11 arg12 arg13 arg14) (upd X')))
    (hid : upd X = S) {r : Rect s} {hl : m.view.LoadsAt r.toLoadRect} {P : Vec F r.shape e → St F → Prop} (h : P (tl X r) S) :
    (Runs c arg2 arg3 arg4 arg5 arg6 arg7 arg8 arg9 arg10 arg11 arg12 arg13 arg14) (Prog.lift (.load m r.toLoadRect hl)) S P := by
  refine ⟨tl X r, S, h, fun E Q => ?_⟩
  iintro ⟨HS, HK⟩
  ihave HS := hL $$ HS
  icases HS with ⟨HX, HR⟩
  iapply (wp_load_tl c m r X E Q)
  isplitl [HX]; · iexact HX
  iintro HX
  iapply HK
  ihave HR := HR $$ %X
  ihave HR := HR $$ HX
  rw [hid]
  iexact HR

/-- the store rule. -/
theorem store_of {s : Shape} {e : EltTy} {m : Memref sig .tc .vmem s e} {S : St F} {X : Vec F s e} {upd : Vec F s e → St F}
    (hL : (st c arg2 arg3 arg4 arg5 arg6 arg7 arg8 arg9 arg10 arg11 arg12 arg13 arg14) S ⊢ iprop(owns (c : Thread nD τ) m fullShare X ∗ ∀ X', owns (c : Thread nD τ) m fullShare X' -∗ (st c arg2 arg3 arg4 arg5 arg6 arg7 arg8 arg9 arg10 arg11 arg12 arg13 arg14) (upd X')))
    {r : Rect s} {w : r.shape.Idx → Elt F e} {hx : (m.access r).Stores Finset.univ} {hm : Finset.univ = Finset.univ ∨ ∀ a, r.stride a = 1}
    {P : PUnit → St F → Prop} (h : P ⟨⟩ (upd (r.overlay X w))) :
    (Runs c arg2 arg3 arg4 arg5 arg6 arg7 arg8 arg9 arg10 arg11 arg12 arg13 arg14) (Prog.lift (.store m r w Finset.univ hx hm)) S P := by
  refine ⟨⟨⟩, _, h, fun E Q => ?_⟩
  iintro ⟨HS, HK⟩
  ihave HS := hL $$ HS
  icases HS with ⟨HX, HR⟩
  iapply (wp_store_tl c m r X w E Q)
  isplitl [HX]; · iexact HX
  iintro HX
  iapply HK
  ihave HR := HR $$ %(r.overlay X w)
  iapply HR; iexact HX

theorem lens_x (S : St F) : (st c arg2 arg3 arg4 arg5 arg6 arg7 arg8 arg9 arg10 arg11 arg12 arg13 arg14) S ⊢ iprop(owns (c : Thread nD τ) arg2 fullShare S.x ∗ ∀ X', owns (c : Thread nD τ) arg2 fullShare X' -∗ (st c arg2 arg3 arg4 arg5 arg6 arg7 arg8 arg9 arg10 arg11 arg12 arg13 arg14) { S with x := X' }) := by
  unfold st; iintro H; icases H with ⟨H0, H1, H2, H3, H4, H5, H6, H7, H8, H9, H10, H11, H12⟩
  iframe; iintro %X HX; iframe
theorem lens_k (S : St F) : (st c arg2 arg3 arg4 arg5 arg6 arg7 arg8 arg9 arg10 arg11 arg12 arg13 arg14) S ⊢ iprop(owns (c : Thread nD τ) arg3 fullShare S.k ∗ ∀ X', owns (c : Thread nD τ) arg3 fullShare X' -∗ (st c arg2 arg3 arg4 arg5 arg6 arg7 arg8 arg9 arg10 arg11 arg12 arg13 arg14) { S with k := X' }) := by
  unfold st; iintro H; icases H with ⟨H0, H1, H2, H3, H4, H5, H6, H7, H8, H9, H10, H11, H12⟩
  iframe; iintro %X HX; iframe
theorem lens_v (S : St F) : (st c arg2 arg3 arg4 arg5 arg6 arg7 arg8 arg9 arg10 arg11 arg12 arg13 arg14) S ⊢ iprop(owns (c : Thread nD τ) arg4 fullShare S.v ∗ ∀ X', owns (c : Thread nD τ) arg4 fullShare X' -∗ (st c arg2 arg3 arg4 arg5 arg6 arg7 arg8 arg9 arg10 arg11 arg12 arg13 arg14) { S with v := X' }) := by
  unfold st; iintro H; icases H with ⟨H0, H1, H2, H3, H4, H5, H6, H7, H8, H9, H10, H11, H12⟩
  iframe; iintro %X HX; iframe
theorem lens_y (S : St F) : (st c arg2 arg3 arg4 arg5 arg6 arg7 arg8 arg9 arg10 arg11 arg12 arg13 arg14) S ⊢ iprop(owns (c : Thread nD τ) arg5 fullShare S.y ∗ ∀ X', owns (c : Thread nD τ) arg5 fullShare X' -∗ (st c arg2 arg3 arg4 arg5 arg6 arg7 arg8 arg9 arg10 arg11 arg12 arg13 arg14) { S with y := X' }) := by
  unfold st; iintro H; icases H with ⟨H0, H1, H2, H3, H4, H5, H6, H7, H8, H9, H10, H11, H12⟩
  iframe; iintro %X HX; iframe
theorem lens_q8 (S : St F) : (st c arg2 arg3 arg4 arg5 arg6 arg7 arg8 arg9 arg10 arg11 arg12 arg13 arg14) S ⊢ iprop(owns (c : Thread nD τ) arg6 fullShare S.q8 ∗ ∀ X', owns (c : Thread nD τ) arg6 fullShare X' -∗ (st c arg2 arg3 arg4 arg5 arg6 arg7 arg8 arg9 arg10 arg11 arg12 arg13 arg14) { S with q8 := X' }) := by
  unfold st; iintro H; icases H with ⟨H0, H1, H2, H3, H4, H5, H6, H7, H8, H9, H10, H11, H12⟩
  iframe; iintro %X HX; iframe
theorem lens_k8 (S : St F) : (st c arg2 arg3 arg4 arg5 arg6 arg7 arg8 arg9 arg10 arg11 arg12 arg13 arg14) S ⊢ iprop(owns (c : Thread nD τ) arg7 fullShare S.k8 ∗ ∀ X', owns (c : Thread nD τ) arg7 fullShare X' -∗ (st c arg2 arg3 arg4 arg5 arg6 arg7 arg8 arg9 arg10 arg11 arg12 arg13 arg14) { S with k8 := X' }) := by
  unfold st; iintro H; icases H with ⟨H0, H1, H2, H3, H4, H5, H6, H7, H8, H9, H10, H11, H12⟩
  iframe; iintro %X HX; iframe
theorem lens_v8 (S : St F) : (st c arg2 arg3 arg4 arg5 arg6 arg7 arg8 arg9 arg10 arg11 arg12 arg13 arg14) S ⊢ iprop(owns (c : Thread nD τ) arg8 fullShare S.v8 ∗ ∀ X', owns (c : Thread nD τ) arg8 fullShare X' -∗ (st c arg2 arg3 arg4 arg5 arg6 arg7 arg8 arg9 arg10 arg11 arg12 arg13 arg14) { S with v8 := X' }) := by
  unfold st; iintro H; icases H with ⟨H0, H1, H2, H3, H4, H5, H6, H7, H8, H9, H10, H11, H12⟩
  iframe; iintro %X HX; iframe
theorem lens_sc (S : St F) : (st c arg2 arg3 arg4 arg5 arg6 arg7 arg8 arg9 arg10 arg11 arg12 arg13 arg14) S ⊢ iprop(owns (c : Thread nD τ) arg9 fullShare S.sc ∗ ∀ X', owns (c : Thread nD τ) arg9 fullShare X' -∗ (st c arg2 arg3 arg4 arg5 arg6 arg7 arg8 arg9 arg10 arg11 arg12 arg13 arg14) { S with sc := X' }) := by
  unfold st; iintro H; icases H with ⟨H0, H1, H2, H3, H4, H5, H6, H7, H8, H9, H10, H11, H12⟩
  iframe; iintro %X HX; iframe
theorem lens_vt (S : St F) : (st c arg2 arg3 arg4 arg5 arg6 arg7 arg8 arg9 arg10 arg11 arg12 arg13 arg14) S ⊢ iprop(owns (c : Thread nD τ) arg10 fullShare S.vt ∗ ∀ X', owns (c : Thread nD τ) arg10 fullShare X' -∗ (st c arg2 arg3 arg4 arg5 arg6 arg7 arg8 arg9 arg10 arg11 arg12 arg13 arg14) { S with vt := X' }) := by
  unfold st; iintro H; icases H with ⟨H0, H1, H2, H3, H4, H5, H6, H7, H8, H9, H10, H11, H12⟩
  iframe; iintro %X HX; iframe
theorem lens_qs (S : St F) : (st c arg2 arg3 arg4 arg5 arg6 arg7 arg8 arg9 arg10 arg11 arg12 arg13 arg14) S ⊢ iprop(owns (c : Thread nD τ) arg11 fullShare S.qs ∗ ∀ X', owns (c : Thread nD τ) arg11 fullShare X' -∗ (st c arg2 arg3 arg4 arg5 arg6 arg7 arg8 arg9 arg10 arg11 arg12 arg13 arg14) { S with qs := X' }) := by
  unfold st; iintro H; icases H with ⟨H0, H1, H2, H3, H4, H5, H6, H7, H8, H9, H10, H11, H12⟩
  iframe; iintro %X HX; iframe
theorem lens_ks (S : St F) : (st c arg2 arg3 arg4 arg5 arg6 arg7 arg8 arg9 arg10 arg11 arg12 arg13 arg14) S ⊢ iprop(owns (c : Thread nD τ) arg12 fullShare S.ks ∗ ∀ X', owns (c : Thread nD τ) arg12 fullShare X' -∗ (st c arg2 arg3 arg4 arg5 arg6 arg7 arg8 arg9 arg10 arg11 arg12 arg13 arg14) { S with ks := X' }) := by
  unfold st; iintro H; icases H with ⟨H0, H1, H2, H3, H4, H5, H6, H7, H8, H9, H10, H11, H12⟩
  iframe; iintro %X HX; iframe
theorem lens_vs (S : St F) : (st c arg2 arg3 arg4 arg5 arg6 arg7 arg8 arg9 arg10 arg11 arg12 arg13 arg14) S ⊢ iprop(owns (c : Thread nD τ) arg13 fullShare S.vs ∗ ∀ X', owns (c : Thread nD τ) arg13 fullShare X' -∗ (st c arg2 arg3 arg4 arg5 arg6 arg7 arg8 arg9 arg10 arg11 arg12 arg13 arg14) { S with vs := X' }) := by
  unfold st; iintro H; icases H with ⟨H0, H1, H2, H3, H4, H5, H6, H7, H8, H9, H10, H11, H12⟩
  iframe; iintro %X HX; iframe
theorem lens_acc (S : St F) : (st c arg2 arg3 arg4 arg5 arg6 arg7 arg8 arg9 arg10 arg11 arg12 arg13 arg14) S ⊢ iprop(owns (c : Thread nD τ) arg14 fullShare S.acc ∗ ∀ X', owns (c : Thread nD τ) arg14 fullShare X' -∗ (st c arg2 arg3 arg4 arg5 arg6 arg7 arg8 arg9 arg10 arg11 arg12 arg13 arg14) { S with acc := X' }) := by
  unfold st; iintro H; icases H with ⟨H0, H1, H2, H3, H4, H5, H6, H7, H8, H9, H10, H11, H12⟩
  iframe; iintro %X HX; iframe

end State

end Cert.KernelIdeal.Hand

end
-- ==== Proof.QuantRun.lean ====
/- The quantisation blocks: what each leaves in the buffers, as equations of tiles. -/
module

public import proofs.«01_k».proof.Proof.Runs

@[expose] public section

noncomputable section

namespace Cert.KernelIdeal.Hand

open Idealize.ShloMosaic Idealize.ShloMosaic.TcCoe Idealize.SL.Sem
open Cert.KernelIdeal Cert.KernelIdeal.Gen

variable {F : FTy → Type} [FloatOps F] [Named F]

variable {c : Dev nD} {arg2 : Memref sig .tc .vmem S1x2048x512 .bf16} {arg3 : Memref sig .tc .vmem S1x2048x128 .bf16} {arg4 : Memref sig .tc .vmem S1x2048x128 .bf16} {arg5 : Memref sig .tc .vmem S1x2048x512 .bf16} {arg6 : Memref sig .tc .vmem S1x2048x512 .fp8e4m3} {arg7 : Memref sig .tc .vmem S1x2048x128 .fp8e4m3} {arg8 : Memref sig .tc .vmem S1x2048x128 .fp8e4m3} {arg9 : Memref sig .tc .vmem S1x1x16x128 .f32} {arg10 : Memref sig .tc .vmem S16x128x128 .fp8e4m3} {arg11 : Memref sig .tc .vmem S16x1x512 .f32} {arg12 : Memref sig .tc .vmem S16x1x512 .f32} {arg13 : Memref sig .tc .vmem S16x1x512 .f32} {arg14 : Memref sig .tc .vmem S128x512 .f32} {harg5 : arg5.IsWhole} {harg6 : arg6.IsWhole} {harg7 : arg7.IsWhole} {harg8 : arg8.IsWhole} {harg10 : arg10.IsWhole}

/-! ## A rectangle after a store -/

theorem tl_overlay {s : Shape} {e : EltTy} (r : Rect s) (X : Vec F s e) (w : Vec F r.shape e) : tl (r.overlay X w) r = w :=
  funext fun i => Rect.overlay_emb r X w i

/-- A store leaves a rectangle that some axis separates from it as it was. -/
theorem tl_overlay_off {s : Shape} {e : EltTy} {off sz off' sz' : Fin s.rank → Nat} {inb : ∀ a, off a + sz a ≤ s.size a}
    {inb' : ∀ a, off' a + sz' a ≤ s.size a} (X : Vec F s e) (w : Vec F (Rect.unit off sz inb).shape e) (a : Fin s.rank)
    (h : off a + sz a ≤ off' a ∨ off' a + sz' a ≤ off a) :
    tl ((Rect.unit off sz inb).overlay X w) (Rect.unit off' sz' inb') = tl X (Rect.unit off' sz' inb') := by
  funext i
  refine Rect.overlay_of_not_mem _ X w fun hm => ?_
  have h1 := Rect.mem_set_unit.mp hm a
  have h2 : (((Rect.unit off' sz' inb').emb i) a : Nat) = off' a + 1 * (i a : Nat) := rfl
  have h3 : (i a : Nat) < sz' a := (i a).isLt
  omega

/-- Another block's tile, or another head's, is not touched. -/
theorem tl_rX {e : EltTy} (X : Vec F S1x2048x512 e) (n n' : Fin 16) (g g' : Fin 4) (w : Vec F (rX n g).shape e) (h : n ≠ n' ∨ g ≠ g') :
    tl ((rX n g).overlay X w) (rX n' g') = tl X (rX n' g') := by
  rcases h with h | h
  · have : n.val ≠ n'.val := fun e => h (Fin.ext e)
    exact tl_overlay_off X w 1 (by show 128 * n.val + 128 ≤ 128 * n'.val ∨ 128 * n'.val + 128 ≤ 128 * n.val; omega)
  · have : g.val ≠ g'.val := fun e => h (Fin.ext e)
    exact tl_overlay_off X w 2 (by show 128 * g.val + 128 ≤ 128 * g'.val ∨ 128 * g'.val + 128 ≤ 128 * g.val; omega)
theorem tl_rKV {e : EltTy} (X : Vec F S1x2048x128 e) (n n' : Fin 16) (w : Vec F (rKV n).shape e) (h : n ≠ n') :
    tl ((rKV n).overlay X w) (rKV n') = tl X (rKV n') := by
  have : n.val ≠ n'.val := fun e => h (Fin.ext e)
  exact tl_overlay_off X w 1 (by show 128 * n.val + 128 ≤ 128 * n'.val ∨ 128 * n'.val + 128 ≤ 128 * n.val; omega)
theorem tl_rVT {e : EltTy} (X : Vec F S16x128x128 e) (n n' : Fin 16) (w : Vec F (rVT n).shape e) (h : n ≠ n') :
    tl ((rVT n).overlay X w) (rVT n') = tl X (rVT n') := by
  have : n.val ≠ n'.val := fun e => h (Fin.ext e)
  exact tl_overlay_off X w 0 (by show n.val + 1 ≤ n'.val ∨ n'.val + 1 ≤ n.val; omega)
theorem tl_rS {e : EltTy} (X : Vec F S16x1x512 e) (n n' : Fin 16) (w : Vec F (rS n).shape e) (h : n ≠ n') :
    tl ((rS n).overlay X w) (rS n') = tl X (rS n') := by
  have : n.val ≠ n'.val := fun e => h (Fin.ext e)
  exact tl_overlay_off X w 0 (by show n.val + 1 ≤ n'.val ∨ n'.val + 1 ≤ n.val; omega)
theorem tl_rSg {e : EltTy} (X : Vec F S16x1x512 e) (n n' : Fin 16) (g g' : Fin 4) (w : Vec F (rSg n g).shape e) (h : n ≠ n' ∨ g ≠ g') :
    tl ((rSg n g).overlay X w) (rSg n' g') = tl X (rSg n' g') := by
  rcases h with h | h
  · have : n.val ≠ n'.val := fun e => h (Fin.ext e)
    exact tl_overlay_off X w 0 (by show n.val + 1 ≤ n'.val ∨ n'.val + 1 ≤ n.val; omega)
  · have : g.val ≠ g'.val := fun e => h (Fin.ext e)
    exact tl_overlay_off X w 2 (by show 128 * g.val + 128 ≤ 128 * g'.val ∨ 128 * g'.val + 128 ≤ 128 * g.val; omega)
theorem tl_rSc {e : EltTy} (X : Vec F S1x1x16x128 e) (n n' : Fin 16) (w : Vec F (rSc n).shape e) (h : n ≠ n') :
    tl ((rSc n).overlay X w) (rSc n') = tl X (rSc n') := by
  have : n.val ≠ n'.val := fun e => h (Fin.ext e)
  exact tl_overlay_off X w 2 (by show n.val + 1 ≤ n'.val ∨ n'.val + 1 ≤ n.val; omega)

/-- Four stores, one per head: each head's tile is what was stored of it. -/
theorem tl_four {e : EltTy} (X : Vec F S1x2048x512 e) (n : Fin 16) (w : ∀ g : Fin 4, Vec F S1x128x128 e) (g : Fin 4) :
    tl ((rX n 3).overlay ((rX n 2).overlay ((rX n 1).overlay ((rX n 0).overlay X (w 0)) (w 1)) (w 2)) (w 3)) (rX n g) = w g := by
  match g with
  | 0 => rw [tl_rX _ _ _ _ _ _ (.inr (by decide)), tl_rX _ _ _ _ _ _ (.inr (by decide)), tl_rX _ _ _ _ _ _ (.inr (by decide)), tl_overlay]
  | 1 => rw [tl_rX _ _ _ _ _ _ (.inr (by decide)), tl_rX _ _ _ _ _ _ (.inr (by decide)), tl_overlay]
  | 2 => rw [tl_rX _ _ _ _ _ _ (.inr (by decide)), tl_overlay]
  | 3 => rw [tl_overlay]
theorem tl_four' {e : EltTy} (X : Vec F S1x2048x512 e) (n n' : Fin 16) (h : n ≠ n') (w : ∀ g : Fin 4, Vec F S1x128x128 e) (g : Fin 4) :
    tl ((rX n 3).overlay ((rX n 2).overlay ((rX n 1).overlay ((rX n 0).overlay X (w 0)) (w 1)) (w 2)) (w 3)) (rX n' g) = tl X (rX n' g) := by
  rw [tl_rX _ _ _ _ _ _ (.inl h), tl_rX _ _ _ _ _ _ (.inl h), tl_rX _ _ _ _ _ _ (.inl h), tl_rX _ _ _ _ _ _ (.inl h)]
theorem tl_fourS {e : EltTy} (X : Vec F S16x1x512 e) (n : Fin 16) (w : ∀ g : Fin 4, Vec F S1x1x128 e) (g : Fin 4) :
    tl ((rSg n 3).overlay ((rSg n 2).overlay ((rSg n 1).overlay ((rSg n 0).overlay X (w 0)) (w 1)) (w 2)) (w 3)) (rSg n g) = w g := by
  match g with
  | 0 => rw [tl_rSg _ _ _ _ _ _ (.inr (by decide)), tl_rSg _ _ _ _ _ _ (.inr (by decide)), tl_rSg _ _ _ _ _ _ (.inr (by decide)), tl_overlay]
  | 1 => rw [tl_rSg _ _ _ _ _ _ (.inr (by decide)), tl_rSg _ _ _ _ _ _ (.inr (by decide)), tl_overlay]
  | 2 => rw [tl_rSg _ _ _ _ _ _ (.inr (by decide)), tl_overlay]
  | 3 => rw [tl_overlay]
theorem tl_fourS' {e : EltTy} (X : Vec F S16x1x512 e) (n n' : Fin 16) (h : n ≠ n') (w : ∀ g : Fin 4, Vec F S1x1x128 e) (g : Fin 4) :
    tl ((rSg n 3).overlay ((rSg n 2).overlay ((rSg n 1).overlay ((rSg n 0).overlay X (w 0)) (w 1)) (w 2)) (w 3)) (rSg n' g) = tl X (rSg n' g) := by
  rw [tl_rSg _ _ _ _ _ _ (.inl h), tl_rSg _ _ _ _ _ _ (.inl h), tl_rSg _ _ _ _ _ _ (.inl h), tl_rSg _ _ _ _ _ _ (.inl h)]

/-! ## A block's run -/

attribute [local irreducible] Rect.overlay codesOut codesOutT qScaleOut kvScaleOut scalesOut

theorem quantQ_runs {n : Fin 16} {g : Fin 4} {S : St F} {P : Vec F S1x128x128 .bf16 → St F → Prop}
    (h : P (tl S.x (rX n g)) { S with q8 := (rX n g).overlay S.q8 (codesOut (tl S.x (rX n g))), qs := (rSg n g).overlay S.qs (qScaleOut (tl S.x (rX n g))) }) :
    (Runs c arg2 arg3 arg4 arg5 arg6 arg7 arg8 arg9 arg10 arg11 arg12 arg13 arg14) (quantQ arg2 arg6 harg6 arg11 n g) S P :=
  Runs.bind (load_of (lens_x S) rfl (Runs.bind (load_of (lens_q8 S) rfl (Runs.bind (store_of (lens_q8 S)
    (Runs.bind (load_of (lens_qs _) rfl (Runs.bind (store_of (lens_qs _) (Runs.pure h))))))))))

theorem quantK_runs {n : Fin 16} {S : St F} {P : Vec F S1x128x128 .bf16 → St F → Prop}
    (h : P (tl S.k (rKV n)) { S with k8 := (rKV n).overlay S.k8 (codesOut (tl S.k (rKV n))), ks := (rS n).overlay S.ks (kvScaleOut (tl S.k (rKV n))) }) :
    (Runs c arg2 arg3 arg4 arg5 arg6 arg7 arg8 arg9 arg10 arg11 arg12 arg13 arg14) (quantK arg3 arg7 harg7 arg12 n) S P :=
  Runs.bind (load_of (lens_k S) rfl (Runs.bind (load_of (lens_k8 S) rfl (Runs.bind (store_of (lens_k8 S)
    (Runs.bind (load_of (lens_ks _) rfl (Runs.bind (store_of (lens_ks _) (Runs.pure h))))))))))

theorem quantV_runs {n : Fin 16} {S : St F} {P : Vec F S1x128x128 .bf16 → St F → Prop}
    (h : P (tl S.v (rKV n)) { S with v8 := (rKV n).overlay S.v8 (codesOut (tl S.v (rKV n))), vt := (rVT n).overlay S.vt (codesOutT (tl S.v (rKV n))), vs := (rS n).overlay S.vs (kvScaleOut (tl S.v (rKV n))) }) :
    (Runs c arg2 arg3 arg4 arg5 arg6 arg7 arg8 arg9 arg10 arg11 arg12 arg13 arg14) (quantV arg4 arg8 harg8 arg10 harg10 arg13 n) S P :=
  Runs.bind (load_of (lens_v S) rfl (Runs.bind (load_of (lens_v8 S) rfl (Runs.bind (store_of (lens_v8 S)
    (Runs.bind (load_of (lens_vt _) rfl (Runs.bind (store_of (lens_vt _) (Runs.bind (load_of (lens_vs _) rfl (Runs.bind (store_of (lens_vs _) (Runs.pure h))))))))))))))

/-- The state a block leaves. -/
def quantSt (n : Fin 16) (S : St F) : St F :=
  { S with
    q8 := (rX n 3).overlay ((rX n 2).overlay ((rX n 1).overlay ((rX n 0).overlay S.q8 (codesOut (tl S.x (rX n 0)))) (codesOut (tl S.x (rX n 1)))) (codesOut (tl S.x (rX n 2)))) (codesOut (tl S.x (rX n 3)))
    qs := (rSg n 3).overlay ((rSg n 2).overlay ((rSg n 1).overlay ((rSg n 0).overlay S.qs (qScaleOut (tl S.x (rX n 0)))) (qScaleOut (tl S.x (rX n 1)))) (qScaleOut (tl S.x (rX n 2)))) (qScaleOut (tl S.x (rX n 3)))
    k8 := (rKV n).overlay S.k8 (codesOut (tl S.k (rKV n)))
    ks := (rS n).overlay S.ks (kvScaleOut (tl S.k (rKV n)))
    v8 := (rKV n).overlay S.v8 (codesOut (tl S.v (rKV n)))
    vt := (rVT n).overlay S.vt (codesOutT (tl S.v (rKV n)))
    vs := (rS n).overlay S.vs (kvScaleOut (tl S.v (rKV n)))
    sc := (rSc n).overlay S.sc (scalesOut (tl S.x (rX n 0)) (tl S.x (rX n 1)) (tl S.x (rX n 2)) (tl S.x (rX n 3)) (tl S.k (rKV n)) (tl S.v (rKV n))) }

theorem quant_runs {n : Fin 16} {S : St F} :
    (Runs c arg2 arg3 arg4 arg5 arg6 arg7 arg8 arg9 arg10 arg11 arg12 arg13 arg14) (quant arg2 arg3 arg4 arg6 harg6 arg7 harg7 arg8 harg8 arg9 arg10 harg10 arg11 arg12 arg13 n) S fun _ S' => S' = quantSt n S :=
  Runs.bind (quantQ_runs (Runs.bind (quantQ_runs (Runs.bind (quantQ_runs (Runs.bind (quantQ_runs (Runs.bind (quantK_runs (Runs.bind (quantV_runs
    (Runs.bind (load_of (lens_sc _) rfl (store_of (lens_sc _) rfl))))))))))))))

/-! ## What has been quantised -/

/-- The inputs are as they were. -/
structure Ins (x : Vec F S1x2048x512 .bf16) (k v : Vec F S1x2048x128 .bf16) (S : St F) : Prop where
  x : S.x = x
  k : S.k = k
  v : S.v = v

/-- Block `n`'s tiles are quantised. -/
structure Quantised (x : Vec F S1x2048x512 .bf16) (k v : Vec F S1x2048x128 .bf16) (n : Fin 16) (S : St F) : Prop where
  q8 : ∀ g, tl S.q8 (rX n g) = codesOut (tl x (rX n g))
  qs : ∀ g, tl S.qs (rSg n g) = qScaleOut (tl x (rX n g))
  k8 : tl S.k8 (rKV n) = codesOut (tl k (rKV n))
  ks : tl S.ks (rS n) = kvScaleOut (tl k (rKV n))
  v8 : tl S.v8 (rKV n) = codesOut (tl v (rKV n))
  vt : tl S.vt (rVT n) = codesOutT (tl v (rKV n))
  vs : tl S.vs (rS n) = kvScaleOut (tl v (rKV n))
  sc : tl S.sc (rSc n) = scalesOut (tl x (rX n 0)) (tl x (rX n 1)) (tl x (rX n 2)) (tl x (rX n 3)) (tl k (rKV n)) (tl v (rKV n))

variable {x : Vec F S1x2048x512 .bf16} {k v : Vec F S1x2048x128 .bf16}

theorem Ins.quant {S : St F} (h : Ins x k v S) (n : Fin 16) : Ins x k v (quantSt n S) := ⟨h.x, h.k, h.v⟩

theorem quantised_new {S : St F} (h : Ins x k v S) (n : Fin 16) : Quantised x k v n (quantSt n S) := by
  obtain ⟨rfl, rfl, rfl⟩ := h
  exact ⟨fun g => tl_four S.q8 n (fun g => codesOut (tl S.x (rX n g))) g, fun g => tl_fourS S.qs n (fun g => qScaleOut (tl S.x (rX n g))) g,
    tl_overlay _ _ _, tl_overlay _ _ _, tl_overlay _ _ _, tl_overlay _ _ _, tl_overlay _ _ _, tl_overlay _ _ _⟩

theorem quantised_old {S : St F} {n n' : Fin 16} (hn : n ≠ n') (h : Quantised x k v n' S) : Quantised x k v n' (quantSt n S) :=
  ⟨fun g => (tl_four' S.q8 n n' hn (fun g => codesOut (tl S.x (rX n g))) g).trans (h.q8 g),
    fun g => (tl_fourS' S.qs n n' hn (fun g => qScaleOut (tl S.x (rX n g))) g).trans (h.qs g),
    (tl_rKV _ _ _ _ hn).trans h.k8, (tl_rS _ _ _ _ hn).trans h.ks, (tl_rKV _ _ _ _ hn).trans h.v8, (tl_rVT _ _ _ _ hn).trans h.vt,
    (tl_rS _ _ _ _ hn).trans h.vs, (tl_rSc _ _ _ _ hn).trans h.sc⟩

/-- The sixteen quantisation blocks, in any order listed. -/
theorem quants_run (ns : List (Fin 16)) {S : St F} (h : Ins x k v S) :
    (Runs c arg2 arg3 arg4 arg5 arg6 arg7 arg8 arg9 arg10 arg11 arg12 arg13 arg14) (inOrder (quant arg2 arg3 arg4 arg6 harg6 arg7 harg7 arg8 harg8 arg9 arg10 harg10 arg11 arg12 arg13) ns) S
      fun _ S' => Ins x k v S' ∧ ∀ n ∈ ns, Quantised x k v n S' := by
  refine (Runs.inOrder (fun done S => Ins x k v S ∧ ∀ n ∈ done, Quantised x k v n S) ?_ ns [] S ⟨h, by simp⟩).mono ?_
  · intro n done S hS
    refine quant_runs.mono ?_
    rintro _ _ rfl
    refine ⟨hS.1.quant n, fun n' hn' => ?_⟩
    by_cases e : n = n'
    · subst e; exact quantised_new hS.1 n
    · exact quantised_old e (hS.2 n' ((List.mem_cons.mp hn').resolve_left fun e' => e e'.symm))
  · rintro _ S' ⟨h1, h2⟩
    exact ⟨h1, fun n hn => h2 n (by simpa using hn)⟩

end Cert.KernelIdeal.Hand

end
-- ==== Proof.AttnRun.lean ====
/- The attention blocks: what each stores of the output, as a fold over the key blocks. -/
module

public import proofs.«01_k».proof.Proof.QuantRun
public import Idealize.ShloMosaic.Lib.Pipeline.Value

@[expose] public section

noncomputable section

namespace Cert.KernelIdeal.Hand

open Idealize.ShloMosaic Idealize.ShloMosaic.TcCoe Idealize.SL.Sem
open Cert.KernelIdeal Cert.KernelIdeal.Gen

variable {F : FTy → Type} [FloatOps F] [Named F]

variable {c : Dev nD} {arg2 : Memref sig .tc .vmem S1x2048x512 .bf16} {arg3 : Memref sig .tc .vmem S1x2048x128 .bf16} {arg4 : Memref sig .tc .vmem S1x2048x128 .bf16} {arg5 : Memref sig .tc .vmem S1x2048x512 .bf16} {arg6 : Memref sig .tc .vmem S1x2048x512 .fp8e4m3} {arg7 : Memref sig .tc .vmem S1x2048x128 .fp8e4m3} {arg8 : Memref sig .tc .vmem S1x2048x128 .fp8e4m3} {arg9 : Memref sig .tc .vmem S1x1x16x128 .f32} {arg10 : Memref sig .tc .vmem S16x128x128 .fp8e4m3} {arg11 : Memref sig .tc .vmem S16x1x512 .f32} {arg12 : Memref sig .tc .vmem S16x1x512 .f32} {arg13 : Memref sig .tc .vmem S16x1x512 .f32} {arg14 : Memref sig .tc .vmem S128x512 .f32} {harg5 : arg5.IsWhole} {harg6 : arg6.IsWhole} {harg7 : arg7.IsWhole} {harg8 : arg8.IsWhole} {harg10 : arg10.IsWhole}

/-- What is carried from key block to key block: the running maximum, the running sum, the accumulator. -/
structure Carry (F : FTy → Type) where
  m : FVec F S1x512 .f32
  l : FVec F S1x512 .f32
  a : FVec F S128x512 .f32

/-- Before the first key block. -/
def Carry.init : Carry F := ⟨carry0.1, carry0.2, broadcast S128x512 (Scalar.ofBits .f32 0x00000000#32)⟩

/-- One key block. -/
def Carry.step (msk : FVec F S128x512 .f32 → FVec F S128x512 .f32) (q : FVec F S512x128 .fp8e4m3) (qs : FVec F S1x512 .f32)
    (kb : Vec F S1x128x128 .fp8e4m3) (ks : Vec F S1x1x512 .f32) (vb : Vec F S1x128x128 .fp8e4m3) (vs : Vec F S1x1x512 .f32) (s : Carry F) : Carry F :=
  ⟨newMax s.m (msk (scoresOf q qs kb ks)), newSum s.m s.l (msk (scoresOf q qs kb ks)), newAcc s.m (msk (scoresOf q qs kb ks)) vb vs s.a⟩

section Values

variable (x : Vec F S1x2048x512 .bf16) (k v : Vec F S1x2048x128 .bf16)

/-- A query block's codes, its heads stacked. -/
def qCodes (qi : Fin 16) : FVec F S512x128 .fp8e4m3 :=
  qCat (codesOut (tl x (rX qi 0))) (codesOut (tl x (rX qi 1))) (codesOut (tl x (rX qi 2))) (codesOut (tl x (rX qi 3)))

/-- A query block's row of scales, head after head. -/
def qRow (qi : Fin 16) : Vec F S1x1x512 .f32 := fun i =>
  qScaleOut (tl x (rX qi ⟨(i 2).val / 128, by have : (i 2).val < 512 := (i 2).isLt; omega⟩))
    fun a => match a with
      | ⟨0, _⟩ => ⟨0, Nat.one_pos⟩
      | ⟨1, _⟩ => ⟨0, Nat.one_pos⟩
      | ⟨2, _⟩ => ⟨(i 2).val % 128, Nat.mod_lt _ (by decide)⟩

/-- The carry after key block `kj`. -/
def Carry.at (msk : FVec F S128x512 .f32 → FVec F S128x512 .f32) (qi kj : Fin 16) (s : Carry F) : Carry F :=
  s.step msk (qCodes x qi) (shapeCast S1x512 (qRow x qi) shapeCasts_S1x1x512_S1x512) (codesOut (tl k (rKV kj))) (kvScaleOut (tl k (rKV kj)))
    (codesOutT (tl v (rKV kj))) (kvScaleOut (tl v (rKV kj)))

/-- The carry after the first `n` key blocks. -/
def Carry.upTo (qi : Fin 16) : ℕ → Carry F
  | 0 => Carry.init
  | n + 1 => if h : n < 16 then (Carry.upTo qi n).at x k v id qi ⟨n, h⟩ else Carry.upTo qi n

theorem Carry.upTo_succ (qi : Fin 16) (n : ℕ) (h : n < 16) : Carry.upTo x k v qi (n + 1) = (Carry.upTo x k v qi n).at x k v id qi ⟨n, h⟩ := dif_pos h

/-- The carry after the diagonal block. -/
def Carry.last (qi : Fin 16) : Carry F := (Carry.upTo x k v qi qi.val).at x k v masked qi qi

theorem slG (g : Fin 4) : S128x512.Slices ![0, 128 * g.val] S128x128 := by revert g; decide

/-- What is stored of head `g` of block `qi`'s output. -/
def outAt (qi : Fin 16) (g : Fin 4) : FVec F S1x128x128 .bf16 :=
  outTile (quotient (Carry.last x k v qi).l (Carry.last x k v qi).a) ![0, 128 * g.val] (slG g)

end Values

/-! ## The runs -/

attribute [local irreducible] Rect.overlay codesOut codesOutT qScaleOut kvScaleOut scalesOut scoresOf newMax newSum newAcc outTile quotient qCat masked

variable {x : Vec F S1x2048x512 .bf16} {k v : Vec F S1x2048x128 .bf16}

theorem attnStep_runs {msk : FVec F S128x512 .f32 → FVec F S128x512 .f32} {q : FVec F S512x128 .fp8e4m3} {qs : FVec F S1x512 .f32}
    {oK oS oV oS' : Fin 3 → Nat} {hK : ∀ a, oK a + S1x128x128.size a ≤ S1x2048x128.size a} {hS : ∀ a, oS a + S1x1x512.size a ≤ S16x1x512.size a}
    {hV : ∀ a, oV a + S1x128x128.size a ≤ S16x128x128.size a} {hS' : ∀ a, oS' a + S1x1x512.size a ≤ S16x1x512.size a} (kj : Fin 16)
    (eK : oK = ![0, 128 * kj.val, 0]) (eS : oS = ![kj.val, 0, 0]) (eV : oV = ![kj.val, 0, 0]) (eS' : oS' = ![kj.val, 0, 0])
    {m l : FVec F S1x512 .f32} {S : St F} (hq : Quantised x k v kj S) :
    (Runs c arg2 arg3 arg4 arg5 arg6 arg7 arg8 arg9 arg10 arg11 arg12 arg13 arg14) (attnStep arg7 arg10 arg12 arg13 arg14 msk q qs oK oS oV oS' hK hS hV hS' m l) S fun r S' =>
      ∃ a, S' = { S with acc := a } ∧ (⟨r.1, r.2, tl a rA⟩ : Carry F)
        = Carry.step msk q qs (codesOut (tl k (rKV kj))) (kvScaleOut (tl k (rKV kj))) (codesOutT (tl v (rKV kj))) (kvScaleOut (tl v (rKV kj))) ⟨m, l, tl S.acc rA⟩ := by
  subst eK eS eV eS'
  refine Runs.bind (load_of (lens_k8 S) rfl (Runs.bind (load_of (lens_ks S) rfl (Runs.bind (load_of (lens_vt S) rfl (Runs.bind (load_of (lens_acc S) rfl
    (Runs.bind (load_of (lens_vs S) rfl (Runs.bind (load_of (lens_acc S) rfl (Runs.bind (store_of (lens_acc S) (Runs.pure ?_))))))))))))))
  refine ⟨_, rfl, ?_⟩
  rw [← hq.k8, ← hq.ks, ← hq.vt, ← hq.vs, tl_overlay, shapeCast_self]
  rfl

theorem attnHead_runs {qi : Fin 16} {S : St F} (hq : Quantised x k v qi S) :
    (Runs c arg2 arg3 arg4 arg5 arg6 arg7 arg8 arg9 arg10 arg11 arg12 arg13 arg14) (attnHead arg6 arg11 arg14 qi) S fun r S' =>
      r = (qCodes x qi, shapeCast S1x512 (qRow x qi) shapeCasts_S1x1x512_S1x512) ∧
      ∃ a, S' = { S with acc := a } ∧ tl a rA = (Carry.init (F := F)).a := by
  refine Runs.bind (load_of (lens_q8 S) rfl (Runs.bind (load_of (lens_q8 S) rfl (Runs.bind (load_of (lens_q8 S) rfl (Runs.bind (load_of (lens_q8 S) rfl
    (Runs.bind (load_of (lens_qs S) rfl (Runs.bind (load_of (lens_acc S) rfl (Runs.bind (store_of (lens_acc S) (Runs.pure ?_))))))))))))))
  refine ⟨?_, _, rfl, ?_⟩
  · have e : tl S.qs (rS qi) = qRow x qi := by
      funext i
      have h2 : (i 2).val < 512 := (i 2).isLt
      have h0 : (i 0).val < 1 := (i 0).isLt
      have h1 : (i 1).val < 1 := (i 1).isLt
      unfold qRow
      rw [← hq.qs]
      refine congrArg S.qs (funext fun a => Fin.ext ?_)
      match a with
      | ⟨0, _⟩ => show qi.val + 1 * (i 0).val = qi.val + 1 * 0; omega
      | ⟨1, _⟩ => show 0 + 1 * (i 1).val = 0 + 1 * 0; omega
      | ⟨2, _⟩ => show 0 + 1 * (i 2).val = 128 * ((i 2).val / 128) + 1 * ((i 2).val % 128); omega
    rw [← e]
    unfold qCodes
    rw [← hq.q8, ← hq.q8, ← hq.q8, ← hq.q8]
  · rw [tl_overlay, shapeCast_self]; rfl

/-- A state but for the accumulator and the output. -/
theorem Quantised.acc {n : Fin 16} {S : St F} (h : Quantised x k v n S) (a : Vec F S128x512 .f32) : Quantised x k v n { S with acc := a } :=
  ⟨h.q8, h.qs, h.k8, h.ks, h.v8, h.vt, h.vs, h.sc⟩
theorem Quantised.y {n : Fin 16} {S : St F} (h : Quantised x k v n S) (a : Vec F S1x2048x512 .bf16) : Quantised x k v n { S with y := a } :=
  ⟨h.q8, h.qs, h.k8, h.ks, h.v8, h.vt, h.vs, h.sc⟩

theorem attnMid_runs {qi : Fin 16} {S : St F} (hq : ∀ n, Quantised x k v n S) (h0 : tl S.acc rA = (Carry.init (F := F)).a) :
    (Runs c arg2 arg3 arg4 arg5 arg6 arg7 arg8 arg9 arg10 arg11 arg12 arg13 arg14) (attnMid arg7 arg10 arg12 arg13 arg14 qi (qCodes x qi) (shapeCast S1x512 (qRow x qi) shapeCasts_S1x1x512_S1x512)) S fun r S' =>
      ∃ a, S' = { S with acc := a } ∧ (⟨r.1, r.2, tl a rA⟩ : Carry F) = Carry.upTo x k v qi qi.val := by
  match qi with
  | ⟨0, _⟩ =>
    refine Runs.pure ⟨S.acc, rfl, ?_⟩
    rw [h0]; rfl
  | ⟨1, _⟩ =>
    refine (attnStep_runs 0 rfl rfl rfl rfl (hq 0)).mono ?_
    rintro r _ ⟨a, rfl, e⟩
    refine ⟨a, rfl, e.trans ?_⟩
    rw [h0, Carry.upTo_succ _ _ _ _ 0 (by decide)]; rfl
  | ⟨n + 2, h⟩ =>
    have ht := lp_trips ⟨n + 2, h⟩
    refine (Runs.loop (lp ⟨n + 2, h⟩) (lp_ok ⟨n + 2, h⟩) carry0 _
      (fun j r S' => ∃ a, S' = { S with acc := a } ∧ (⟨r.1, r.2, tl a rA⟩ : Carry F) = Carry.upTo x k v ⟨n + 2, h⟩ j) ?_ ⟨S.acc, rfl, ?_⟩).mono ?_
    · rintro t ⟨m, l⟩ _ ⟨a, rfl, e⟩
      refine (attnStep_runs (kOf ⟨n + 2, h⟩ t) (offK_eq _ t) (offS_eq _ t) (offS_eq _ t) (offS_eq _ t) ((hq (kOf ⟨n + 2, h⟩ t)).acc a)).mono ?_
      rintro r _ ⟨a', rfl, e'⟩
      refine ⟨a', rfl, e'.trans ?_⟩
      have ht' : t.val < 16 := (kOf ⟨n + 2, h⟩ t).isLt
      rw [Carry.upTo_succ _ _ _ _ _ ht', ← e]; rfl
    · rw [h0]; rfl
    · rintro r S' ⟨a, e1, e2⟩
      exact ⟨a, e1, e2.trans (congrArg _ ht)⟩

theorem attnStore_runs {qi : Fin 16} {g : Fin 4} {off : Fin 2 → Nat} {h : S128x512.Slices off S128x128} {o : FVec F S128x512 .f32} {S : St F}
    {P : PUnit → St F → Prop} (hP : P ⟨⟩ { S with y := (rX qi g).overlay S.y (outTile o off h) }) :
    (Runs c arg2 arg3 arg4 arg5 arg6 arg7 arg8 arg9 arg10 arg11 arg12 arg13 arg14) (attnStore arg5 harg5 qi g off h o) S P :=
  Runs.bind (load_of (lens_y S) rfl (store_of (lens_y S) hP))

theorem attnBlock_runs {qi : Fin 16} {S : St F} (hq : ∀ n, Quantised x k v n S) :
    (Runs c arg2 arg3 arg4 arg5 arg6 arg7 arg8 arg9 arg10 arg11 arg12 arg13 arg14) (attnBlock arg5 harg5 arg6 arg7 arg10 arg11 arg12 arg13 arg14 qi) S fun _ S' =>
      ∃ a, S' = { S with acc := a, y := (rX qi 3).overlay ((rX qi 2).overlay ((rX qi 1).overlay ((rX qi 0).overlay S.y (outAt x k v qi 0)) (outAt x k v qi 1)) (outAt x k v qi 2)) (outAt x k v qi 3) } := by
  refine Runs.bind ((attnHead_runs (hq qi)).mono ?_)
  rintro _ _ ⟨rfl, a0, rfl, h0⟩
  refine Runs.bind ((attnMid_runs (fun n => (hq n).acc a0) h0).mono ?_)
  rintro ⟨m, l⟩ _ ⟨a1, rfl, e1⟩
  refine Runs.bind ((attnStep_runs qi rfl rfl rfl rfl ((hq qi).acc a1)).mono ?_)
  rintro ⟨m', l'⟩ _ ⟨a2, rfl, e2⟩
  have e3 : (⟨m', l', tl a2 rA⟩ : Carry F) = Carry.last x k v qi := e2.trans (by
    show Carry.step _ _ _ _ _ _ _ ⟨m, l, tl a1 rA⟩ = _
    rw [e1]; rfl)
  have el : l' = (Carry.last x k v qi).l := congrArg Carry.l e3
  have ea : tl a2 rA = (Carry.last x k v qi).a := congrArg Carry.a e3
  refine Runs.bind (load_of (lens_acc _) rfl (Runs.bind (attnStore_runs (Runs.bind (attnStore_runs (Runs.bind (attnStore_runs
    (attnStore_runs ⟨a2, ?_⟩))))))))
  unfold outAt
  rw [← el, ← ea]
  rfl

/-- The sixteen attention blocks. -/
theorem attns_run (ns : List (Fin 16)) {S : St F} (hi : Ins x k v S) (h : ∀ n, Quantised x k v n S) :
    (Runs c arg2 arg3 arg4 arg5 arg6 arg7 arg8 arg9 arg10 arg11 arg12 arg13 arg14) (inOrder (attnBlock arg5 harg5 arg6 arg7 arg10 arg11 arg12 arg13 arg14) ns) S fun _ S' =>
      Ins x k v S' ∧ (∀ n, Quantised x k v n S') ∧ ∀ n ∈ ns, ∀ g, tl S'.y (rX n g) = outAt x k v n g := by
  refine (Runs.inOrder (fun done S => Ins x k v S ∧ (∀ n, Quantised x k v n S) ∧ ∀ n ∈ done, ∀ g, tl S.y (rX n g) = outAt x k v n g) ?_ ns [] S ⟨hi, h, by simp⟩).mono ?_
  · rintro n done S ⟨h1, h2, h3⟩
    refine (attnBlock_runs h2).mono ?_
    rintro _ _ ⟨a, rfl⟩
    refine ⟨⟨h1.x, h1.k, h1.v⟩, fun n' => ((h2 n').acc a).y _, fun n' hn' g => ?_⟩
    by_cases e : n = n'
    · subst e; exact tl_four S.y n (outAt x k v n) g
    · exact (tl_four' S.y n n' e (outAt x k v n) g).trans (h3 n' ((List.mem_cons.mp hn').resolve_left fun e' => e e'.symm) g)
  · rintro _ S' ⟨h1, h2, h3⟩
    exact ⟨h1, h2, fun n hn => h3 n (by simpa using hn)⟩

/-- The body: every tile of every output. -/
theorem body_runs {S : St F} (hi : Ins x k v S) :
    (Runs c arg2 arg3 arg4 arg5 arg6 arg7 arg8 arg9 arg10 arg11 arg12 arg13 arg14) (body arg2 arg3 arg4 arg5 harg5 arg6 harg6 arg7 harg7 arg8 harg8 arg9 arg10 harg10 arg11 arg12 arg13 arg14) S fun _ S' =>
      Ins x k v S' ∧ (∀ n, Quantised x k v n S') ∧ ∀ n g, tl S'.y (rX n g) = outAt x k v n g := by
  refine Runs.bind ((quants_run _ hi).mono ?_)
  rintro _ S1 ⟨h1, h2⟩
  refine (attns_run _ h1 fun n => h2 n (by revert n; decide)).mono ?_
  rintro _ S2 ⟨h3, h4, h5⟩
  exact ⟨h3, h4, fun n => h5 n (by revert n; decide)⟩

end Cert.KernelIdeal.Hand

end
-- ==== Proof.BodyEq.lean ====
/- The printed body is the thirty-two blocks of BlockProg in order. -/
module

public import proofs.«01_k».proof.Proof.BlockProg

@[expose] public section

noncomputable section

namespace Cert.KernelIdeal.Hand

open Idealize.ShloMosaic Idealize.ShloMosaic.TcCoe Idealize.SL.Sem
open Cert.KernelIdeal Cert.KernelIdeal.Gen

/-! Two programs are equal when they begin with the same access and go on alike, whatever it answers. -/

section Congr
universe v
variable {E : Type → Type v} {α β γ δ ε : Type}

theorem op_congr (e : E β) {k k' : β → Prog E α} (h : ∀ x, k x = k' x) : Prog.op e k = Prog.op e k' := congrArg _ (funext h)

theorem assoc (p : Prog E β) (k : β → Prog E γ) (k' : γ → Prog E α) : (p.bind k).bind k' = p.bind fun x => (k x).bind k' := Prog.bind_assoc p k k'

/-! An opaque loop under the binds the two texts nest it in. -/

variable {w : ℕ} {lb ub st : BitVec w} {hok : Scf.OK lb ub st} {init : β} {body : Fin (Scf.trips lb ub st) → β → Prog E β}

theorem loop_congr {k k' : β → Prog E α} (h : ∀ x, k x = k' x) :
    (Scf.for lb ub st hok init body).bind k = (Scf.for lb ub st hok init body).bind k' := congrArg _ (funext h)

theorem loop_assoc2 {k : β → Prog E γ} {k1 : γ → Prog E α} {A : Prog E α}
    (h : (Scf.for lb ub st hok init body).bind (fun x => (k x).bind k1) = A) : ((Scf.for lb ub st hok init body).bind k).bind k1 = A := by
  rw [assoc]; exact h

theorem loop_assoc3 {k : β → Prog E γ} {k1 : γ → Prog E δ} {k2 : δ → Prog E α} {A : Prog E α}
    (h : (Scf.for lb ub st hok init body).bind (fun x => ((k x).bind k1).bind k2) = A) :
    (((Scf.for lb ub st hok init body).bind k).bind k1).bind k2 = A := by
  simp only [assoc] at h ⊢; exact h

theorem loop_assoc4 {k : β → Prog E γ} {k1 : γ → Prog E δ} {k2 : δ → Prog E ε} {k3 : ε → Prog E α} {A : Prog E α}
    (h : (Scf.for lb ub st hok init body).bind (fun x => (((k x).bind k1).bind k2).bind k3) = A) :
    ((((Scf.for lb ub st hok init body).bind k).bind k1).bind k2).bind k3 = A := by
  simp only [assoc] at h ⊢; exact h

end Congr

variable {F : FTy → Type} [FloatOps F] [Named F]

set_option maxRecDepth 100000 in
set_option maxHeartbeats 0 in
/-- The printed body, regrouped by block: both are the same accesses in the same order. -/
theorem body_eq (i : grid0.Coords) (arg2 : Memref sig .tc .vmem S1x2048x512 .bf16) (harg2 : arg2.IsWhole) (arg3 : Memref sig .tc .vmem S1x2048x128 .bf16) (harg3 : arg3.IsWhole) (arg4 : Memref sig .tc .vmem S1x2048x128 .bf16) (harg4 : arg4.IsWhole) (arg5 : Memref sig .tc .vmem S1x2048x512 .bf16) (harg5 : arg5.IsWhole) (arg6 : Memref sig .tc .vmem S1x2048x512 .fp8e4m3) (harg6 : arg6.IsWhole) (arg7 : Memref sig .tc .vmem S1x2048x128 .fp8e4m3) (harg7 : arg7.IsWhole) (arg8 : Memref sig .tc .vmem S1x2048x128 .fp8e4m3) (harg8 : arg8.IsWhole) (arg9 : Memref sig .tc .vmem S1x1x16x128 .f32) (harg9 : arg9.IsWhole) (arg10 : Memref sig .tc .vmem S16x128x128 .fp8e4m3) (harg10 : arg10.IsWhole) (arg11 : Memref sig .tc .vmem S16x1x512 .f32) (harg11 : arg11.IsWhole) (arg12 : Memref sig .tc .vmem S16x1x512 .f32) (harg12 : arg12.IsWhole) (arg13 : Memref sig .tc .vmem S16x1x512 .f32) (harg13 : arg13.IsWhole) (arg14 : Memref sig .tc .vmem S128x512 .f32) (harg14 : arg14.IsWhole) :
    (cc0_fp8_gqa_attention i arg2 harg2 arg3 harg3 arg4 harg4 arg5 harg5 arg6 harg6 arg7 harg7 arg8 harg8 arg9 harg9 arg10 harg10 arg11 harg11 arg12 harg12 arg13 harg13 arg14 harg14 : Prog (TpuEff nD τ sig (Elt F) Λ₀ .tc) PUnit) =
      body arg2 arg3 arg4 arg5 harg5 arg6 harg6 arg7 harg7 arg8 harg8 arg9 arg10 harg10 arg11 arg12 arg13 arg14 := by
  iterate 604 (refine op_congr _ fun _ => ?_)
  iterate 13
    (first | refine loop_assoc4 ?_ | refine loop_assoc3 ?_ | refine loop_assoc2 ?_ | skip
     refine Eq.symm ?_
     first | refine loop_assoc4 ?_ | refine loop_assoc3 ?_ | refine loop_assoc2 ?_ | skip
     refine Eq.symm ?_
     refine loop_congr fun _ => ?_
     iterate 23 (refine op_congr _ fun _ => ?_))
  first | refine loop_assoc4 ?_ | refine loop_assoc3 ?_ | refine loop_assoc2 ?_ | skip
  refine Eq.symm ?_
  first | refine loop_assoc4 ?_ | refine loop_assoc3 ?_ | refine loop_assoc2 ?_ | skip
  refine Eq.symm ?_
  refine loop_congr fun _ => ?_
  rfl

end Cert.KernelIdeal.Hand

end
-- ==== Proof.KernelValue.lean ====
/- The kernel's run with its outputs named. One grid point leaves in each output's buffer one function of the three
   input blocks (`outY`, `outQ`, `outKV`, `outSc`), tile by tile what `body_runs` says; so the launch leaves in each output
   array one function of the argument arrays. -/
module

public import proofs.«01_k».proof.Proof.AttnRun
public import proofs.«01_k».proof.Proof.BodyEq
public import Idealize.ShloMosaic.Lib.Claim
public import Idealize.ShloMosaic.Lib.Pipeline.Value

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

/-! ## A buffer from its tiles -/

/-- An index of a 128 × 128 tile. -/
abbrev ixT (r c : ℕ) (hr : r < 128) (hc : c < 128) : S1x128x128.Idx := fun a => match a with
  | ⟨0, _⟩ => ⟨0, Nat.one_pos⟩
  | ⟨1, _⟩ => ⟨r, hr⟩
  | ⟨2, _⟩ => ⟨c, hc⟩

/-- An index of a row of scales. -/
abbrev ixL (l : ℕ) (hl : l < 128) : S1x1x1x128.Idx := fun a => match a with
  | ⟨0, _⟩ => ⟨0, Nat.one_pos⟩
  | ⟨1, _⟩ => ⟨0, Nat.one_pos⟩
  | ⟨2, _⟩ => ⟨0, Nat.one_pos⟩
  | ⟨3, _⟩ => ⟨l, hl⟩

/-- Sixteen by four tiles. -/
def tiledX {e : EltTy} (f : Fin 16 → Fin 4 → Vec F S1x128x128 e) : Vec F S1x2048x512 e := fun i =>
  f ⟨(i 1).val / 128, by have : (i 1).val < 2048 := (i 1).isLt; omega⟩ ⟨(i 2).val / 128, by have : (i 2).val < 512 := (i 2).isLt; omega⟩
    (ixT ((i 1).val % 128) ((i 2).val % 128) (Nat.mod_lt _ (by decide)) (Nat.mod_lt _ (by decide)))

/-- Sixteen tiles. -/
def tiledKV {e : EltTy} (f : Fin 16 → Vec F S1x128x128 e) : Vec F S1x2048x128 e := fun i =>
  f ⟨(i 1).val / 128, by have : (i 1).val < 2048 := (i 1).isLt; omega⟩ (ixT ((i 1).val % 128) (i 2).val (Nat.mod_lt _ (by decide)) (i 2).isLt)

/-- Sixteen rows. -/
def tiledSc {e : EltTy} (f : Fin 16 → Vec F S1x1x1x128 e) : Vec F S1x1x16x128 e := fun i => f ⟨(i 2).val, (i 2).isLt⟩ (ixL (i 3).val (i 3).isLt)

theorem eq_tiledX {e : EltTy} {X : Vec F S1x2048x512 e} {f : Fin 16 → Fin 4 → Vec F S1x128x128 e} (h : ∀ n g, tl X (rX n g) = f n g) : X = tiledX f := by
  funext i
  unfold tiledX
  rw [← h]
  refine congrArg X (funext fun a => Fin.ext ?_)
  match a with
  | ⟨0, _⟩ => have : (i 0).val < 1 := (i 0).isLt; show (i 0).val = 0 + 1 * 0; omega
  | ⟨1, _⟩ => show (i 1).val = 128 * ((i 1).val / 128) + 1 * ((i 1).val % 128); omega
  | ⟨2, _⟩ => show (i 2).val = 128 * ((i 2).val / 128) + 1 * ((i 2).val % 128); omega

theorem eq_tiledKV {e : EltTy} {X : Vec F S1x2048x128 e} {f : Fin 16 → Vec F S1x128x128 e} (h : ∀ n, tl X (rKV n) = f n) : X = tiledKV f := by
  funext i
  unfold tiledKV
  rw [← h]
  refine congrArg X (funext fun a => Fin.ext ?_)
  match a with
  | ⟨0, _⟩ => have : (i 0).val < 1 := (i 0).isLt; show (i 0).val = 0 + 1 * 0; omega
  | ⟨1, _⟩ => show (i 1).val = 128 * ((i 1).val / 128) + 1 * ((i 1).val % 128); omega
  | ⟨2, _⟩ => show (i 2).val = 0 + 1 * (i 2).val; omega

theorem eq_tiledSc {e : EltTy} {X : Vec F S1x1x16x128 e} {f : Fin 16 → Vec F S1x1x1x128 e} (h : ∀ n, tl X (rSc n) = f n) : X = tiledSc f := by
  funext i
  refine Eq.trans (congrArg X (funext fun a => Fin.ext ?_)) (congrFun (h ⟨(i 2).val, (i 2).isLt⟩) (ixL (i 3).val (i 3).isLt))
  match a with
  | ⟨0, _⟩ => have : (i 0).val < 1 := (i 0).isLt; show (i 0).val = 0 + 1 * 0; omega
  | ⟨1, _⟩ => have : (i 1).val < 1 := (i 1).isLt; show (i 1).val = 0 + 1 * 0; omega
  | ⟨2, _⟩ => show (i 2).val = (i 2).val + 1 * 0; omega
  | ⟨3, _⟩ => show (i 3).val = 0 + 1 * (i 3).val; omega

/-- A point's block of the attention output, -/
def outY (x : Vec F S1x2048x512 .bf16) (k v : Vec F S1x2048x128 .bf16) : Vec F S1x2048x512 .bf16 := tiledX (outAt x k v)
/-- of the query codes, -/
def outQ (x : Vec F S1x2048x512 .bf16) : Vec F S1x2048x512 .fp8e4m3 := tiledX fun n g => codesOut (tl x (rX n g))
/-- of the key or value codes, -/
def outKV (k : Vec F S1x2048x128 .bf16) : Vec F S1x2048x128 .fp8e4m3 := tiledKV fun n => codesOut (tl k (rKV n))
/-- and of the scales. -/
def outSc (x : Vec F S1x2048x512 .bf16) (k v : Vec F S1x2048x128 .bf16) : Vec F S1x1x16x128 .f32 :=
  tiledSc fun n => scalesOut (tl x (rX n 0)) (tl x (rX n 1)) (tl x (rX n 2)) (tl x (rX n 3)) (tl k (rKV n)) (tl v (rKV n))

/-! ## One point -/

/-- The body on whole buffers: the inputs kept, each output at its function of the inputs. -/
theorem kernel_run (c : Dev nD) (i : grid0.Coords) (arg2 : Memref sig .tc .vmem S1x2048x512 .bf16) (harg2 : arg2.IsWhole) (arg3 : Memref sig .tc .vmem S1x2048x128 .bf16) (harg3 : arg3.IsWhole) (arg4 : Memref sig .tc .vmem S1x2048x128 .bf16) (harg4 : arg4.IsWhole) (arg5 : Memref sig .tc .vmem S1x2048x512 .bf16) (harg5 : arg5.IsWhole) (arg6 : Memref sig .tc .vmem S1x2048x512 .fp8e4m3) (harg6 : arg6.IsWhole) (arg7 : Memref sig .tc .vmem S1x2048x128 .fp8e4m3) (harg7 : arg7.IsWhole) (arg8 : Memref sig .tc .vmem S1x2048x128 .fp8e4m3) (harg8 : arg8.IsWhole) (arg9 : Memref sig .tc .vmem S1x1x16x128 .f32) (harg9 : arg9.IsWhole) (arg10 : Memref sig .tc .vmem S16x128x128 .fp8e4m3) (harg10 : arg10.IsWhole) (arg11 : Memref sig .tc .vmem S16x1x512 .f32) (harg11 : arg11.IsWhole) (arg12 : Memref sig .tc .vmem S16x1x512 .f32) (harg12 : arg12.IsWhole) (arg13 : Memref sig .tc .vmem S16x1x512 .f32) (harg13 : arg13.IsWhole) (arg14 : Memref sig .tc .vmem S128x512 .f32) (harg14 : arg14.IsWhole)
    (x : Vec F S1x2048x512 .bf16) (k v : Vec F S1x2048x128 .bf16) (E : Set ℕ) (K : PUnit → sProp 𝕄) :
    iprop(owns (c : Thread nD τ) arg2 fullShare x ∗ owns (c : Thread nD τ) arg3 fullShare k ∗ owns (c : Thread nD τ) arg4 fullShare v ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
        ∗ (iprop(owns (c : Thread nD τ) arg2 fullShare x ∗ owns (c : Thread nD τ) arg3 fullShare k ∗ owns (c : Thread nD τ) arg4 fullShare v ∗ owns (c : Thread nD τ) arg5 fullShare (outY x k v) ∗ owns (c : Thread nD τ) arg6 fullShare (outQ x) ∗ owns (c : Thread nD τ) arg7 fullShare (outKV k) ∗ owns (c : Thread nD τ) arg8 fullShare (outKV v) ∗ owns (c : Thread nD τ) arg9 fullShare (outSc x k v) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)) -∗ K ⟨⟩))
      ⊢ wp frame (wpE (defs₀ (F := F)) Variants.none c none) E (cc0_fp8_gqa_attention i arg2 harg2 arg3 harg3 arg4 harg4 arg5 harg5 arg6 harg6 arg7 harg7 arg8 harg8 arg9 harg9 arg10 harg10 arg11 harg11 arg12 harg12 arg13 harg13 arg14 harg14) K := by
  rw [body_eq]
  iintro ⟨H0, H1, H2, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, Hk⟩
  have hr := body_runs (c := c) (arg2 := arg2) (arg3 := arg3) (arg4 := arg4) (arg5 := arg5) (arg6 := arg6) (arg7 := arg7) (arg8 := arg8) (arg9 := arg9) (arg10 := arg10) (arg11 := arg11) (arg12 := arg12) (arg13 := arg13) (arg14 := arg14)
    (harg5 := harg5) (harg6 := harg6) (harg7 := harg7) (harg8 := harg8) (harg10 := harg10) (x := x) (k := k) (v := v)
    (S := ⟨x, k, v, d3, d4, d5, d6, d7, d8, d9, d10, d11, d12⟩) ⟨rfl, rfl, rfl⟩
  iapply (hr.wp E K)
  unfold st
  isplitl [H0 H1 H2 H3 H4 H5 H6 H7 H8 H9 H10 H11 H12]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12
  iintro %S' %hS ⟨H0, H1, H2, H3, H4, H5, H6, H7, H8, H9, H10, H11, H12⟩
  obtain ⟨hI, hQ, hY⟩ := hS
  iapply Hk
  rw [hI.x, hI.k, hI.v, show S'.y = outY x k v from eq_tiledX hY, show S'.q8 = outQ x from eq_tiledX fun n => (hQ n).q8,
    show S'.k8 = outKV k from eq_tiledKV fun n => (hQ n).k8, show S'.v8 = outKV v from eq_tiledKV fun n => (hQ n).v8,
    show S'.sc = outSc x k v from eq_tiledSc fun n => (hQ n).sc]
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  isplitl [H11]; · iexists _; iexact H11
  iexists _; iexact H12

/-! ## The pipeline's proof data -/

variable (m : (ℓ : Loc nD τ sig) → Buf (Elt F) ℓ) (ρ : Dev nD → PrngReg)

/-- The arrays as the region finds them; after the body each input's buffer at its block and each output's at its function
    of the input blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outY (iblk m c 0 t) (iblk m c 1 t) (iblk m c 2 t)
    | ⟨4, _⟩ => outQ (iblk m c 0 t)
    | ⟨5, _⟩ => outKV (iblk m c 1 t)
    | ⟨6, _⟩ => outKV (iblk m c 2 t)
    | ⟨7, _⟩ => outSc (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = outY (iblk m c 0 t) (iblk m c 1 t) (iblk m c 2 t) := by dsimp only [dats]
theorem after0_4 (c : Dev nD) (t : Fin cfg0.N) : (dats m 0 c).after 4 t = outQ (iblk m c 0 t) := by dsimp only [dats]
theorem after0_5 (c : Dev nD) (t : Fin cfg0.N) : (dats m 0 c).after 5 t = outKV (iblk m c 1 t) := by dsimp only [dats]
theorem after0_6 (c : Dev nD) (t : Fin cfg0.N) : (dats m 0 c).after 6 t = outKV (iblk m c 2 t) := by dsimp only [dats]
theorem after0_7 (c : Dev nD) (t : Fin cfg0.N) : (dats m 0 c).after 7 t = outSc (iblk m c 0 t) (iblk m c 1 t) (iblk m c 2 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t))

set_option maxHeartbeats 1200000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7]
  rw [show (dats m 0 c).Φ t.castSucc = Pipeline.ΦA spec0 c from rfl, PhiA0_eq]
  iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (kernel_run c (grid0.coords t) _ _ _ _ _ _ _ _ _ _ _ _ _ _ _ _ _ _ _ _ _ _ _ _ _ _ (iblk m c 0 t) (iblk m c 1 t) (iblk m c 2 t) Set.univ _)
  isplitl [H0]; · iexact H0
  isplitl [H1]; · iexact H1
  isplitl [H2]; · iexact H2
  isplitl [H3]; · iexists _; iexact H3
  isplitl [H4]; · iexists _; iexact H4
  isplitl [H5]; · iexists _; iexact H5
  isplitl [H6]; · iexists _; iexact H6
  isplitl [H7]; · iexists _; iexact H7
  isplitl [HS0]; · iexact HS0
  isplitl [HS1]; · iexact HS1
  isplitl [HS2]; · iexact HS2
  isplitl [HS3]; · iexact HS3
  isplitl [HS4]; · iexact HS4
  iintro ⟨H0, H1, H2, H3, H4, H5, H6, H7, HS0, HS1, HS2, HS3, HS4⟩
  isplitl [HS0 HS1 HS2 HS3 HS4 Hg]
  · isplitl [HS0 HS1 HS2 HS3 HS4]
    · isplitl [HS0]; · iexact HS0
      isplitl [HS1]; · iexact HS1
      isplitl [HS2]; · iexact HS2
      isplitl [HS3]; · iexact HS3
      iexact HS4
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

-- `θ_run_frame`'s implicit arguments are found by unifying its conclusion with this one, which takes unfolding plain
-- definitions in a metavariable's type
set_option backward.isDefEq.respectTransparency.types false in
set_option maxHeartbeats 800000 in
/-- The launch, with every semaphore counter at zero at the end: every array of the pipeline ends at what the library
    computes from the proof data, every other buffer at what the host lines after the region leave there. -/
theorem run_main_quiescent : θ_run defs (onTc (τ := τ) (main (F := F))) (s₀ m ρ)
    (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The same without the counters. -/
theorem run_main : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_main_quiescent m ρ)

end Cert.KernelIdeal.Hand

end
-- ==== Proof.KernelArrays.lean ====
/- The kernel's result arrays as functions of the argument arrays: the grid's 64 points (batch, key head) each write the block
   of their coordinates, all of them together every index; so each result array is joined from what `outY`, `outQ`, `outKV`
   and `outSc` say of the argument arrays' blocks. -/
module

public import proofs.«01_k».proof.Proof.KernelValue

@[expose] public section

set_option maxRecDepth 16384

noncomputable section

namespace Cert.KernelIdeal.Hand

open Idealize.ShloMosaic Idealize.ShloMosaic.TcCoe Idealize.SL.Sem
open Idealize.ShloMosaic.Pipeline (Dat)
open Cert.KernelIdeal Cert.KernelIdeal.Gen

variable {F : FTy → Type} [FloatOps F] [Named F]

/-! ## Blocks of arrays and arrays of blocks -/

abbrev ixX (b : Fin 8) (r : Fin 2048) (l : Fin 4096) : S8x2048x4096.Idx := fun a => match a with
  | ⟨0, _⟩ => b
  | ⟨1, _⟩ => r
  | ⟨2, _⟩ => l
abbrev ixKV (b : Fin 8) (r : Fin 2048) (l : Fin 1024) : S8x2048x1024.Idx := fun a => match a with
  | ⟨0, _⟩ => b
  | ⟨1, _⟩ => r
  | ⟨2, _⟩ => l
abbrev ixBX (r : Fin 2048) (l : Fin 512) : S1x2048x512.Idx := fun a => match a with
  | ⟨0, _⟩ => ⟨0, Nat.one_pos⟩
  | ⟨1, _⟩ => r
  | ⟨2, _⟩ => l
abbrev ixBKV (r : Fin 2048) (l : Fin 128) : S1x2048x128.Idx := fun a => match a with
  | ⟨0, _⟩ => ⟨0, Nat.one_pos⟩
  | ⟨1, _⟩ => r
  | ⟨2, _⟩ => l
abbrev ixBSc (n : Fin 16) (l : Fin 128) : S1x1x16x128.Idx := fun a => match a with
  | ⟨0, _⟩ => ⟨0, Nat.one_pos⟩
  | ⟨1, _⟩ => ⟨0, Nat.one_pos⟩
  | ⟨2, _⟩ => n
  | ⟨3, _⟩ => l

/-- Batch `b`, heads `4j … 4j+3` of the queries, -/
def blkX {e : EltTy} (X : Vec F S8x2048x4096 e) (b j : Fin 8) : Vec F S1x2048x512 e := fun i =>
  X (ixX b ⟨(i 1).val, (i 1).isLt⟩ ⟨512 * j.val + (i 2).val, by have : (i 2).val < 512 := (i 2).isLt; omega⟩)
/-- and head `j` of the keys or values. -/
def blkKV {e : EltTy} (X : Vec F S8x2048x1024 e) (b j : Fin 8) : Vec F S1x2048x128 e := fun i =>
  X (ixKV b ⟨(i 1).val, (i 1).isLt⟩ ⟨128 * j.val + (i 2).val, by have : (i 2).val < 128 := (i 2).isLt; omega⟩)

/-- An array from its blocks. -/
def joinX {e : EltTy} (f : Fin 8 → Fin 8 → Vec F S1x2048x512 e) : Vec F S8x2048x4096 e := fun i =>
  f ⟨(i 0).val, (i 0).isLt⟩ ⟨(i 2).val / 512, by have : (i 2).val < 4096 := (i 2).isLt; omega⟩
    (ixBX ⟨(i 1).val, (i 1).isLt⟩ ⟨(i 2).val % 512, Nat.mod_lt _ (by decide)⟩)
def joinKV {e : EltTy} (f : Fin 8 → Fin 8 → Vec F S1x2048x128 e) : Vec F S8x2048x1024 e := fun i =>
  f ⟨(i 0).val, (i 0).isLt⟩ ⟨(i 2).val / 128, by have : (i 2).val < 1024 := (i 2).isLt; omega⟩
    (ixBKV ⟨(i 1).val, (i 1).isLt⟩ ⟨(i 2).val % 128, Nat.mod_lt _ (by decide)⟩)
def joinSc {e : EltTy} (f : Fin 8 → Fin 8 → Vec F S1x1x16x128 e) : Vec F S8x8x16x128 e := fun i =>
  f ⟨(i 0).val, (i 0).isLt⟩ ⟨(i 1).val, (i 1).isLt⟩ (ixBSc ⟨(i 2).val, (i 2).isLt⟩ ⟨(i 3).val, (i 3).isLt⟩)

/-- The kernel's attention output, -/
def arrY (X : Vec F S8x2048x4096 .bf16) (K V : Vec F S8x2048x1024 .bf16) : Vec F S8x2048x4096 .bf16 :=
  joinX fun b j => outY (blkX X b j) (blkKV K b j) (blkKV V b j)
/-- its query codes, -/
def arrQ (X : Vec F S8x2048x4096 .bf16) : Vec F S8x2048x4096 .fp8e4m3 := joinX fun b j => outQ (blkX X b j)
/-- its key or value codes, -/
def arrKV (K : Vec F S8x2048x1024 .bf16) : Vec F S8x2048x1024 .fp8e4m3 := joinKV fun b j => outKV (blkKV K b j)
/-- and its scales, of the argument arrays. -/
def arrSc (X : Vec F S8x2048x4096 .bf16) (K V : Vec F S8x2048x1024 .bf16) : Vec F S8x8x16x128 .f32 :=
  joinSc fun b j => outSc (blkX X b j) (blkKV K b j) (blkKV V b j)

/-! ## The windows' blocks -/

/-- The batch and the key head of a point. -/
def gB (t : Fin cfg0.N) : Fin 8 := ⟨t.val / 8, by have : t.val < 64 := t.isLt.trans_eq N_0; omega⟩
def gJ (t : Fin cfg0.N) : Fin 8 := ⟨t.val % 8, Nat.mod_lt _ (by decide)⟩

/-- The point of a batch and a key head. -/
def pt (b j : Fin 8) : Fin cfg0.N := ⟨8 * b.val + j.val, lt_of_lt_of_eq (show 8 * b.val + j.val < 64 by omega) N_0.symm⟩

theorem gB_pt (b j : Fin 8) : gB (pt b j) = b := Fin.ext (by show (8 * b.val + j.val) / 8 = b.val; omega)
theorem gJ_pt (b j : Fin 8) : gJ (pt b j) = j := Fin.ext (by show (8 * b.val + j.val) % 8 = j.val; omega)

theorem idx0 : ∀ t : Fin cfg0.N, win0_0.index t (0 : Fin 3) = t.val / 8 ∧ win0_0.index t (1 : Fin 3) = 0 ∧ win0_0.index t (2 : Fin 3) = t.val % 8 :=
  (by decide +kernel : ∀ t : Fin grid0.N, _)
theorem idx1 : ∀ t : Fin cfg0.N, win0_1.index t (0 : Fin 3) = t.val / 8 ∧ win0_1.index t (1 : Fin 3) = 0 ∧ win0_1.index t (2 : Fin 3) = t.val % 8 :=
  (by decide +kernel : ∀ t : Fin grid0.N, _)
theorem idx2 : ∀ t : Fin cfg0.N, win0_2.index t (0 : Fin 3) = t.val / 8 ∧ win0_2.index t (1 : Fin 3) = 0 ∧ win0_2.index t (2 : Fin 3) = t.val % 8 :=
  (by decide +kernel : ∀ t : Fin grid0.N, _)
theorem idx3 : ∀ t : Fin cfg0.N, win0_3.index t (0 : Fin 3) = t.val / 8 ∧ win0_3.index t (1 : Fin 3) = 0 ∧ win0_3.index t (2 : Fin 3) = t.val % 8 :=
  (by decide +kernel : ∀ t : Fin grid0.N, _)
theorem idx4 : ∀ t : Fin cfg0.N, win0_4.index t (0 : Fin 3) = t.val / 8 ∧ win0_4.index t (1 : Fin 3) = 0 ∧ win0_4.index t (2 : Fin 3) = t.val % 8 :=
  (by decide +kernel : ∀ t : Fin grid0.N, _)
theorem idx5 : ∀ t : Fin cfg0.N, win0_5.index t (0 : Fin 3) = t.val / 8 ∧ win0_5.index t (1 : Fin 3) = 0 ∧ win0_5.index t (2 : Fin 3) = t.val % 8 :=
  (by decide +kernel : ∀ t : Fin grid0.N, _)
theorem idx6 : ∀ t : Fin cfg0.N, win0_6.index t (0 : Fin 3) = t.val / 8 ∧ win0_6.index t (1 : Fin 3) = 0 ∧ win0_6.index t (2 : Fin 3) = t.val % 8 :=
  (by decide +kernel : ∀ t : Fin grid0.N, _)
theorem idx7 : ∀ t : Fin cfg0.N, win0_7.index t (0 : Fin 4) = t.val / 8 ∧ win0_7.index t (1 : Fin 4) = t.val % 8 ∧ win0_7.index t (2 : Fin 4) = 0 ∧ win0_7.index t (3 : Fin 4) = 0 :=
  (by decide +kernel : ∀ t : Fin grid0.N, _)

theorem emb0 (t : Fin cfg0.N) (i : S1x2048x512.Idx) : ((cfg0.win 0).blk t).view.emb i
    = ixX (gB t) ⟨(i 1).val, (i 1).isLt⟩ ⟨512 * (gJ t).val + (i 2).val, by have : (i 2).val < 512 := (i 2).isLt; have := (gJ t).isLt; omega⟩ := by
  obtain ⟨e0, e1, e2⟩ := idx0 t
  funext a; apply Fin.ext
  match a with
  | ⟨0, _⟩ => have : (i 0).val < 1 := (i 0).isLt; show win0_0.index t (0 : Fin 3) * 1 + 1 * (i 0).val = t.val / 8; omega
  | ⟨1, _⟩ => show win0_0.index t (1 : Fin 3) * 2048 + 1 * (i 1).val = (i 1).val; omega
  | ⟨2, _⟩ => show win0_0.index t (2 : Fin 3) * 512 + 1 * (i 2).val = 512 * (t.val % 8) + (i 2).val; omega

theorem emb3 (t : Fin cfg0.N) (i : S1x2048x512.Idx) : ((cfg0.win 3).blk t).view.emb i
    = ixX (gB t) ⟨(i 1).val, (i 1).isLt⟩ ⟨512 * (gJ t).val + (i 2).val, by have : (i 2).val < 512 := (i 2).isLt; have := (gJ t).isLt; omega⟩ := by
  obtain ⟨e0, e1, e2⟩ := idx3 t
  funext a; apply Fin.ext
  match a with
  | ⟨0, _⟩ => have : (i 0).val < 1 := (i 0).isLt; show win0_3.index t (0 : Fin 3) * 1 + 1 * (i 0).val = t.val / 8; omega
  | ⟨1, _⟩ => show win0_3.index t (1 : Fin 3) * 2048 + 1 * (i 1).val = (i 1).val; omega
  | ⟨2, _⟩ => show win0_3.index t (2 : Fin 3) * 512 + 1 * (i 2).val = 512 * (t.val % 8) + (i 2).val; omega

theorem emb4 (t : Fin cfg0.N) (i : S1x2048x512.Idx) : ((cfg0.win 4).blk t).view.emb i
    = ixX (gB t) ⟨(i 1).val, (i 1).isLt⟩ ⟨512 * (gJ t).val + (i 2).val, by have : (i 2).val < 512 := (i 2).isLt; have := (gJ t).isLt; omega⟩ := by
  obtain ⟨e0, e1, e2⟩ := idx4 t
  funext a; apply Fin.ext
  match a with
  | ⟨0, _⟩ => have : (i 0).val < 1 := (i 0).isLt; show win0_4.index t (0 : Fin 3) * 1 + 1 * (i 0).val = t.val / 8; omega
  | ⟨1, _⟩ => show win0_4.index t (1 : Fin 3) * 2048 + 1 * (i 1).val = (i 1).val; omega
  | ⟨2, _⟩ => show win0_4.index t (2 : Fin 3) * 512 + 1 * (i 2).val = 512 * (t.val % 8) + (i 2).val; omega

theorem emb1 (t : Fin cfg0.N) (i : S1x2048x128.Idx) : ((cfg0.win 1).blk t).view.emb i
    = ixKV (gB t) ⟨(i 1).val, (i 1).isLt⟩ ⟨128 * (gJ t).val + (i 2).val, by have : (i 2).val < 128 := (i 2).isLt; have := (gJ t).isLt; omega⟩ := by
  obtain ⟨e0, e1, e2⟩ := idx1 t
  funext a; apply Fin.ext
  match a with
  | ⟨0, _⟩ => have : (i 0).val < 1 := (i 0).isLt; show win0_1.index t (0 : Fin 3) * 1 + 1 * (i 0).val = t.val / 8; omega
  | ⟨1, _⟩ => show win0_1.index t (1 : Fin 3) * 2048 + 1 * (i 1).val = (i 1).val; omega
  | ⟨2, _⟩ => show win0_1.index t (2 : Fin 3) * 128 + 1 * (i 2).val = 128 * (t.val % 8) + (i 2).val; omega

theorem emb2 (t : Fin cfg0.N) (i : S1x2048x128.Idx) : ((cfg0.win 2).blk t).view.emb i
    = ixKV (gB t) ⟨(i 1).val, (i 1).isLt⟩ ⟨128 * (gJ t).val + (i 2).val, by have : (i 2).val < 128 := (i 2).isLt; have := (gJ t).isLt; omega⟩ := by
  obtain ⟨e0, e1, e2⟩ := idx2 t
  funext a; apply Fin.ext
  match a with
  | ⟨0, _⟩ => have : (i 0).val < 1 := (i 0).isLt; show win0_2.index t (0 : Fin 3) * 1 + 1 * (i 0).val = t.val / 8; omega
  | ⟨1, _⟩ => show win0_2.index t (1 : Fin 3) * 2048 + 1 * (i 1).val = (i 1).val; omega
  | ⟨2, _⟩ => show win0_2.index t (2 : Fin 3) * 128 + 1 * (i 2).val = 128 * (t.val % 8) + (i 2).val; omega

theorem emb5 (t : Fin cfg0.N) (i : S1x2048x128.Idx) : ((cfg0.win 5).blk t).view.emb i
    = ixKV (gB t) ⟨(i 1).val, (i 1).isLt⟩ ⟨128 * (gJ t).val + (i 2).val, by have : (i 2).val < 128 := (i 2).isLt; have := (gJ t).isLt; omega⟩ := by
  obtain ⟨e0, e1, e2⟩ := idx5 t
  funext a; apply Fin.ext
  match a with
  | ⟨0, _⟩ => have : (i 0).val < 1 := (i 0).isLt; show win0_5.index t (0 : Fin 3) * 1 + 1 * (i 0).val = t.val / 8; omega
  | ⟨1, _⟩ => show win0_5.index t (1 : Fin 3) * 2048 + 1 * (i 1).val = (i 1).val; omega
  | ⟨2, _⟩ => show win0_5.index t (2 : Fin 3) * 128 + 1 * (i 2).val = 128 * (t.val % 8) + (i 2).val; omega

theorem emb6 (t : Fin cfg0.N) (i : S1x2048x128.Idx) : ((cfg0.win 6).blk t).view.emb i
    = ixKV (gB t) ⟨(i 1).val, (i 1).isLt⟩ ⟨128 * (gJ t).val + (i 2).val, by have : (i 2).val < 128 := (i 2).isLt; have := (gJ t).isLt; omega⟩ := by
  obtain ⟨e0, e1, e2⟩ := idx6 t
  funext a; apply Fin.ext
  match a with
  | ⟨0, _⟩ => have : (i 0).val < 1 := (i 0).isLt; show win0_6.index t (0 : Fin 3) * 1 + 1 * (i 0).val = t.val / 8; omega
  | ⟨1, _⟩ => show win0_6.index t (1 : Fin 3) * 2048 + 1 * (i 1).val = (i 1).val; omega
  | ⟨2, _⟩ => show win0_6.index t (2 : Fin 3) * 128 + 1 * (i 2).val = 128 * (t.val % 8) + (i 2).val; omega

theorem emb7 (t : Fin cfg0.N) (i : S1x1x16x128.Idx) : ((cfg0.win 7).blk t).view.emb i
    = (fun a => match a with | ⟨0, _⟩ => gB t | ⟨1, _⟩ => gJ t | ⟨2, _⟩ => i 2 | ⟨3, _⟩ => i 3 : S8x8x16x128.Idx) := by
  obtain ⟨e0, e1, e2, e3⟩ := idx7 t
  funext a; apply Fin.ext
  match a with
  | ⟨0, _⟩ => have : (i 0).val < 1 := (i 0).isLt; show win0_7.index t (0 : Fin 4) * 1 + 1 * (i 0).val = t.val / 8; omega
  | ⟨1, _⟩ => have : (i 1).val < 1 := (i 1).isLt; show win0_7.index t (1 : Fin 4) * 1 + 1 * (i 1).val = t.val % 8; omega
  | ⟨2, _⟩ => show win0_7.index t (2 : Fin 4) * 16 + 1 * (i 2).val = (i 2).val; omega
  | ⟨3, _⟩ => show win0_7.index t (3 : Fin 4) * 128 + 1 * (i 3).val = (i 3).val; omega

/-! ## The argument arrays' blocks at a point -/

variable (m : (ℓ : Loc nD τ sig) → Buf (Elt F) ℓ) (ρ : Dev nD → PrngReg)

theorem iblk0_eq (c : Dev nD) (t : Fin cfg0.N) : iblk m c 0 t = blkX (m ((c.tc : Thread nD τ).loc main_arg0)) (gB t) (gJ t) := by
  funext i
  show V m c main_arg0 (((cfg0.win 0).blk t).view.emb i) = _
  rw [emb0, V_main_arg0]; rfl
theorem iblk1_eq (c : Dev nD) (t : Fin cfg0.N) : iblk m c 1 t = blkKV (m ((c.tc : Thread nD τ).loc main_arg1)) (gB t) (gJ t) := by
  funext i
  show V m c main_arg1 (((cfg0.win 1).blk t).view.emb i) = _
  rw [emb1, V_main_arg1]; rfl
theorem iblk2_eq (c : Dev nD) (t : Fin cfg0.N) : iblk m c 2 t = blkKV (m ((c.tc : Thread nD τ).loc main_arg2)) (gB t) (gJ t) := by
  funext i
  show V m c main_arg2 (((cfg0.win 2).blk t).view.emb i) = _
  rw [emb2, V_main_arg2]; rfl

/-! ## What a point writes back is its block of the joined array -/

theorem joinX_at {e : EltTy} (f : Fin 8 → Fin 8 → Vec F S1x2048x512 e) (b j : Fin 8) (i : S1x2048x512.Idx) :
    joinX f (ixX b ⟨(i 1).val, (i 1).isLt⟩ ⟨512 * j.val + (i 2).val, by have : (i 2).val < 512 := (i 2).isLt; omega⟩) = f b j i := by
  have h2 : (i 2).val < 512 := (i 2).isLt
  have hj : (⟨(512 * j.val + (i 2).val) / 512, by omega⟩ : Fin 8) = j := Fin.ext (by show (512 * j.val + (i 2).val) / 512 = j.val; omega)
  refine (congrArg (fun j' => f b j' _) hj).trans (congrArg (f b j) (funext fun a => Fin.ext ?_))
  match a with
  | ⟨0, _⟩ => have : (i 0).val < 1 := (i 0).isLt; show 0 = (i 0).val; omega
  | ⟨1, _⟩ => rfl
  | ⟨2, _⟩ => show (512 * j.val + (i 2).val) % 512 = (i 2).val; omega
theorem joinKV_at {e : EltTy} (f : Fin 8 → Fin 8 → Vec F S1x2048x128 e) (b j : Fin 8) (i : S1x2048x128.Idx) :
    joinKV f (ixKV b ⟨(i 1).val, (i 1).isLt⟩ ⟨128 * j.val + (i 2).val, by have : (i 2).val < 128 := (i 2).isLt; omega⟩) = f b j i := by
  have h2 : (i 2).val < 128 := (i 2).isLt
  have hj : (⟨(128 * j.val + (i 2).val) / 128, by omega⟩ : Fin 8) = j := Fin.ext (by show (128 * j.val + (i 2).val) / 128 = j.val; omega)
  refine (congrArg (fun j' => f b j' _) hj).trans (congrArg (f b j) (funext fun a => Fin.ext ?_))
  match a with
  | ⟨0, _⟩ => have : (i 0).val < 1 := (i 0).isLt; show 0 = (i 0).val; omega
  | ⟨1, _⟩ => rfl
  | ⟨2, _⟩ => show (128 * j.val + (i 2).val) % 128 = (i 2).val; omega
theorem joinSc_at {e : EltTy} (f : Fin 8 → Fin 8 → Vec F S1x1x16x128 e) (b j : Fin 8) (i : S1x1x16x128.Idx) :
    joinSc f (fun a => match a with | ⟨0, _⟩ => b | ⟨1, _⟩ => j | ⟨2, _⟩ => i 2 | ⟨3, _⟩ => i 3 : S8x8x16x128.Idx) = f b j i := by
  refine congrArg (f b j) (funext fun a => Fin.ext ?_)
  match a with
  | ⟨0, _⟩ => have : (i 0).val < 1 := (i 0).isLt; show 0 = (i 0).val; omega
  | ⟨1, _⟩ => have : (i 1).val < 1 := (i 1).isLt; show 0 = (i 1).val; omega
  | ⟨2, _⟩ => rfl
  | ⟨3, _⟩ => rfl

theorem flushed3_eq (c : Dev nD) (t : Fin cfg0.N) :
    (dats m 0 c).flushed 3 t = ((cfg0.win 3).blk t).view.read (Elt F) (arrY (m ((c.tc : Thread nD τ).loc main_arg0)) (m ((c.tc : Thread nD τ).loc main_arg1)) (m ((c.tc : Thread nD τ).loc main_arg2))) := by
  funext i
  show (dats m 0 c).after 3 t i = arrY (m ((c.tc : Thread nD τ).loc main_arg0)) (m ((c.tc : Thread nD τ).loc main_arg1)) (m ((c.tc : Thread nD τ).loc main_arg2)) (((cfg0.win 3).blk t).view.emb i)
  rw [after0_3, iblk0_eq, iblk1_eq, iblk2_eq, emb3]
  exact (joinX_at (fun b j => outY (blkX (m ((c.tc : Thread nD τ).loc main_arg0)) b j) (blkKV (m ((c.tc : Thread nD τ).loc main_arg1)) b j) (blkKV (m ((c.tc : Thread nD τ).loc main_arg2)) b j)) (gB t) (gJ t) i).symm

theorem flushed4_eq (c : Dev nD) (t : Fin cfg0.N) :
    (dats m 0 c).flushed 4 t = ((cfg0.win 4).blk t).view.read (Elt F) (arrQ (m ((c.tc : Thread nD τ).loc main_arg0))) := by
  funext i
  show (dats m 0 c).after 4 t i = arrQ (m ((c.tc : Thread nD τ).loc main_arg0)) (((cfg0.win 4).blk t).view.emb i)
  rw [after0_4, iblk0_eq, emb4]
  exact (joinX_at (fun b j => outQ (blkX (m ((c.tc : Thread nD τ).loc main_arg0)) b j)) (gB t) (gJ t) i).symm

theorem flushed5_eq (c : Dev nD) (t : Fin cfg0.N) :
    (dats m 0 c).flushed 5 t = ((cfg0.win 5).blk t).view.read (Elt F) (arrKV (m ((c.tc : Thread nD τ).loc main_arg1))) := by
  funext i
  show (dats m 0 c).after 5 t i = arrKV (m ((c.tc : Thread nD τ).loc main_arg1)) (((cfg0.win 5).blk t).view.emb i)
  rw [after0_5, iblk1_eq, emb5]
  exact (joinKV_at (fun b j => outKV (blkKV (m ((c.tc : Thread nD τ).loc main_arg1)) b j)) (gB t) (gJ t) i).symm

theorem flushed6_eq (c : Dev nD) (t : Fin cfg0.N) :
    (dats m 0 c).flushed 6 t = ((cfg0.win 6).blk t).view.read (Elt F) (arrKV (m ((c.tc : Thread nD τ).loc main_arg2))) := by
  funext i
  show (dats m 0 c).after 6 t i = arrKV (m ((c.tc : Thread nD τ).loc main_arg2)) (((cfg0.win 6).blk t).view.emb i)
  rw [after0_6, iblk2_eq, emb6]
  exact (joinKV_at (fun b j => outKV (blkKV (m ((c.tc : Thread nD τ).loc main_arg2)) b j)) (gB t) (gJ t) i).symm

theorem flushed7_eq (c : Dev nD) (t : Fin cfg0.N) :
    (dats m 0 c).flushed 7 t = ((cfg0.win 7).blk t).view.read (Elt F) (arrSc (m ((c.tc : Thread nD τ).loc main_arg0)) (m ((c.tc : Thread nD τ).loc main_arg1)) (m ((c.tc : Thread nD τ).loc main_arg2))) := by
  funext i
  show (dats m 0 c).after 7 t i = arrSc (m ((c.tc : Thread nD τ).loc main_arg0)) (m ((c.tc : Thread nD τ).loc main_arg1)) (m ((c.tc : Thread nD τ).loc main_arg2)) (((cfg0.win 7).blk t).view.emb i)
  rw [after0_7, iblk0_eq, iblk1_eq, iblk2_eq, emb7]
  exact (joinSc_at (fun b j => outSc (blkX (m ((c.tc : Thread nD τ).loc main_arg0)) b j) (blkKV (m ((c.tc : Thread nD τ).loc main_arg1)) b j) (blkKV (m ((c.tc : Thread nD τ).loc main_arg2)) b j)) (gB t) (gJ t) i).symm

/-! ## Every index is in some point's block -/

theorem cover3 (i : S8x2048x4096.Idx) : ∃ t : Fin cfg0.N, (cfg0.win 3).flush t = true ∧ i ∈ ((cfg0.win 3).blk t).view.set := by
  have h2 : (i 2).val < 4096 := (i 2).isLt
  refine ⟨pt ⟨(i 0).val, (i 0).isLt⟩ ⟨(i 2).val / 512, by omega⟩, flush0_3 _, ?_⟩
  have h := ((cfg0.win 3).blk (pt ⟨(i 0).val, (i 0).isLt⟩ ⟨(i 2).val / 512, by omega⟩)).view.emb_mem_set
    (ixBX ⟨(i 1).val, (i 1).isLt⟩ ⟨(i 2).val % 512, Nat.mod_lt _ (by decide)⟩)
  refine (congrArg (· ∈ _) ((emb3 _ _).trans (funext fun a => Fin.ext ?_))).mp h
  match a with
  | ⟨0, _⟩ => exact congrArg Fin.val (gB_pt _ _)
  | ⟨1, _⟩ => rfl
  | ⟨2, _⟩ => exact (congrArg (fun j : Fin 8 => 512 * j.val + (i 2).val % 512) (gJ_pt _ _)).trans (Nat.div_add_mod _ _)

theorem cover4 (i : S8x2048x4096.Idx) : ∃ t : Fin cfg0.N, (cfg0.win 4).flush t = true ∧ i ∈ ((cfg0.win 4).blk t).view.set := by
  have h2 : (i 2).val < 4096 := (i 2).isLt
  refine ⟨pt ⟨(i 0).val, (i 0).isLt⟩ ⟨(i 2).val / 512, by omega⟩, flush0_4 _, ?_⟩
  have h := ((cfg0.win 4).blk (pt ⟨(i 0).val, (i 0).isLt⟩ ⟨(i 2).val / 512, by omega⟩)).view.emb_mem_set
    (ixBX ⟨(i 1).val, (i 1).isLt⟩ ⟨(i 2).val % 512, Nat.mod_lt _ (by decide)⟩)
  refine (congrArg (· ∈ _) ((emb4 _ _).trans (funext fun a => Fin.ext ?_))).mp h
  match a with
  | ⟨0, _⟩ => exact congrArg Fin.val (gB_pt _ _)
  | ⟨1, _⟩ => rfl
  | ⟨2, _⟩ => exact (congrArg (fun j : Fin 8 => 512 * j.val + (i 2).val % 512) (gJ_pt _ _)).trans (Nat.div_add_mod _ _)

theorem cover5 (i : S8x2048x1024.Idx) : ∃ t : Fin cfg0.N, (cfg0.win 5).flush t = true ∧ i ∈ ((cfg0.win 5).blk t).view.set := by
  have h2 : (i 2).val < 1024 := (i 2).isLt
  refine ⟨pt ⟨(i 0).val, (i 0).isLt⟩ ⟨(i 2).val / 128, by omega⟩, flush0_5 _, ?_⟩
  have h := ((cfg0.win 5).blk (pt ⟨(i 0).val, (i 0).isLt⟩ ⟨(i 2).val / 128, by omega⟩)).view.emb_mem_set
    (ixBKV ⟨(i 1).val, (i 1).isLt⟩ ⟨(i 2).val % 128, Nat.mod_lt _ (by decide)⟩)
  refine (congrArg (· ∈ _) ((emb5 _ _).trans (funext fun a => Fin.ext ?_))).mp h
  match a with
  | ⟨0, _⟩ => exact congrArg Fin.val (gB_pt _ _)
  | ⟨1, _⟩ => rfl
  | ⟨2, _⟩ => exact (congrArg (fun j : Fin 8 => 128 * j.val + (i 2).val % 128) (gJ_pt _ _)).trans (Nat.div_add_mod _ _)

theorem cover6 (i : S8x2048x1024.Idx) : ∃ t : Fin cfg0.N, (cfg0.win 6).flush t = true ∧ i ∈ ((cfg0.win 6).blk t).view.set := by
  have h2 : (i 2).val < 1024 := (i 2).isLt
  refine ⟨pt ⟨(i 0).val, (i 0).isLt⟩ ⟨(i 2).val / 128, by omega⟩, flush0_6 _, ?_⟩
  have h := ((cfg0.win 6).blk (pt ⟨(i 0).val, (i 0).isLt⟩ ⟨(i 2).val / 128, by omega⟩)).view.emb_mem_set
    (ixBKV ⟨(i 1).val, (i 1).isLt⟩ ⟨(i 2).val % 128, Nat.mod_lt _ (by decide)⟩)
  refine (congrArg (· ∈ _) ((emb6 _ _).trans (funext fun a => Fin.ext ?_))).mp h
  match a with
  | ⟨0, _⟩ => exact congrArg Fin.val (gB_pt _ _)
  | ⟨1, _⟩ => rfl
  | ⟨2, _⟩ => exact (congrArg (fun j : Fin 8 => 128 * j.val + (i 2).val % 128) (gJ_pt _ _)).trans (Nat.div_add_mod _ _)

theorem cover7 (i : S8x8x16x128.Idx) : ∃ t : Fin cfg0.N, (cfg0.win 7).flush t = true ∧ i ∈ ((cfg0.win 7).blk t).view.set := by
  refine ⟨pt ⟨(i 0).val, (i 0).isLt⟩ ⟨(i 1).val, (i 1).isLt⟩, flush0_7 _, ?_⟩
  have h := ((cfg0.win 7).blk (pt ⟨(i 0).val, (i 0).isLt⟩ ⟨(i 1).val, (i 1).isLt⟩)).view.emb_mem_set (ixBSc ⟨(i 2).val, (i 2).isLt⟩ ⟨(i 3).val, (i 3).isLt⟩)
  have h1 : (i 1).val < 8 := (i 1).isLt
  refine (congrArg (· ∈ _) ((emb7 _ _).trans (funext fun a => Fin.ext ?_))).mp h
  match a with
  | ⟨0, _⟩ => exact congrArg Fin.val (gB_pt _ _)
  | ⟨1, _⟩ => exact congrArg Fin.val (gJ_pt _ _)
  | ⟨2, _⟩ => rfl
  | ⟨3, _⟩ => rfl

end Cert.KernelIdeal.Hand

end
-- ==== Proof.KernelResults.lean ====
/- The kernel's results: the arrays that its region leaves, cut and reshaped by the host lines after it. -/
module

public import proofs.«01_k».proof.Proof.KernelArrays

@[expose] public section

set_option maxRecDepth 16384

noncomputable section

namespace Cert.KernelIdeal.Hand

open Idealize.ShloMosaic Idealize.ShloMosaic.TcCoe Idealize.SL.Sem Idealize.ShloMosaic.StableHlo
open Idealize.ShloMosaic.Pipeline (Dat)
open Cert.KernelIdeal Cert.KernelIdeal.Gen

variable {F : FTy → Type} [FloatOps F] [Named F]

/-! ## The results -/

/-- The query codes by head, -/
def resQ (X : Vec F S8x2048x4096 .bf16) : Vec F S8x2048x32x128 .fp8e4m3 := shapeCast S8x2048x32x128 (arrQ X) shapeCasts_S8x2048x4096_S8x2048x32x128
/-- and the key or value codes by head. -/
def resKV (K : Vec F S8x2048x1024 .bf16) : Vec F S8x2048x8x128 .fp8e4m3 := shapeCast S8x2048x8x128 (arrKV K) shapeCasts_S8x2048x1024_S8x2048x8x128

/-- The query scales: lanes 0 to 3 of the rows of scales, -/
def cutQ (s : Vec F S8x8x16x128 .f32) : Vec F S8x16x32 .f32 :=
  shapeCast S8x16x32 (transpose S8x16x8x4 [0, 2, 1, 3] (extractStridedSlice S8x8x16x4 ![0, 0, 0, 0] s slices_S8x8x16x128_S8x8x16x4_0_0_0_0)
    transposes_S8x8x16x4_S8x16x8x4_0_2_1_3) shapeCasts_S8x16x8x4_S8x16x32
/-- the key scales: lane 4, -/
def cutK (s : Vec F S8x8x16x128 .f32) : Vec F S8x16x8 .f32 :=
  transpose S8x16x8 [0, 2, 1] (shapeCast S8x8x16 (extractStridedSlice S8x8x16x1 ![0, 0, 0, 4] s slices_S8x8x16x128_S8x8x16x1_0_0_0_4) shapeCasts_S8x8x16x1_S8x8x16)
    transposes_S8x8x16_S8x16x8_0_2_1
/-- and the value scales: lane 5. -/
def cutV (s : Vec F S8x8x16x128 .f32) : Vec F S8x16x8 .f32 :=
  transpose S8x16x8 [0, 2, 1] (shapeCast S8x8x16 (extractStridedSlice S8x8x16x1 ![0, 0, 0, 5] s slices_S8x8x16x128_S8x8x16x1_0_0_0_5) shapeCasts_S8x8x16x1_S8x8x16)
    transposes_S8x8x16_S8x16x8_0_2_1

/-! ## The host lines, from any contents -/

theorem tail_v10 (V0 : Valuation τ sig (Elt F)) : after (List.flatten [hostOps1]) V0 (Proc.devRef .tc main_v10) = shapeCast S8x2048x32x128 (V0 (Proc.devRef .tc main_v0_1)) shapeCasts_S8x2048x4096_S8x2048x32x128 := by
  simp only [hostOps1, List.flatten_cons, List.flatten_nil, List.append_nil, List.cons_append, List.nil_append]
  after_results_simp
  rfl
theorem tail_v3 (V0 : Valuation τ sig (Elt F)) : after (List.flatten [hostOps1]) V0 (Proc.devRef .tc main_v3) = cutQ (V0 (Proc.devRef .tc main_v0_4)) := by
  simp only [hostOps1, List.flatten_cons, List.flatten_nil, List.append_nil, List.cons_append, List.nil_append]
  after_results_simp
  rfl
theorem tail_v11 (V0 : Valuation τ sig (Elt F)) : after (List.flatten [hostOps1]) V0 (Proc.devRef .tc main_v11) = shapeCast S8x2048x8x128 (V0 (Proc.devRef .tc main_v0_2)) shapeCasts_S8x2048x1024_S8x2048x8x128 := by
  simp only [hostOps1, List.flatten_cons, List.flatten_nil, List.append_nil, List.cons_append, List.nil_append]
  after_results_simp
  rfl
theorem tail_v6 (V0 : Valuation τ sig (Elt F)) : after (List.flatten [hostOps1]) V0 (Proc.devRef .tc main_v6) = cutK (V0 (Proc.devRef .tc main_v0_4)) := by
  simp only [hostOps1, List.flatten_cons, List.flatten_nil, List.append_nil, List.cons_append, List.nil_append]
  after_results_simp
  rfl
theorem tail_v12 (V0 : Valuation τ sig (Elt F)) : after (List.flatten [hostOps1]) V0 (Proc.devRef .tc main_v12) = shapeCast S8x2048x8x128 (V0 (Proc.devRef .tc main_v0_3)) shapeCasts_S8x2048x1024_S8x2048x8x128 := by
  simp only [hostOps1, List.flatten_cons, List.flatten_nil, List.append_nil, List.cons_append, List.nil_append]
  after_results_simp
  rfl
theorem tail_v9 (V0 : Valuation τ sig (Elt F)) : after (List.flatten [hostOps1]) V0 (Proc.devRef .tc main_v9) = cutV (V0 (Proc.devRef .tc main_v0_4)) := by
  simp only [hostOps1, List.flatten_cons, List.flatten_nil, List.append_nil, List.cons_append, List.nil_append]
  after_results_simp
  rfl

/-! ## The run -/

variable (m : (ℓ : Loc nD τ sig) → Buf (Elt F) ℓ) (ρ : Dev nD → PrngReg)

/-- Core `c`'s buffers when the region is left. -/
abbrev exitV (c : Dev nD) : Valuation τ sig (Elt F) := Pipeline.withArrays spec0 c (V0 m c) fun w => (dats m 0 c).arrAt w cfg0.N

theorem final3 (c : Dev nD) : (dats m 0 c).arrAt 3 cfg0.N = arrY (m ((c.tc : Thread nD τ).loc main_arg0)) (m ((c.tc : Thread nD τ).loc main_arg1)) (m ((c.tc : Thread nD τ).loc main_arg2)) :=
  (dats m 0 c).arrAt_eq_of_cover 3 (arrY (m ((c.tc : Thread nD τ).loc main_arg0)) (m ((c.tc : Thread nD τ).loc main_arg1)) (m ((c.tc : Thread nD τ).loc main_arg2))) (fun t _ => flushed3_eq m c t) cover3
theorem final4 (c : Dev nD) : (dats m 0 c).arrAt 4 cfg0.N = arrQ (m ((c.tc : Thread nD τ).loc main_arg0)) :=
  (dats m 0 c).arrAt_eq_of_cover 4 (arrQ (m ((c.tc : Thread nD τ).loc main_arg0))) (fun t _ => flushed4_eq m c t) cover4
theorem final5 (c : Dev nD) : (dats m 0 c).arrAt 5 cfg0.N = arrKV (m ((c.tc : Thread nD τ).loc main_arg1)) :=
  (dats m 0 c).arrAt_eq_of_cover 5 (arrKV (m ((c.tc : Thread nD τ).loc main_arg1))) (fun t _ => flushed5_eq m c t) cover5
theorem final6 (c : Dev nD) : (dats m 0 c).arrAt 6 cfg0.N = arrKV (m ((c.tc : Thread nD τ).loc main_arg2)) :=
  (dats m 0 c).arrAt_eq_of_cover 6 (arrKV (m ((c.tc : Thread nD τ).loc main_arg2))) (fun t _ => flushed6_eq m c t) cover6
theorem final7 (c : Dev nD) : (dats m 0 c).arrAt 7 cfg0.N = arrSc (m ((c.tc : Thread nD τ).loc main_arg0)) (m ((c.tc : Thread nD τ).loc main_arg1)) (m ((c.tc : Thread nD τ).loc main_arg2)) :=
  (dats m 0 c).arrAt_eq_of_cover 7 (arrSc (m ((c.tc : Thread nD τ).loc main_arg0)) (m ((c.tc : Thread nD τ).loc main_arg1)) (m ((c.tc : Thread nD τ).loc main_arg2))) (fun t _ => flushed7_eq m c t) cover7

theorem exit_v0_1 (c : Dev nD) : exitV m c (Proc.devRef .tc main_v0_1) = arrQ (m ((c.tc : Thread nD τ).loc main_arg0)) :=
  (Pipeline.withArrays_arr spec0 launch0.win.arr_inj c (V0 m c) _ 4).trans (final4 m c)
theorem exit_v0_2 (c : Dev nD) : exitV m c (Proc.devRef .tc main_v0_2) = arrKV (m ((c.tc : Thread nD τ).loc main_arg1)) :=
  (Pipeline.withArrays_arr spec0 launch0.win.arr_inj c (V0 m c) _ 5).trans (final5 m c)
theorem exit_v0_3 (c : Dev nD) : exitV m c (Proc.devRef .tc main_v0_3) = arrKV (m ((c.tc : Thread nD τ).loc main_arg2)) :=
  (Pipeline.withArrays_arr spec0 launch0.win.arr_inj c (V0 m c) _ 6).trans (final6 m c)
theorem exit_v0_4 (c : Dev nD) : exitV m c (Proc.devRef .tc main_v0_4) = arrSc (m ((c.tc : Thread nD τ).loc main_arg0)) (m ((c.tc : Thread nD τ).loc main_arg1)) (m ((c.tc : Thread nD τ).loc main_arg2)) :=
  (Pipeline.withArrays_arr spec0 launch0.win.arr_inj c (V0 m c) _ 7).trans (final7 m c)

theorem fin_v10 (c : Dev nD) : Pipeline.afterTail₀ cfgs (dats m) 0 (V0 m) [hostOps1] c main_v10 = resQ (m ((c.tc : Thread nD τ).loc main_arg0)) :=
  (tail_v10 (exitV m c)).trans (by rw [exit_v0_1]; rfl)
theorem fin_v3 (c : Dev nD) : Pipeline.afterTail₀ cfgs (dats m) 0 (V0 m) [hostOps1] c main_v3 = cutQ (arrSc (m ((c.tc : Thread nD τ).loc main_arg0)) (m ((c.tc : Thread nD τ).loc main_arg1)) (m ((c.tc : Thread nD τ).loc main_arg2))) :=
  (tail_v3 (exitV m c)).trans (by rw [exit_v0_4])
theorem fin_v11 (c : Dev nD) : Pipeline.afterTail₀ cfgs (dats m) 0 (V0 m) [hostOps1] c main_v11 = resKV (m ((c.tc : Thread nD τ).loc main_arg1)) :=
  (tail_v11 (exitV m c)).trans (by rw [exit_v0_2]; rfl)
theorem fin_v6 (c : Dev nD) : Pipeline.afterTail₀ cfgs (dats m) 0 (V0 m) [hostOps1] c main_v6 = cutK (arrSc (m ((c.tc : Thread nD τ).loc main_arg0)) (m ((c.tc : Thread nD τ).loc main_arg1)) (m ((c.tc : Thread nD τ).loc main_arg2))) :=
  (tail_v6 (exitV m c)).trans (by rw [exit_v0_4])
theorem fin_v12 (c : Dev nD) : Pipeline.afterTail₀ cfgs (dats m) 0 (V0 m) [hostOps1] c main_v12 = resKV (m ((c.tc : Thread nD τ).loc main_arg2)) :=
  (tail_v12 (exitV m c)).trans (by rw [exit_v0_3]; rfl)
theorem fin_v9 (c : Dev nD) : Pipeline.afterTail₀ cfgs (dats m) 0 (V0 m) [hostOps1] c main_v9 = cutV (arrSc (m ((c.tc : Thread nD τ).loc main_arg0)) (m ((c.tc : Thread nD τ).loc main_arg1)) (m ((c.tc : Thread nD τ).loc main_arg2))) :=
  (tail_v9 (exitV m c)).trans (by rw [exit_v0_4])

/-- The kernel's run: its seven results at their functions of the arguments, the arguments kept. -/
theorem run : θ_run defs (onTc (τ := τ) (main (F := F))) ⟨m, fun _ => 0, ρ⟩ fun r => ∀ c : Dev nD,
      r.2.mem ((c.tc : Thread nD τ).loc main_v0_0) = arrY (m ((c.tc : Thread nD τ).loc main_arg0)) (m ((c.tc : Thread nD τ).loc main_arg1)) (m ((c.tc : Thread nD τ).loc main_arg2))
      ∧ r.2.mem ((c.tc : Thread nD τ).loc main_v10) = resQ (m ((c.tc : Thread nD τ).loc main_arg0))
      ∧ r.2.mem ((c.tc : Thread nD τ).loc main_v3) = cutQ (arrSc (m ((c.tc : Thread nD τ).loc main_arg0)) (m ((c.tc : Thread nD τ).loc main_arg1)) (m ((c.tc : Thread nD τ).loc main_arg2)))
      ∧ r.2.mem ((c.tc : Thread nD τ).loc main_v11) = resKV (m ((c.tc : Thread nD τ).loc main_arg1))
      ∧ r.2.mem ((c.tc : Thread nD τ).loc main_v6) = cutK (arrSc (m ((c.tc : Thread nD τ).loc main_arg0)) (m ((c.tc : Thread nD τ).loc main_arg1)) (m ((c.tc : Thread nD τ).loc main_arg2)))
      ∧ r.2.mem ((c.tc : Thread nD τ).loc main_v12) = resKV (m ((c.tc : Thread nD τ).loc main_arg2))
      ∧ r.2.mem ((c.tc : Thread nD τ).loc main_v9) = cutV (arrSc (m ((c.tc : Thread nD τ).loc main_arg0)) (m ((c.tc : Thread nD τ).loc main_arg1)) (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨((h c).1 3).trans (final3 m c),
    ((h c).2 main_v10 (Pipeline.mem_restRefs_of main_v10 (by decide) (by decide))).trans (fin_v10 m c),
    ((h c).2 main_v3 (Pipeline.mem_restRefs_of main_v3 (by decide) (by decide))).trans (fin_v3 m c),
    ((h c).2 main_v11 (Pipeline.mem_restRefs_of main_v11 (by decide) (by decide))).trans (fin_v11 m c),
    ((h c).2 main_v6 (Pipeline.mem_restRefs_of main_v6 (by decide) (by decide))).trans (fin_v6 m c),
    ((h c).2 main_v12 (Pipeline.mem_restRefs_of main_v12 (by decide) (by decide))).trans (fin_v12 m c),
    ((h c).2 main_v9 (Pipeline.mem_restRefs_of main_v9 (by decide) (by decide))).trans (fin_v9 m c),
    ((h c).1 0).trans (((dats m 0 c).arrAt_in 0 rfl _).trans (V_main_arg0 m c)),
    ((h c).1 1).trans (((dats m 0 c).arrAt_in 1 rfl _).trans (V_main_arg1 m c)),
    ((h c).1 2).trans (((dats m 0 c).arrAt_in 2 rfl _).trans (V_main_arg2 m c))⟩)
    (run_main m ρ)

end Cert.KernelIdeal.Hand

end
-- ==== Proof.RefRun.lean ====
/- The reference's run: each of its seven results as a named function of the argument arrays. -/
module

public import proofs.«01_k».proof.Proof.Gen.ReferenceIdeal.Run

@[expose] public section

set_option maxRecDepth 16384

noncomputable section

namespace Cert.ReferenceIdeal.Hand

open Idealize.ShloMosaic Idealize.ShloMosaic.TcCoe Idealize.SL.Sem
open Cert.ReferenceIdeal Cert.ReferenceIdeal.Gen

variable {F : FTy → Type} [FloatOps F]

/-- `log 2`. -/
def ln2 : Vec F S_ .f32 := Host.log (constant S_ .f32 0x40000000#32)

/-! ## The quantiser: queries -/

/-- The tiles: batch, block, row, head, lane. -/
def tilesX (X : Vec F S8x2048x4096 .bf16) : Vec F S8x16x128x32x128 .f32 := shapeCast S8x16x128x32x128 (extf .f32 X bitsLt_bf16_f32) shapeCasts_S8x2048x4096_S8x16x128x32x128

/-- Each tile's largest magnitude. -/
def amaxX (t : Vec F S8x16x128x32x128 .f32) : Vec F S8x16x32 .f32 :=
  Host.reduce FloatOps.maximumf (Host.absf t) (constant S_ .f32 0xFF800000#32) reducesTo_S8x16x128x32x128_S8x16x32_d2_4 h_S_

/-- The exponent of each tile's scale. -/
def expoX (a : Vec F S8x16x32 .f32) : Vec F S8x16x32 .f32 :=
  select (cmpf .oeq a (broadcastInDim S8x16x32 ![] bcast_S_S8x16x32 (constant S_ .f32 0x00000000#32))) (broadcastInDim S8x16x32 ![] bcast_S_S8x16x32 (constant S_ .f32 0x00000000#32))
    (minimumf (broadcastInDim S8x16x32 ![] bcast_S_S8x16x32 (constant S_ .f32 0x42FC0000#32)) (maximumf (broadcastInDim S8x16x32 ![] bcast_S_S8x16x32 (constant S_ .f32 0xC2FC0000#32))
      (addf (Host.floor (Host.divf (Host.log (mulf a (broadcastInDim S8x16x32 ![] bcast_S_S8x16x32 (constant S_ .f32 0x3B124925#32)))) (broadcastInDim S8x16x32 ![] bcast_S_S8x16x32 ln2)))
        (broadcastInDim S8x16x32 ![] bcast_S_S8x16x32 (constant S_ .f32 0x3F800000#32)))))

/-- Each tile's scale, -/
def scaleX (a : Vec F S8x16x32 .f32) : Vec F S8x16x32 .f32 := Host.exp (mulf (expoX a) (broadcastInDim S8x16x32 ![] bcast_S_S8x16x32 ln2))

/-- and its inverse. -/
def invX (a : Vec F S8x16x32 .f32) : Vec F S8x16x32 .f32 := Host.exp (mulf (Host.negf (expoX a)) (broadcastInDim S8x16x32 ![] bcast_S_S8x16x32 ln2))

/-- A value per tile, at every element of the tile. -/
def spreadX (s : Vec F S8x16x32 .f32) : Vec F S8x16x128x32x128 .f32 :=
  broadcastInDim S8x16x128x32x128 ![0, 1, 2, 3, 4] bcast_S8x16x1x32x1_S8x16x128x32x128_0_1_2_3_4 (broadcastInDim S8x16x1x32x1 ![0, 1, 3] bcast_S8x16x32_S8x16x1x32x1_0_1_3 s)

/-- The codes. -/
def codesX (t : Vec F S8x16x128x32x128 .f32) : Vec F S8x16x128x32x128 .f32 :=
  minimumf (broadcastInDim S8x16x128x32x128 ![] bcast_S_S8x16x128x32x128 (constant S_ .f32 0x43E00000#32)) (maximumf (broadcastInDim S8x16x128x32x128 ![] bcast_S_S8x16x128x32x128 (constant S_ .f32 0xC3E00000#32)) (mulf t (spreadX (invX (amaxX t)))))

/-! ## The quantiser: keys and values -/

/-- The tiles: batch, block, row, head, lane. -/
def tilesKV (X : Vec F S8x2048x1024 .bf16) : Vec F S8x16x128x8x128 .f32 := shapeCast S8x16x128x8x128 (extf .f32 X bitsLt_bf16_f32) shapeCasts_S8x2048x1024_S8x16x128x8x128

/-- Each tile's largest magnitude. -/
def amaxKV (t : Vec F S8x16x128x8x128 .f32) : Vec F S8x16x8 .f32 :=
  Host.reduce FloatOps.maximumf (Host.absf t) (constant S_ .f32 0xFF800000#32) reducesTo_S8x16x128x8x128_S8x16x8_d2_4 h_S_

/-- The exponent of each tile's scale. -/
def expoKV (a : Vec F S8x16x8 .f32) : Vec F S8x16x8 .f32 :=
  select (cmpf .oeq a (broadcastInDim S8x16x8 ![] bcast_S_S8x16x8 (constant S_ .f32 0x00000000#32))) (broadcastInDim S8x16x8 ![] bcast_S_S8x16x8 (constant S_ .f32 0x00000000#32))
    (minimumf (broadcastInDim S8x16x8 ![] bcast_S_S8x16x8 (constant S_ .f32 0x42FC0000#32)) (maximumf (broadcastInDim S8x16x8 ![] bcast_S_S8x16x8 (constant S_ .f32 0xC2FC0000#32))
      (addf (Host.floor (Host.divf (Host.log (mulf a (broadcastInDim S8x16x8 ![] bcast_S_S8x16x8 (constant S_ .f32 0x3B124925#32)))) (broadcastInDim S8x16x8 ![] bcast_S_S8x16x8 ln2)))
        (broadcastInDim S8x16x8 ![] bcast_S_S8x16x8 (constant S_ .f32 0x3F800000#32)))))

/-- Each tile's scale, -/
def scaleKV (a : Vec F S8x16x8 .f32) : Vec F S8x16x8 .f32 := Host.exp (mulf (expoKV a) (broadcastInDim S8x16x8 ![] bcast_S_S8x16x8 ln2))

/-- and its inverse. -/
def invKV (a : Vec F S8x16x8 .f32) : Vec F S8x16x8 .f32 := Host.exp (mulf (Host.negf (expoKV a)) (broadcastInDim S8x16x8 ![] bcast_S_S8x16x8 ln2))

/-- A value per tile, at every element of the tile. -/
def spreadKV (s : Vec F S8x16x8 .f32) : Vec F S8x16x128x8x128 .f32 :=
  broadcastInDim S8x16x128x8x128 ![0, 1, 2, 3, 4] bcast_S8x16x1x8x1_S8x16x128x8x128_0_1_2_3_4 (broadcastInDim S8x16x1x8x1 ![0, 1, 3] bcast_S8x16x8_S8x16x1x8x1_0_1_3 s)

/-- The codes. -/
def codesKV (t : Vec F S8x16x128x8x128 .f32) : Vec F S8x16x128x8x128 .f32 :=
  minimumf (broadcastInDim S8x16x128x8x128 ![] bcast_S_S8x16x128x8x128 (constant S_ .f32 0x43E00000#32)) (maximumf (broadcastInDim S8x16x128x8x128 ![] bcast_S_S8x16x128x8x128 (constant S_ .f32 0xC3E00000#32)) (mulf t (spreadKV (invKV (amaxKV t)))))

/-! ## Attention -/

/-- The queries read back. -/
def qd (t : Vec F S8x16x128x32x128 .f32) : Vec F S8x2048x8x4x128 .f32 :=
  shapeCast S8x2048x8x4x128 (shapeCast S8x2048x32x128 (mulf (codesX t) (spreadX (scaleX (amaxX t)))) shapeCasts_S8x16x128x32x128_S8x2048x32x128 : Vec F S8x2048x32x128 .f32)
    shapeCasts_S8x2048x32x128_S8x2048x8x4x128

/-- The keys or values read back. -/
def kvd (t : Vec F S8x16x128x8x128 .f32) : Vec F S8x2048x8x128 .f32 :=
  shapeCast S8x2048x8x128 (mulf (codesKV t) (spreadKV (scaleKV (amaxKV t)))) shapeCasts_S8x16x128x8x128_S8x2048x8x128

/-- The scores. -/
def scores (q : Vec F S8x2048x8x4x128 .f32) (k : Vec F S8x2048x8x128 .f32) : Vec F S8x8x4x2048x2048 .f32 :=
  mulf (transpose S8x8x4x2048x2048 [0, 1, 4, 3, 2]
      (Host.dotGeneral dot_S8x2048x8x128_S8x2048x8x4x128_S8x8x2048x2048x4_3_4_1_13_02_02 none k q : Vec F S8x8x2048x2048x4 .f32)
      transposes_S8x8x2048x2048x4_S8x8x4x2048x2048_0_1_4_3_2)
    (broadcastInDim S8x8x4x2048x2048 ![] bcast_S_S8x8x4x2048x2048 (Host.rsqrt (constant S_ .f32 0x43000000#32)))

/-- Which keys a query sees: those not after it. -/
def seen : IVec S2048x2048 1 :=
  cmpi .sge (broadcastInDim S2048x2048 ![0, 1] bcast_S2048x1_S2048x2048_0_1 (broadcastInDim S2048x1 ![0] bcast_S2048_S2048x1_0 (iotaInDim S2048 32 0)) : IVec S2048x2048 32)
    (broadcastInDim S2048x2048 ![0, 1] bcast_S1x2048_S2048x2048_0_1 (broadcastInDim S1x2048 ![1] bcast_S2048_S1x2048_1 (iotaInDim S2048 32 0)) : IVec S2048x2048 32)

/-- The scores, minus infinity where the key is not seen. -/
def maskedScores (s : Vec F S8x8x4x2048x2048 .f32) : Vec F S8x8x4x2048x2048 .f32 :=
  select (broadcastInDim S8x8x4x2048x2048 ![3, 4] bcast_S2048x2048_S8x8x4x2048x2048_3_4 seen) s
    (broadcastInDim S8x8x4x2048x2048 ![] bcast_S_S8x8x4x2048x2048 (constant S_ .f32 0xFF800000#32))

/-- The weights before they are normalised. -/
def expScores (s : Vec F S8x8x4x2048x2048 .f32) : Vec F S8x8x4x2048x2048 .f32 :=
  Host.exp (subf s (broadcastInDim S8x8x4x2048x2048 ![0, 1, 2, 3, 4] bcast_S8x8x4x2048x1_S8x8x4x2048x2048_0_1_2_3_4
    (broadcastInDim S8x8x4x2048x1 ![0, 1, 2, 3] bcast_S8x8x4x2048_S8x8x4x2048x1_0_1_2_3
      (Host.reduce FloatOps.maximumf s (constant S_ .f32 0xFF800000#32) reducesTo_S8x8x4x2048x2048_S8x8x4x2048_d4 h_S_ : Vec F S8x8x4x2048 .f32))))

/-- Their sums. -/
def sums (p : Vec F S8x8x4x2048x2048 .f32) : Vec F S8x8x4x2048 .f32 :=
  Host.reduceAdd p (constant S_ .f32 0x00000000#32) reducesTo_S8x8x4x2048x2048_S8x8x4x2048_d4 h_S_

/-- The weights' codes. -/
def weightCodes (p : Vec F S8x8x4x2048x2048 .f32) : Vec F S8x8x4x2048x2048 .f32 :=
  minimumf (broadcastInDim S8x8x4x2048x2048 ![] bcast_S_S8x8x4x2048x2048 (constant S_ .f32 0x43E00000#32))
    (maximumf (broadcastInDim S8x8x4x2048x2048 ![] bcast_S_S8x8x4x2048x2048 (constant S_ .f32 0xC3E00000#32))
      (mulf p (broadcastInDim S8x8x4x2048x2048 ![] bcast_S_S8x8x4x2048x2048 (constant S_ .f32 0x43800000#32))))

/-- The values' average. -/
def average (p : Vec F S8x8x4x2048x2048 .f32) (v : Vec F S8x2048x8x128 .f32) : Vec F S8x8x4x2048x128 .f32 :=
  Host.divf (mulf (Host.dotGeneral dot_S8x8x4x2048x2048_S8x2048x8x128_S8x8x4x2048x128_4_1_23_3_01_02 none (weightCodes p) v)
      (broadcastInDim S8x8x4x2048x128 ![] bcast_S_S8x8x4x2048x128 (constant S_ .f32 0x3B800000#32)))
    (broadcastInDim S8x8x4x2048x128 ![0, 1, 2, 3, 4] bcast_S8x8x4x2048x1_S8x8x4x2048x128_0_1_2_3_4
      (broadcastInDim S8x8x4x2048x1 ![0, 1, 2, 3] bcast_S8x8x4x2048_S8x8x4x2048x1_0_1_2_3 (sums p)))

/-- The output's layout. -/
def outLayout (o : Vec F S8x8x4x2048x128 .f32) : Vec F S8x2048x4096 .bf16 :=
  truncf .bf16 (shapeCast S8x2048x4096 (transpose S8x2048x8x4x128 [0, 3, 1, 2, 4] o transposes_S8x8x4x2048x128_S8x2048x8x4x128_0_3_1_2_4)
    shapeCasts_S8x2048x8x4x128_S8x2048x4096) bitsLt_bf16_f32

/-- The attention output. -/
def refY (X : Vec F S8x2048x4096 .bf16) (K V : Vec F S8x2048x1024 .bf16) : Vec F S8x2048x4096 .bf16 :=
  outLayout (average (expScores (maskedScores (scores (qd (tilesX X)) (kvd (tilesKV K))))) (kvd (tilesKV V)))

/-- The query codes, -/
def refQ (X : Vec F S8x2048x4096 .bf16) : Vec F S8x2048x32x128 .fp8e4m3 :=
  Host.convertf .fp8e4m3 (shapeCast S8x2048x32x128 (codesX (tilesX X)) shapeCasts_S8x16x128x32x128_S8x2048x32x128 : Vec F S8x2048x32x128 .f32)
/-- and the key or value codes. -/
def refKV (K : Vec F S8x2048x1024 .bf16) : Vec F S8x2048x8x128 .fp8e4m3 :=
  Host.convertf .fp8e4m3 (shapeCast S8x2048x8x128 (codesKV (tilesKV K)) shapeCasts_S8x16x128x8x128_S8x2048x8x128 : Vec F S8x2048x8x128 .f32)

/-- The query scales, -/
def refQs (X : Vec F S8x2048x4096 .bf16) : Vec F S8x16x32 .f32 := scaleX (amaxX (tilesX X))
/-- and the key or value scales. -/
def refKVs (K : Vec F S8x2048x1024 .bf16) : Vec F S8x16x8 .f32 := scaleKV (amaxKV (tilesKV K))

/-! ## The run -/

variable (m : (ℓ : Loc nD τ sig) → Buf (Elt F) ℓ) (ρ : Dev nD → PrngReg)

set_option maxHeartbeats 2000000 in
/-- The reference's run: its seven results at their functions of the arguments, the arguments kept. -/
theorem run : θ_run defs (onTc (τ := τ) (main (F := F))) ⟨m, fun _ => 0, ρ⟩ fun r => ∀ c : Dev nD,
      r.2.mem ((c.tc : Thread nD τ).loc main_v126) = refY (m ((c.tc : Thread nD τ).loc main_arg0)) (m ((c.tc : Thread nD τ).loc main_arg1)) (m ((c.tc : Thread nD τ).loc main_arg2))
      ∧ r.2.mem ((c.tc : Thread nD τ).loc main_v128) = refQ (m ((c.tc : Thread nD τ).loc main_arg0))
      ∧ r.2.mem ((c.tc : Thread nD τ).loc main_v19) = refQs (m ((c.tc : Thread nD τ).loc main_arg0))
      ∧ r.2.mem ((c.tc : Thread nD τ).loc main_v130) = refKV (m ((c.tc : Thread nD τ).loc main_arg1))
      ∧ r.2.mem ((c.tc : Thread nD τ).loc main_v47) = refKVs (m ((c.tc : Thread nD τ).loc main_arg1))
      ∧ r.2.mem ((c.tc : Thread nD τ).loc main_v132) = refKV (m ((c.tc : Thread nD τ).loc main_arg2))
      ∧ r.2.mem ((c.tc : Thread nD τ).loc main_v75) = refKVs (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => by
    obtain ⟨y, q, qs, k, ks, v, vs, k0, k1, k2⟩ := h c
    exact ⟨y.trans (by rfl), q.trans (by rfl), qs.trans (by rfl), k.trans (by rfl), ks.trans (by rfl), v.trans (by rfl), vs.trans (by rfl), k0, k1, k2⟩)
    (Cert.ReferenceIdeal.Value.run m ρ)

end Cert.ReferenceIdeal.Hand

end
-- ==== Proof.Scale.lean ====
/- The scale of a tile over the extended reals. A tile's largest magnitude `a` gives the exponent `expo a`; the program
   finds it by counting powers of two, the reference by a logarithm. Here both are computed. -/
module

public import Idealize.ShloMosaic.PureOps.Ideal.Laws
public import Idealize.ShloMosaic.Lib.IndicatorCount

@[expose] public section

noncomputable section

namespace Cert.Attn

open Idealize.ShloMosaic

/-- The constant both sides multiply the largest magnitude by, which stands for 1/448. -/
def c448 : ℝ := 9586981 * 2 ^ (-32 : ℤ)

theorem c448_pos : 0 < c448 := by unfold c448; positivity

theorem ofBits_c448 : Ideal.ofBits .f32 0x3B124925#32 = (c448 : EReal) := by
  simp [Ideal.ofBits, Ideal.ieee, -EReal.coe_mul, c448]

theorem coe_max (a b : ℝ) : ((max a b : ℝ) : EReal) = max (a : EReal) b := EReal.coe_strictMono.monotone.map_max
theorem coe_min (a b : ℝ) : ((min a b : ℝ) : EReal) = min (a : EReal) b := EReal.coe_strictMono.monotone.map_min

/-- The floor of the logarithm to base two. -/
def lg (r : ℝ) : ℤ := ⌊Real.log r / Real.log 2⌋

/-- The scale. -/
def pow2 (e : ℤ) : ℝ := (2 : ℝ) ^ e

theorem pow2_pos (e : ℤ) : 0 < pow2 e := by unfold pow2; positivity

theorem log_two_pos : 0 < Real.log 2 := Real.log_pos (by norm_num)

theorem pow2_le_iff {r : ℝ} (hr : 0 < r) (n : ℤ) : pow2 n ≤ r ↔ n ≤ lg r := by
  unfold pow2 lg
  rw [Int.le_floor, le_div_iff₀ log_two_pos, Real.zpow_le_iff_le_log (by norm_num) hr]

/-- The exponent of the scale of a tile whose largest magnitude is `a`: one more than the floor of the logarithm of
    `a` times the constant, kept within ±126; 0 for a tile of zeros. -/
def expo (a : EReal) : ℤ :=
  if a = 0 then 0 else if a = ⊤ then 126 else min 126 (max (-126) (lg (a.toReal * c448) + 1))

theorem expo_le (a : EReal) : expo a ≤ 126 := by unfold expo; split_ifs <;> omega
theorem le_expo (a : EReal) : -126 ≤ expo a := by unfold expo; split_ifs <;> omega

/-! ## The reference's logarithm -/

theorem ofBits_two : Ideal.ofBits .f32 0x40000000#32 = ((2 : ℝ) : EReal) := by
  simp [Ideal.ofBits, Ideal.ieee, -EReal.coe_mul]; norm_num
theorem ofBits_one : Ideal.ofBits .f32 0x3F800000#32 = ((1 : ℝ) : EReal) := by
  simp [Ideal.ofBits, Ideal.ieee, -EReal.coe_mul, -EReal.coe_one]; norm_num
theorem ofBits_126 : Ideal.ofBits .f32 0x42FC0000#32 = ((126 : ℝ) : EReal) := by
  simp [Ideal.ofBits, Ideal.ieee, -EReal.coe_mul]; norm_num
theorem ofBits_neg126 : Ideal.ofBits .f32 0xC2FC0000#32 = ((-126 : ℝ) : EReal) := by
  simp [Ideal.ofBits, Ideal.ieee, -EReal.coe_mul, -EReal.coe_neg]; norm_num
theorem ofBits_448 : Ideal.ofBits .f32 0x43E00000#32 = ((448 : ℝ) : EReal) := by
  simp [Ideal.ofBits, Ideal.ieee, -EReal.coe_mul]; norm_num
theorem ofBits_neg448 : Ideal.ofBits .f32 0xC3E00000#32 = ((-448 : ℝ) : EReal) := by
  simp [Ideal.ofBits, Ideal.ieee, -EReal.coe_mul, -EReal.coe_neg]; norm_num
theorem ofBits_eight : Ideal.ofBits .f32 0x41000000#32 = ((8 : ℝ) : EReal) := by
  simp [Ideal.ofBits, Ideal.ieee, -EReal.coe_mul]; norm_num
theorem ofBits_128 : Ideal.ofBits .f32 0x43000000#32 = ((128 : ℝ) : EReal) := by
  simp [Ideal.ofBits, Ideal.ieee, -EReal.coe_mul]; norm_num
theorem ofBits_256 : Ideal.ofBits .f32 0x43800000#32 = ((256 : ℝ) : EReal) := by
  simp [Ideal.ofBits, Ideal.ieee, -EReal.coe_mul]; norm_num
theorem ofBits_inv256 : Ideal.ofBits .f32 0x3B800000#32 = ((1 / 256 : ℝ) : EReal) := by
  simp [Ideal.ofBits, Ideal.ieee, -EReal.coe_mul]; norm_num
theorem ofBits_bot : Ideal.ofBits .f32 0xFF800000#32 = ⊥ := by
  simp [Ideal.ofBits, Ideal.ieee]
theorem ofBits_zero : Ideal.ofBits .f32 0x00000000#32 = 0 := Ideal.ofBits_zero_f32

/-- The reference's exponent. -/
theorem ref_expo {a : EReal} (ha : 0 ≤ a) :
    (if a = 0 then (0 : EReal) else min ((126 : ℝ) : EReal) (max ((-126 : ℝ) : EReal)
      (Ideal.liftRound Int.floor (Ideal.div (Ideal.log (a * (c448 : EReal))) ((Real.log 2 : ℝ) : EReal)) + ((1 : ℝ) : EReal))))
      = ((expo a : ℝ) : EReal) := by
  have hl : Real.log 2 ≠ 0 := log_two_pos.ne'
  unfold expo
  split_ifs with h0 ht
  · simp
  · subst ht
    rw [EReal.top_mul_coe_of_pos c448_pos, Ideal.div_coe hl]
    show min _ (max _ (Ideal.liftRound Int.floor (⊤ * _) + _)) = _
    rw [EReal.top_mul_coe_of_pos (by have := Real.log_pos (show (1 : ℝ) < 2 by norm_num); positivity)]
    show min _ (max _ ((⊤ : EReal) + _)) = _
    rw [EReal.top_add_coe]
    simp
  · induction a using EReal.rec with
    | bot => simp at ha
    | top => exact absurd rfl ht
    | coe r =>
      have hr : 0 < r := lt_of_le_of_ne (by exact_mod_cast ha) (fun h => h0 (by rw [← h]; rfl))
      have hrc : 0 < r * c448 := mul_pos hr c448_pos
      rw [← EReal.coe_mul, Ideal.div_coe hl]
      have e1 : Ideal.log ((r * c448 : ℝ) : EReal) = ((Real.log (r * c448) : ℝ) : EReal) := by
        show (if r * c448 ≤ 0 then ⊥ else ((Real.log (r * c448) : ℝ) : EReal)) = _
        rw [if_neg (not_le.2 hrc)]
      rw [e1, ← EReal.coe_mul]
      show min _ (max _ (((⌊Real.log (r * c448) * (1 / Real.log 2)⌋ : ℝ) : EReal) + _)) = _
      have e2 : ⌊Real.log (r * c448) * (1 / Real.log 2)⌋ = lg (r * c448) := by
        rw [mul_one_div]; rfl
      rw [e2, EReal.toReal_coe, ← EReal.coe_add, ← coe_max, ← coe_min]
      push_cast
      rfl

/-- The reference's scale: the exponential of a multiple of `log 2`. -/
theorem exp_ln2 (e : ℤ) : Ideal.exp (((e : ℝ) : EReal) * ((Real.log 2 : ℝ) : EReal)) = ((pow2 e : ℝ) : EReal) := by
  rw [← EReal.coe_mul]
  show ((Real.exp _ : ℝ) : EReal) = _
  rw [mul_comm, Real.exp_mul, Real.exp_log (by norm_num), Real.rpow_intCast]; rfl

/-! ## The program's count of powers of two -/

/-- The word `s · 2^23` as a float. -/
def bitsAt (s : ℕ) : EReal := Ideal.ofBits .f32 (BitVec.ofNat 32 s <<< 23)

theorem bits_fields : ∀ s : Fin 256, ((BitVec.ofNat 32 s.val <<< 23).extractLsb' 31 1 == 1#1) = false ∧
    ((BitVec.ofNat 32 s.val <<< 23).extractLsb' 23 8).toNat = s.val ∧ ((BitVec.ofNat 32 s.val <<< 23).extractLsb' 0 23).toNat = 0 := by
  decide +kernel

theorem ofBits_of_fields (b : BitVec 32) (n : ℕ) (h1 : (b.extractLsb' 31 1 == 1#1) = false) (h2 : (b.extractLsb' 23 8).toNat = n)
    (h3 : (b.extractLsb' 0 23).toNat = 0) :
    Ideal.ofBits .f32 b = if n = 0 then 0 else if n = 255 then ⊤ else ((pow2 ((n : ℤ) - 127) : ℝ) : EReal) := by
  show Ideal.ieee 8 23 b = _
  unfold Ideal.ieee
  rw [show (8 + 23 : ℕ) = 31 from rfl]
  simp only [h1, h2, h3]
  by_cases h0 : n = 0
  · simp [h0]
  · by_cases ht : n = 255
    · simp [ht]
    · rw [if_neg (by simpa using ht), if_neg h0, if_neg h0, if_neg ht]
      congr 1
      simp only [Bool.false_eq_true, if_false, pow2]
      rw [show ((n : ℤ) - 127) = (23 : ℤ) + ((n : ℤ) - (2 ^ (8 - 1) - 1) - (23 : ℕ)) by norm_num, zpow_add₀ (by norm_num)]
      norm_num

theorem bitsAt_eq (s : ℕ) (hs : s < 256) :
    bitsAt s = if s = 0 then 0 else if s = 255 then ⊤ else ((pow2 ((s : ℤ) - 127) : ℝ) : EReal) :=
  have h := bits_fields ⟨s, hs⟩
  ofBits_of_fields _ s h.1 h.2.1 h.2.2

/-- How far the count goes. -/
def reach (y : EReal) : ℕ := if y = ⊤ then 255 else (min 254 (max 0 (lg y.toReal + 127))).toNat

theorem bitsAt_le_iff {y : EReal} (hy : 0 < y) (s : ℕ) (hs : s < 256) : bitsAt s ≤ y ↔ s ≤ reach y := by
  rw [bitsAt_eq s hs]
  unfold reach
  by_cases ht : y = ⊤
  · simp only [ht, if_true, le_top, true_iff]; omega
  · rw [if_neg ht]
    by_cases h0 : s = 0
    · simp [h0, hy.le]
    · rw [if_neg h0]
      by_cases h1 : s = 255
      · rw [if_pos h1]
        simp only [top_le_iff, ht, false_iff]; omega
      · rw [if_neg h1]
        induction y using EReal.rec with
        | bot => simp at hy
        | top => exact absurd rfl ht
        | coe r =>
          rw [EReal.coe_le_coe_iff, EReal.toReal_coe, pow2_le_iff (by exact_mod_cast hy)]
          omega

/-- The count. -/
theorem card_le {y : EReal} (hy : 0 < y) : (Finset.univ.filter fun s : Fin 256 => bitsAt s.val ≤ y).card = reach y + 1 := by
  have hN : reach y < 256 := by unfold reach; split_ifs <;> omega
  have e : (Finset.univ.filter fun s : Fin 256 => bitsAt s.val ≤ y) = Finset.Iic (⟨reach y, hN⟩ : Fin 256) := by
    ext s
    simp only [Finset.mem_filter, Finset.mem_univ, true_and, Finset.mem_Iic, Fin.le_def]
    exact bitsAt_le_iff hy s.val s.isLt
  rw [e, Fin.card_Iic]

/-- From the count to the exponent, as words. -/
theorem word_of_reach : ∀ n : Fin 256, IntOp.subi (IntOp.minsi (IntOp.subi (BitVec.ofNat 32 (n.val + 1)) 1#32) 252#32) 126#32
    = BitVec.ofInt 32 (min (n.val : ℤ) 252 - 126) := by decide +kernel

theorem reach_expo {a : EReal} (ha : 0 < a) : min ((reach (a * (c448 : EReal)) : ℕ) : ℤ) 252 - 126 = expo a := by
  unfold reach expo
  rw [if_neg ha.ne']
  induction a using EReal.rec with
  | bot => simp at ha
  | top => rw [EReal.top_mul_coe_of_pos c448_pos]; simp
  | coe r =>
    rw [← EReal.coe_mul, EReal.toReal_coe, EReal.toReal_coe, if_neg (EReal.coe_ne_top _), if_neg (EReal.coe_ne_top _)]
    omega

/-- The words of the scale and of its inverse, read as floats. -/
theorem word_scale (e : ℤ) (h1 : -126 ≤ e) (h2 : e ≤ 126) :
    Ideal.ofBits .f32 ((BitVec.ofInt 32 e + 127#32) <<< 23) = ((pow2 e : ℝ) : EReal) := by
  have h : BitVec.ofInt 32 e + 127#32 = BitVec.ofNat 32 (e + 127).toNat := by
    apply BitVec.eq_of_toInt_eq
    rw [show (127#32 : BitVec 32) = BitVec.ofInt 32 127 from rfl, ← BitVec.ofInt_add, ← BitVec.ofInt_natCast, Int.toNat_of_nonneg (by omega)]
  rw [h]
  show bitsAt _ = _
  rw [bitsAt_eq _ (by omega), if_neg (by omega), if_neg (by omega), Int.toNat_of_nonneg (by omega), add_sub_cancel_right]

theorem word_inv (e : ℤ) (h1 : -126 ≤ e) (h2 : e ≤ 126) :
    Ideal.ofBits .f32 ((127#32 - BitVec.ofInt 32 e) <<< 23) = ((pow2 (-e) : ℝ) : EReal) := by
  have h : 127#32 - BitVec.ofInt 32 e = BitVec.ofInt 32 (-e) + 127#32 := by
    rw [BitVec.ofInt_neg, BitVec.add_comm, BitVec.sub_eq_add_neg]
  rw [h, word_scale _ (by omega) (by omega)]

/-! ## The codes -/

/-- A value over its scale, clipped. -/
def clip (x : EReal) : EReal := min ((448 : ℝ) : EReal) (max ((-448 : ℝ) : EReal) x)

theorem clip_coe (r : ℝ) : clip (r : EReal) = ((min 448 (max (-448) r) : ℝ) : EReal) := by
  unfold clip; rw [← coe_max, ← coe_min]

theorem clip_real (x : EReal) : ((clip x).toReal : EReal) = clip x := by
  refine EReal.coe_toReal (ne_of_lt (lt_of_le_of_lt (min_le_left _ _) (EReal.coe_lt_top _))) (ne_of_gt ?_)
  exact lt_of_lt_of_le (EReal.bot_lt_coe (-448)) (le_min (by exact_mod_cast (by norm_num : (-448 : ℝ) ≤ 448)) (le_max_left _ _))

/-- A tile: 128 rows of 128 lanes. -/
abbrev Tile := Fin 128 → Fin 128 → EReal

/-- A tile's largest magnitude. -/
def amax (f : Tile) : EReal := Finset.univ.sup fun p : Fin 128 × Fin 128 => max (f p.1 p.2) (-f p.1 p.2)

theorem amax_nonneg (f : Tile) : 0 ≤ amax f := by
  refine le_trans ?_ (Finset.le_sup (f := fun p : Fin 128 × Fin 128 => max (f p.1 p.2) (-f p.1 p.2)) (Finset.mem_univ (0, 0)))
  rcases le_total 0 (f 0 0) with h | h
  · exact le_max_of_le_left h
  · exact le_max_of_le_right (by simpa using EReal.neg_le_neg_iff.2 h)

/-- A tile's scale and its codes. -/
def sc (f : Tile) : ℝ := pow2 (expo (amax f))
def code (f : Tile) (r c : Fin 128) : ℝ := (clip (f r c * ((pow2 (-expo (amax f)) : ℝ) : EReal))).toReal

theorem code_eq (f : Tile) (r c : Fin 128) : ((code f r c : ℝ) : EReal) = clip (f r c * ((pow2 (-expo (amax f)) : ℝ) : EReal)) := clip_real _

end Cert.Attn

end
-- ==== Proof.KernelQuant.lean ====
/- The kernel's quantiser over the extended reals: a tile's scale is `sc` of the tile, its codes are `code`. -/
module

public import proofs.«01_k».proof.Proof.Scale
public import proofs.«01_k».proof.Proof.KernelArrays
public import Idealize.ShloMosaic.Lib.ValueIdxCore

@[expose] public section

noncomputable section

namespace Cert.KernelIdeal.Hand

open Idealize.ShloMosaic Idealize.ShloMosaic.ValueIdx
open Cert.KernelIdeal Cert.KernelIdeal.Gen Cert.Attn

/-- A stored block as a tile. -/
def tile (v : Vec Ideal S1x128x128 .bf16) : Tile := fun r c => v (ixT r.val c.val r.isLt c.isLt)

/-- The same index by its flat position. -/
theorem cast_tile {α : Type} (x : S1x128x128.Idx → α) (h : S1x128x128.ShapeCasts S128x128) (r c : Fin 128) :
    shapeCast S128x128 x h (ix2 r c) = x (ixT r.val c.val r.isLt c.isLt) := by
  refine shapeCast_apply x h _ _ ?_
  rw [Shape.rowMajor_val_three, Shape.rowMajor_val_two]
  show (0 * 128 + r.val) * 128 + c.val = r.val * 128 + c.val
  omega

theorem cast_block {α : Type} (x : S128x128.Idx → α) (h : S128x128.ShapeCasts S1x128x128) (i : S1x128x128.Idx) :
    shapeCast S1x128x128 x h i = x (ix2 (i 1) (i 2)) := by
  refine shapeCast_apply x h _ _ ?_
  have : (i 0).val < 1 := (i 0).isLt
  rw [Shape.rowMajor_val_three, Shape.rowMajor_val_two]
  show (i 1).val * 128 + (i 2).val = ((i 0).val * 128 + (i 1).val) * 128 + (i 2).val
  omega

theorem wide_apply (v : Vec Ideal S1x128x128 .bf16) (r c : Fin 128) : wide (F := Ideal) v (ix2 r c) = tile v r c :=
  cast_tile v shapeCasts_S1x128x128_S128x128 r c

theorem extract_cast {α : Type} (x : S1.Idx → α) (i : S1x1.Idx) :
    broadcast S1x1 (extractAt ![0, 0, 0] (shapeCast S1x1x1 x shapeCasts_S1_S1x1x1) inpos_S1x1x1_p0_0_0) i = x (ix1 (0 : Fin 1)) := by
  unfold broadcast extractAt
  refine shapeCast_apply x shapeCasts_S1_S1x1x1 _ _ ?_
  rw [Shape.rowMajor_val_one, Shape.rowMajor_val_three]
  show 0 = (0 * 1 + 0) * 1 + 0
  rfl

/-- The largest magnitude times the constant. -/
theorem tileMax_apply (t : FVec Ideal S128x128 .f32) (i : S1x1.Idx) :
    tileMax (F := Ideal) t i = amax (fun r c => t (ix2 r c)) * (c448 : EReal) := by
  have hm : ∀ j : S1.Idx, (multiReduction .maximumf [1, 2] S1 (shapeCast S1x128x128 (absf t) shapeCasts_S128x128_S1x128x128) 0xFF800000#32
      reduces_S1x128x128_S1 (.inl rfl) rfl : FVec Ideal S1 .f32) j = amax (fun r c => t (ix2 r c)) := by
    intro j
    refine (multiReduction_maximumf_eq_fold _ _ _ _ _ j).trans ?_
    have hall : (Finset.univ.filter fun i : S1x128x128.Idx => Shape.Reduces.drop reduces_S1x128x128_S1 i = j) = Finset.univ :=
      Finset.filter_true_of_mem fun i _ => funext fun a => Fin.ext (by
        match a with
        | ⟨0, h⟩ =>
          have h1 : (Shape.Reduces.drop reduces_S1x128x128_S1 i ⟨0, h⟩).val < 1 := (Shape.Reduces.drop reduces_S1x128x128_S1 i ⟨0, h⟩).isLt
          have h2 : (j ⟨0, h⟩).val < 1 := (j ⟨0, h⟩).isLt
          omega)
    rw [hall]
    show Finset.fold max (Ideal.ofBits .f32 0xFF800000#32) _ _ = _
    rw [ofBits_bot]
    show Finset.univ.sup _ = _
    unfold amax
    refine le_antisymm (Finset.sup_le fun i _ => ?_) (Finset.sup_le fun p _ => ?_)
    · rw [cast_block]
      exact Finset.le_sup (f := fun p : Fin 128 × Fin 128 => max (t (ix2 p.1 p.2)) (-t (ix2 p.1 p.2))) (Finset.mem_univ (i 1, i 2))
    · refine le_trans (le_of_eq ?_) (Finset.le_sup (f := shapeCast S1x128x128 (absf t) shapeCasts_S128x128_S1x128x128) (Finset.mem_univ (ixT p.1.val p.2.val p.1.isLt p.2.isLt)))
      rw [cast_block]; rfl
  unfold tileMax
  show _ * Ideal.ofBits .f32 0x3B124925#32 = _
  rw [ofBits_c448]
  refine congrArg (· * (c448 : EReal)) ?_
  exact (extract_cast _ i).trans (hm _)

/-- The tile whose magnitudes an array of 128 × 128 numbers has. -/
abbrev asTile (t : FVec Ideal S128x128 .f32) : Tile := fun r c => t (ix2 r c)

theorem iota_float (i : S1x256.Idx) :
    (bitcastToFloat .f32 (shli (iota .tc S1x256 32 [1] iota_S1x256_d1_w32) (broadcast S1x256 23#32)) : FVec Ideal S1x256 .f32) i = bitsAt (i 1).val := by
  show Ideal.ofBits .f32 (IntOp.shli .vector (BitVec.ofNat 32 (0 * 256 + (i 1).val)) 23#32) = _
  rw [Nat.zero_mul, Nat.zero_add]
  rfl

/-- The count of powers of two at or below a positive number. -/
theorem count_apply (y : FVec Ideal S1x1 .f32) {z : EReal} (hz : 0 < z) (hy : ∀ i, y i = z) (j : S1.Idx) :
    (multiReductionI .add [1] S1
      (extui 32 (cmpf .oge (broadcastTo S1x256 y broadcasts_S1x1_S1x256)
        (bitcastToFloat .f32 (shli (iota .tc S1x256 32 [1] iota_S1x256_d1_w32) (broadcast S1x256 23#32)) : FVec Ideal S1x256 .f32)) natLt_1_32)
      0#32 reduces_S1x256_S1 rfl : IVec S1 32) j = BitVec.ofNat 32 (reach z + 1) := by
  refine (multiReductionI_eq_fold _ _ _ _ _ j).trans ?_
  refine (IndicatorCount.fold_addi_setWidth_eq_card (w := 32) (cmpf .oge (broadcastTo S1x256 y broadcasts_S1x1_S1x256)
        (bitcastToFloat .f32 (shli (iota .tc S1x256 32 [1] iota_S1x256_d1_w32) (broadcast S1x256 23#32)) : FVec Ideal S1x256 .f32)) _).trans ?_
  rw [← card_le hz]
  refine congrArg (BitVec.ofNat 32) ?_
  have hj : ∀ i : S1x256.Idx, Shape.Reduces.drop reduces_S1x256_S1 i = j := fun i => funext fun a => Fin.ext (by
    match a with
    | ⟨0, h⟩ =>
      have h1 : (Shape.Reduces.drop reduces_S1x256_S1 i ⟨0, h⟩).val < 1 := (Shape.Reduces.drop reduces_S1x256_S1 i ⟨0, h⟩).isLt
      have h2 : (j ⟨0, h⟩).val < 1 := (j ⟨0, h⟩).isLt
      omega)
  have hc : ∀ i : S1x256.Idx, (cmpf .oge (broadcastTo S1x256 y broadcasts_S1x1_S1x256)
      (bitcastToFloat .f32 (shli (iota .tc S1x256 32 [1] iota_S1x256_d1_w32) (broadcast S1x256 23#32)) : FVec Ideal S1x256 .f32)) i = 1#1
      ↔ bitsAt (i 1).val ≤ z := by
    intro i
    rw [cmpf_apply, iota_float, show broadcastTo S1x256 y broadcasts_S1x1_S1x256 i = z from hy _]
    show BitVec.ofBool (decide (bitsAt (i 1).val ≤ z)) = 1#1 ↔ _
    by_cases h : bitsAt (i 1).val ≤ z <;> simp [h]
  refine Finset.card_bij (fun i _ => (i 1 : Fin 256)) ?_ ?_ ?_
  · intro i hi
    exact Finset.mem_filter.2 ⟨Finset.mem_univ _, (hc i).1 (Finset.mem_filter.1 hi).2⟩
  · intro i _ i' _ h
    rw [eq_ix2 (n0 := 1) (n1 := 256) i, eq_ix2 (n0 := 1) (n1 := 256) i']
    have h0 : i 0 = i' 0 := Fin.ext (by have h1 : (i 0).val < 1 := (i 0).isLt; have h2 : (i' 0).val < 1 := (i' 0).isLt; omega)
    rw [h0, h]
  · intro s hs
    refine ⟨ix2 (0 : Fin 1) s, Finset.mem_filter.2 ⟨Finset.mem_filter.2 ⟨Finset.mem_univ _, hj _⟩, (hc _).2 (Finset.mem_filter.1 hs).2⟩, rfl⟩

/-- The exponent, as a word. -/
theorem tileExp_apply (y : FVec Ideal S1x1 .f32) {a : EReal} (ha : 0 ≤ a) (hy : ∀ i, y i = a * (c448 : EReal)) (i : S1x1.Idx) :
    tileExp (F := Ideal) y i = BitVec.ofInt 32 (expo a) := by
  have hcmp : cmpf .oeq y (broadcast S1x1 (Scalar.ofBits .f32 0x00000000#32)) i = BitVec.ofBool (decide (a * (c448 : EReal) = 0)) := by
    rw [cmpf_apply, hy]
    show BitVec.ofBool (decide (a * (c448 : EReal) = Ideal.ofBits .f32 0x00000000#32)) = _
    rw [ofBits_zero]
  rcases ha.eq_or_lt with h0 | h0
  · subst h0
    unfold tileExp
    rw [select_apply, hcmp, zero_mul, decide_eq_true rfl]
    show (0#32 : BitVec 32) = _
    unfold expo; rw [if_pos rfl]; rfl
  · have hpos : 0 < a * (c448 : EReal) := EReal.mul_pos h0 (by exact_mod_cast c448_pos)
    unfold tileExp
    rw [select_apply, hcmp, decide_eq_false hpos.ne']
    have hN : reach (a * (c448 : EReal)) < 256 := by unfold reach; split_ifs <;> omega
    rw [← reach_expo h0, ← word_of_reach ⟨_, hN⟩]
    exact congrArg (fun w => IntOp.subi (IntOp.minsi (IntOp.subi w 1#32) 252#32) 126#32) (count_apply y hpos hy _)

/-- The scale and its inverse. -/
theorem tileScale_apply (y : FVec Ideal S1x1 .f32) {a : EReal} (ha : 0 ≤ a) (hy : ∀ i, y i = a * (c448 : EReal)) (i : S1x1.Idx) :
    tileScale (F := Ideal) y i = ((pow2 (expo a) : ℝ) : EReal) := by
  rw [← word_scale _ (le_expo a) (expo_le a), ← tileExp_apply y ha hy i]; rfl

theorem tileInv_apply (y : FVec Ideal S1x1 .f32) {a : EReal} (ha : 0 ≤ a) (hy : ∀ i, y i = a * (c448 : EReal)) (i : S1x1.Idx) :
    tileInv (F := Ideal) y i = ((pow2 (-expo a) : ℝ) : EReal) := by
  rw [← word_inv _ (le_expo a) (expo_le a), ← tileExp_apply y ha hy i]; rfl

theorem asTile_wide (v : Vec Ideal S1x128x128 .bf16) : asTile (wide (F := Ideal) v) = tile v := funext fun r => funext fun c => wide_apply v r c

theorem scaleOf_apply (v : Vec Ideal S1x128x128 .bf16) (i : S1x1.Idx) : scaleOf (F := Ideal) v i = ((sc (tile v) : ℝ) : EReal) := by
  refine tileScale_apply (tileMax (wide v)) (amax_nonneg (tile v)) (fun j => ?_) i
  exact (tileMax_apply (wide v) j).trans (congrArg (fun f => amax f * (c448 : EReal)) (asTile_wide v))

/-- The codes. -/
theorem tileCodes_apply (v : Vec Ideal S1x128x128 .bf16) (r c : Fin 128) : tileCodes (F := Ideal) (wide v) (ix2 r c) = ((code (tile v) r c : ℝ) : EReal) := by
  have hi : ∀ j, tileInv (F := Ideal) (tileMax (wide v)) j = ((pow2 (-expo (amax (tile v))) : ℝ) : EReal) :=
    tileInv_apply (tileMax (wide v)) (amax_nonneg (tile v)) fun j => (tileMax_apply (wide v) j).trans (congrArg (fun f => amax f * (c448 : EReal)) (asTile_wide v))
  rw [code_eq]
  show min (Ideal.ofBits .f32 0x43E00000#32) (max (Ideal.ofBits .f32 0xC3E00000#32) (wide (F := Ideal) v (ix2 r c) * tileInv (F := Ideal) (tileMax (wide v)) _)) = _
  rw [hi, ofBits_448, ofBits_neg448, wide_apply]
  rfl

theorem codesOut_apply (v : Vec Ideal S1x128x128 .bf16) (r c : ℕ) (hr : r < 128) (hc : c < 128) :
    codesOut (F := Ideal) v (ixT r c hr hc) = ((code (tile v) ⟨r, hr⟩ ⟨c, hc⟩ : ℝ) : EReal) :=
  (cast_block _ shapeCasts_S128x128_S1x128x128 (ixT r c hr hc)).trans (tileCodes_apply v ⟨r, hr⟩ ⟨c, hc⟩)

theorem codesOutT_apply (v : Vec Ideal S1x128x128 .bf16) (r c : ℕ) (hr : r < 128) (hc : c < 128) :
    codesOutT (F := Ideal) v (ixT r c hr hc) = ((code (tile v) ⟨c, hc⟩ ⟨r, hr⟩ : ℝ) : EReal) := by
  refine (cast_block _ shapeCasts_S128x128_S1x128x128 (ixT r c hr hc)).trans ?_
  refine Eq.trans ?_ (tileCodes_apply v ⟨c, hc⟩ ⟨r, hr⟩)
  exact transpose_apply [1, 0] (tileCodes (wide v)) transposes_S128x128_p1_0_S128x128 _ _ (fun b => match b with
    | ⟨0, _⟩ => rfl
    | ⟨1, _⟩ => rfl)

end Cert.KernelIdeal.Hand

end
-- ==== Proof.RefQuant.lean ====
/- The reference's quantiser over the extended reals: a tile's scale is `sc` of the tile, its codes are `code`. -/
module

public import proofs.«01_k».proof.Proof.Scale
public import proofs.«01_k».proof.Proof.RefRun
public import Idealize.ShloMosaic.Lib.ValueIdxCore
public import Idealize.ShloMosaic.Lib.Pipeline.Value

@[expose] public section

set_option maxRecDepth 16384

noncomputable section

namespace Cert.Attn

open Idealize.ShloMosaic Idealize.ShloMosaic.ValueIdx

/-- The tile of batch `b`, block `n`, head `h` of the queries, -/
def tileX (X : (⟨3, ![8, 2048, 4096]⟩ : Shape).Idx → EReal) (b : Fin 8) (n : Fin 16) (h : Fin 32) : Tile := fun r c =>
  X (ix3 b ⟨128 * n.val + r.val, by omega⟩ ⟨128 * h.val + c.val, by omega⟩)
/-- and of the keys or values. -/
def tileKV (K : (⟨3, ![8, 2048, 1024]⟩ : Shape).Idx → EReal) (b : Fin 8) (n : Fin 16) (h : Fin 8) : Tile := fun r c =>
  K (ix3 b ⟨128 * n.val + r.val, by omega⟩ ⟨128 * h.val + c.val, by omega⟩)

/-- Head `g` of key head `j`'s group. -/
def headOf (j : Fin 8) (g : Fin 4) : Fin 32 := ⟨4 * j.val + g.val, by omega⟩

end Cert.Attn

namespace Cert.ReferenceIdeal.Hand

open Idealize.ShloMosaic Idealize.ShloMosaic.ValueIdx
open Cert.ReferenceIdeal Cert.ReferenceIdeal.Gen Cert.Attn

/-! ## At one tile -/

theorem ln2_apply (i : S_.Idx) : ln2 (F := Ideal) i = ((Real.log 2 : ℝ) : EReal) := by
  show Ideal.log (Ideal.ofBits .f32 0x40000000#32) = _
  rw [ofBits_two]
  show (if (2 : ℝ) ≤ 0 then ⊥ else ((Real.log 2 : ℝ) : EReal)) = _
  rw [if_neg (by norm_num)]

/-- The exponent of a tile whose largest magnitude is `a`. -/
def refExpo (a : EReal) : EReal :=
  Scalar.select (BitVec.ofBool (decide (a = Ideal.ofBits .f32 0x00000000#32))) (Ideal.ofBits .f32 0x00000000#32)
    (min (Ideal.ofBits .f32 0x42FC0000#32) (max (Ideal.ofBits .f32 0xC2FC0000#32)
      (Ideal.liftRound Int.floor (Ideal.div (Ideal.log (a * Ideal.ofBits .f32 0x3B124925#32)) (ln2 (F := Ideal) ix0)) + Ideal.ofBits .f32 0x3F800000#32)))

theorem refExpo_eq {a : EReal} (ha : 0 ≤ a) : refExpo a = ((expo a : ℝ) : EReal) := by
  rw [← ref_expo ha]
  unfold refExpo
  rw [ofBits_zero, ofBits_126, ofBits_neg126, ofBits_c448, ln2_apply, show Ideal.ofBits .f32 0x3F800000#32 = ((1 : ℝ) : EReal) from ofBits_one]
  by_cases h : a = 0
  · rw [if_pos h, decide_eq_true h]; rfl
  · rw [if_neg h, decide_eq_false h]; rfl

theorem exp_refExpo {a : EReal} (ha : 0 ≤ a) : Ideal.exp (refExpo a * ln2 (F := Ideal) ix0) = ((pow2 (expo a) : ℝ) : EReal) := by
  rw [refExpo_eq ha, ln2_apply, exp_ln2]

theorem exp_neg_refExpo {a : EReal} (ha : 0 ≤ a) : Ideal.exp (-refExpo a * ln2 (F := Ideal) ix0) = ((pow2 (-expo a) : ℝ) : EReal) := by
  rw [refExpo_eq ha, ln2_apply, ← exp_ln2, Int.cast_neg, EReal.coe_neg]

/-! ## Arrays of tiles, of any number of heads -/

theorem reduce_tiles {H : ℕ} (t : FVec Ideal ⟨5, ![8, 16, 128, H, 128]⟩ .f32) (hr : Shape.ReducesTo ⟨5, ![8, 16, 128, H, 128]⟩ [2, 4] ⟨3, ![8, 16, H]⟩)
    (hu : 0 < S_.numel) (b : Fin 8) (n : Fin 16) (h : Fin H) :
    Host.reduce (FloatOps.maximumf (F := Ideal) (φ := .f32)) (Host.absf t) (constant S_ .f32 0xFF800000#32 : FVec Ideal S_ .f32) hr hu (ix3 b n h)
      = amax fun r c => t (ix5 b n r h c) := by
  refine (Host.reduce_eq_fold _ _ _ _ _ _).trans ?_
  show Finset.fold max (Ideal.ofBits .f32 0xFF800000#32) _ _ = _
  rw [ofBits_bot]
  show Finset.sup _ (fun i => max (t i) (-t i)) = _
  unfold amax
  refine le_antisymm (Finset.sup_le fun i hi => ?_) (Finset.sup_le fun p _ => ?_)
  · have hd := (Finset.mem_filter.1 hi).2
    have h0 : i 0 = b := Fin.ext (congrArg Fin.val (congrFun hd 0))
    have h1 : i 1 = n := Fin.ext (congrArg Fin.val (congrFun hd 1))
    have h3 : i 3 = h := Fin.ext (congrArg Fin.val (congrFun hd 2))
    have e : i = ix5 b n (i 2) h (i 4) := by rw [← h0, ← h1, ← h3]; exact eq_ix5 i
    rw [e]
    exact Finset.le_sup (f := fun p : Fin 128 × Fin 128 => max (t (ix5 b n p.1 h p.2)) (-t (ix5 b n p.1 h p.2))) (Finset.mem_univ (i 2, i 4))
  · refine Finset.le_sup (f := fun i => max (t i) (-t i)) (b := ix5 b n p.1 h p.2) (Finset.mem_filter.2 ⟨Finset.mem_univ _, ?_⟩)
    funext a; apply Fin.ext
    match a with
    | ⟨0, _⟩ => rfl
    | ⟨1, _⟩ => rfl
    | ⟨2, _⟩ => rfl

theorem spread_tiles {α : Type} {H : ℕ} (hH : H ≠ 1) (s : (⟨3, ![8, 16, H]⟩ : Shape).Idx → α)
    (h1 : Shape.BroadcastsInDim ⟨3, ![8, 16, H]⟩ ⟨5, ![8, 16, 1, H, 1]⟩ ![0, 1, 3])
    (h2 : Shape.BroadcastsInDim ⟨5, ![8, 16, 1, H, 1]⟩ ⟨5, ![8, 16, 128, H, 128]⟩ ![0, 1, 2, 3, 4])
    (b : Fin 8) (n : Fin 16) (r : Fin 128) (h : Fin H) (c : Fin 128) :
    broadcastInDim ⟨5, ![8, 16, 128, H, 128]⟩ ![0, 1, 2, 3, 4] h2 (broadcastInDim ⟨5, ![8, 16, 1, H, 1]⟩ ![0, 1, 3] h1 s) (ix5 b n r h c) = s (ix3 b n h) := by
  refine (broadcastInDim_apply _ _ _ _ (ix5 b n (0 : Fin 1) h (0 : Fin 1)) fun a => ?_).trans (broadcastInDim_apply _ _ _ _ _ fun a => ?_)
  · match a with
    | ⟨0, _⟩ => rfl
    | ⟨1, _⟩ => rfl
    | ⟨2, _⟩ => rfl
    | ⟨3, _⟩ => exact (if_neg hH).symm
    | ⟨4, _⟩ => rfl
  · match a with
    | ⟨0, _⟩ => rfl
    | ⟨1, _⟩ => rfl
    | ⟨2, _⟩ => exact (if_neg hH).symm

/-! ## Queries -/

theorem tilesX_apply (X : Vec Ideal S8x2048x4096 .bf16) (b : Fin 8) (n : Fin 16) (r : Fin 128) (h : Fin 32) (c : Fin 128) :
    tilesX (F := Ideal) X (ix5 b n r h c) = tileX X b n h r c := by
  refine shapeCast_apply (extf .f32 (X : FVec Ideal S8x2048x4096 .bf16) bitsLt_bf16_f32 : FVec Ideal S8x2048x4096 .f32) shapeCasts_S8x2048x4096_S8x16x128x32x128 _ _ ?_
  rw [Shape.rowMajor_val_three, Shape.rowMajor_val_five]
  show (b.val * 2048 + (128 * n.val + r.val)) * 4096 + (128 * h.val + c.val) = (((b.val * 16 + n.val) * 128 + r.val) * 32 + h.val) * 128 + c.val
  omega

theorem amaxX_apply (X : Vec Ideal S8x2048x4096 .bf16) (b : Fin 8) (n : Fin 16) (h : Fin 32) :
    amaxX (F := Ideal) (tilesX X) (ix3 b n h) = amax (tileX X b n h) :=
  (reduce_tiles (tilesX (F := Ideal) X) reducesTo_S8x16x128x32x128_S8x16x32_d2_4 h_S_ b n h).trans
    (congrArg amax (funext fun r => funext fun c => tilesX_apply X b n r h c))

theorem scaleX_at (a : Vec Ideal S8x16x32 .f32) (i : S8x16x32.Idx) : scaleX (F := Ideal) a i = Ideal.exp (refExpo (a i) * ln2 (F := Ideal) ix0) := by
  unfold scaleX
  show Ideal.exp (expoX (F := Ideal) a i * _) = _
  refine congrArg Ideal.exp (congrArg₂ (· * ·) rfl ?_)
  exact (ln2_apply _).trans (ln2_apply _).symm
theorem invX_at (a : Vec Ideal S8x16x32 .f32) (i : S8x16x32.Idx) : invX (F := Ideal) a i = Ideal.exp (-refExpo (a i) * ln2 (F := Ideal) ix0) := by
  unfold invX
  show Ideal.exp (-expoX (F := Ideal) a i * _) = _
  refine congrArg Ideal.exp (congrArg₂ (· * ·) (congrArg Neg.neg rfl) ?_)
  exact (ln2_apply _).trans (ln2_apply _).symm

theorem scaleX_apply (X : Vec Ideal S8x2048x4096 .bf16) (b : Fin 8) (n : Fin 16) (h : Fin 32) :
    scaleX (F := Ideal) (amaxX (tilesX X)) (ix3 b n h) = ((sc (tileX X b n h) : ℝ) : EReal) := by
  rw [scaleX_at, amaxX_apply, exp_refExpo (amax_nonneg _)]; rfl

theorem spreadX_apply (s : Vec Ideal S8x16x32 .f32) (b : Fin 8) (n : Fin 16) (r : Fin 128) (h : Fin 32) (c : Fin 128) :
    spreadX s (ix5 b n r h c) = s (ix3 b n h) :=
  spread_tiles (by decide) s bcast_S8x16x32_S8x16x1x32x1_0_1_3 bcast_S8x16x1x32x1_S8x16x128x32x128_0_1_2_3_4 b n r h c

theorem codesX_apply (X : Vec Ideal S8x2048x4096 .bf16) (b : Fin 8) (n : Fin 16) (r : Fin 128) (h : Fin 32) (c : Fin 128) :
    codesX (F := Ideal) (tilesX X) (ix5 b n r h c) = ((code (tileX X b n h) r c : ℝ) : EReal) := by
  rw [code_eq]
  show min (Ideal.ofBits .f32 0x43E00000#32) (max (Ideal.ofBits .f32 0xC3E00000#32) (tilesX (F := Ideal) X (ix5 b n r h c) * spreadX (invX (F := Ideal) (amaxX (tilesX X))) (ix5 b n r h c))) = _
  rw [spreadX_apply, invX_at, amaxX_apply, exp_neg_refExpo (amax_nonneg _), ofBits_448, ofBits_neg448, tilesX_apply]
  rfl

/-- The query codes: the code of each tile's element. -/
theorem refQ_apply (X : Vec Ideal S8x2048x4096 .bf16) (b : Fin 8) (n : Fin 16) (r : Fin 128) (h : Fin 32) (c : Fin 128) (i : S8x2048x32x128.Idx)
    (h0 : (i 0).val = b.val) (h1 : (i 1).val = 128 * n.val + r.val) (h2 : (i 2).val = h.val) (h3 : (i 3).val = c.val) :
    refQ (F := Ideal) X i = ((code (tileX X b n h) r c : ℝ) : EReal) := by
  refine (shapeCast_apply (codesX (F := Ideal) _) shapeCasts_S8x16x128x32x128_S8x2048x32x128 i (ix5 b n r h c) ?_).trans (codesX_apply X b n r h c)
  rw [Shape.rowMajor_val_four, Shape.rowMajor_val_five, h0, h1, h2, h3]
  show (((b.val * 16 + n.val) * 128 + r.val) * 32 + h.val) * 128 + c.val = ((b.val * 2048 + (128 * n.val + r.val)) * 32 + h.val) * 128 + c.val
  omega

/-! ## Keys and values -/

theorem tilesKV_apply (K : Vec Ideal S8x2048x1024 .bf16) (b : Fin 8) (n : Fin 16) (r : Fin 128) (h : Fin 8) (c : Fin 128) :
    tilesKV (F := Ideal) K (ix5 b n r h c) = tileKV K b n h r c := by
  refine shapeCast_apply (extf .f32 (K : FVec Ideal S8x2048x1024 .bf16) bitsLt_bf16_f32 : FVec Ideal S8x2048x1024 .f32) shapeCasts_S8x2048x1024_S8x16x128x8x128 _ _ ?_
  rw [Shape.rowMajor_val_three, Shape.rowMajor_val_five]
  show (b.val * 2048 + (128 * n.val + r.val)) * 1024 + (128 * h.val + c.val) = (((b.val * 16 + n.val) * 128 + r.val) * 8 + h.val) * 128 + c.val
  omega

theorem amaxKV_apply (K : Vec Ideal S8x2048x1024 .bf16) (b : Fin 8) (n : Fin 16) (h : Fin 8) :
    amaxKV (F := Ideal) (tilesKV K) (ix3 b n h) = amax (tileKV K b n h) :=
  (reduce_tiles (tilesKV (F := Ideal) K) reducesTo_S8x16x128x8x128_S8x16x8_d2_4 h_S_ b n h).trans
    (congrArg amax (funext fun r => funext fun c => tilesKV_apply K b n r h c))

theorem scaleKV_at (a : Vec Ideal S8x16x8 .f32) (i : S8x16x8.Idx) : scaleKV (F := Ideal) a i = Ideal.exp (refExpo (a i) * ln2 (F := Ideal) ix0) := by
  unfold scaleKV
  show Ideal.exp (expoKV (F := Ideal) a i * _) = _
  refine congrArg Ideal.exp (congrArg₂ (· * ·) rfl ?_)
  exact (ln2_apply _).trans (ln2_apply _).symm
theorem invKV_at (a : Vec Ideal S8x16x8 .f32) (i : S8x16x8.Idx) : invKV (F := Ideal) a i = Ideal.exp (-refExpo (a i) * ln2 (F := Ideal) ix0) := by
  unfold invKV
  show Ideal.exp (-expoKV (F := Ideal) a i * _) = _
  refine congrArg Ideal.exp (congrArg₂ (· * ·) (congrArg Neg.neg rfl) ?_)
  exact (ln2_apply _).trans (ln2_apply _).symm

theorem scaleKV_apply (K : Vec Ideal S8x2048x1024 .bf16) (b : Fin 8) (n : Fin 16) (h : Fin 8) :
    scaleKV (F := Ideal) (amaxKV (tilesKV K)) (ix3 b n h) = ((sc (tileKV K b n h) : ℝ) : EReal) := by
  rw [scaleKV_at, amaxKV_apply, exp_refExpo (amax_nonneg _)]; rfl

theorem spreadKV_apply (s : Vec Ideal S8x16x8 .f32) (b : Fin 8) (n : Fin 16) (r : Fin 128) (h : Fin 8) (c : Fin 128) :
    spreadKV s (ix5 b n r h c) = s (ix3 b n h) :=
  spread_tiles (by decide) s bcast_S8x16x8_S8x16x1x8x1_0_1_3 bcast_S8x16x1x8x1_S8x16x128x8x128_0_1_2_3_4 b n r h c

theorem codesKV_apply (K : Vec Ideal S8x2048x1024 .bf16) (b : Fin 8) (n : Fin 16) (r : Fin 128) (h : Fin 8) (c : Fin 128) :
    codesKV (F := Ideal) (tilesKV K) (ix5 b n r h c) = ((code (tileKV K b n h) r c : ℝ) : EReal) := by
  rw [code_eq]
  show min (Ideal.ofBits .f32 0x43E00000#32) (max (Ideal.ofBits .f32 0xC3E00000#32) (tilesKV (F := Ideal) K (ix5 b n r h c) * spreadKV (invKV (F := Ideal) (amaxKV (tilesKV K))) (ix5 b n r h c))) = _
  rw [spreadKV_apply, invKV_at, amaxKV_apply, exp_neg_refExpo (amax_nonneg _), ofBits_448, ofBits_neg448, tilesKV_apply]
  rfl

/-- The key or value codes: the code of each tile's element. -/
theorem refKV_apply (K : Vec Ideal S8x2048x1024 .bf16) (b : Fin 8) (n : Fin 16) (r : Fin 128) (h : Fin 8) (c : Fin 128) (i : S8x2048x8x128.Idx)
    (h0 : (i 0).val = b.val) (h1 : (i 1).val = 128 * n.val + r.val) (h2 : (i 2).val = h.val) (h3 : (i 3).val = c.val) :
    refKV (F := Ideal) K i = ((code (tileKV K b n h) r c : ℝ) : EReal) := by
  refine (shapeCast_apply (codesKV (F := Ideal) _) shapeCasts_S8x16x128x8x128_S8x2048x8x128 i (ix5 b n r h c) ?_).trans (codesKV_apply K b n r h c)
  rw [Shape.rowMajor_val_four, Shape.rowMajor_val_five, h0, h1, h2, h3]
  show (((b.val * 16 + n.val) * 128 + r.val) * 8 + h.val) * 128 + c.val = ((b.val * 2048 + (128 * n.val + r.val)) * 8 + h.val) * 128 + c.val
  omega

end Cert.ReferenceIdeal.Hand

end
-- ==== Proof.CodesEq.lean ====
/- The codes are the reference's: every element of each array is the same function of its tile. -/
module

public import proofs.«01_k».proof.Proof.KernelQuant
public import proofs.«01_k».proof.Proof.KernelResults
public import proofs.«01_k».proof.Proof.RefQuant

@[expose] public section

noncomputable section

namespace Cert.KernelIdeal.Hand

open Idealize.ShloMosaic Idealize.ShloMosaic.ValueIdx
open Cert.KernelIdeal Cert.KernelIdeal.Gen Cert.Attn

theorem tile_x (X : Vec Ideal S8x2048x4096 .bf16) (b j : Fin 8) (n : Fin 16) (g : Fin 4) :
    tile (tl (F := Ideal) (blkX X b j) (rX n g)) = tileX X b n (headOf j g) := by
  funext r c
  refine congrArg X (funext fun a => Fin.ext ?_)
  match a with
  | ⟨0, _⟩ => rfl
  | ⟨1, _⟩ => show 128 * n.val + 1 * r.val = 128 * n.val + r.val; omega
  | ⟨2, _⟩ => show 512 * j.val + (128 * g.val + 1 * c.val) = 128 * (4 * j.val + g.val) + c.val; omega

theorem tile_kv (K : Vec Ideal S8x2048x1024 .bf16) (b j : Fin 8) (n : Fin 16) : tile (tl (F := Ideal) (blkKV K b j) (rKV n)) = tileKV K b n j := by
  funext r c
  refine congrArg K (funext fun a => Fin.ext ?_)
  match a with
  | ⟨0, _⟩ => rfl
  | ⟨1, _⟩ => show 128 * n.val + 1 * r.val = 128 * n.val + r.val; omega
  | ⟨2, _⟩ => show 128 * j.val + (0 + 1 * c.val) = 128 * j.val + c.val; omega

theorem resQ_eq (X : Vec Ideal S8x2048x4096 .bf16) : resQ (F := Ideal) X = Cert.ReferenceIdeal.Hand.refQ (F := Ideal) X := by
  funext i
  have h0 : (i 0).val < 8 := (i 0).isLt
  have h1 : (i 1).val < 2048 := (i 1).isLt
  have h2 : (i 2).val < 32 := (i 2).isLt
  have h3 : (i 3).val < 128 := (i 3).isLt
  refine (shapeCast_apply (arrQ (F := Ideal) X) shapeCasts_S8x2048x4096_S8x2048x32x128 i
    (ixX ⟨(i 0).val, h0⟩ ⟨(i 1).val, h1⟩ ⟨128 * (i 2).val + (i 3).val, by omega⟩) ?_).trans ?_
  · rw [Shape.rowMajor_val_three, Shape.rowMajor_val_four]
    show ((i 0).val * 2048 + (i 1).val) * 4096 + (128 * (i 2).val + (i 3).val) = (((i 0).val * 2048 + (i 1).val) * 32 + (i 2).val) * 128 + (i 3).val
    omega
  refine (codesOut_apply _ _ _ _ _).trans ?_
  rw [tile_x]
  refine (Cert.ReferenceIdeal.Hand.refQ_apply X _ _ _ _ _ i rfl ?_ ?_ ?_).symm
  · show (i 1).val = 128 * ((i 1).val / 128) + (i 1).val % 128; omega
  · show (i 2).val = 4 * ((128 * (i 2).val + (i 3).val) / 512) + (128 * (i 2).val + (i 3).val) % 512 / 128; omega
  · show (i 3).val = (128 * (i 2).val + (i 3).val) % 512 % 128; omega

theorem resKV_eq (K : Vec Ideal S8x2048x1024 .bf16) : resKV (F := Ideal) K = Cert.ReferenceIdeal.Hand.refKV (F := Ideal) K := by
  funext i
  have h0 : (i 0).val < 8 := (i 0).isLt
  have h1 : (i 1).val < 2048 := (i 1).isLt
  have h2 : (i 2).val < 8 := (i 2).isLt
  have h3 : (i 3).val < 128 := (i 3).isLt
  refine (shapeCast_apply (arrKV (F := Ideal) K) shapeCasts_S8x2048x1024_S8x2048x8x128 i
    (ixKV ⟨(i 0).val, h0⟩ ⟨(i 1).val, h1⟩ ⟨128 * (i 2).val + (i 3).val, by omega⟩) ?_).trans ?_
  · rw [Shape.rowMajor_val_three, Shape.rowMajor_val_four]
    show ((i 0).val * 2048 + (i 1).val) * 1024 + (128 * (i 2).val + (i 3).val) = (((i 0).val * 2048 + (i 1).val) * 8 + (i 2).val) * 128 + (i 3).val
    omega
  refine (codesOut_apply _ _ _ _ _).trans ?_
  rw [tile_kv]
  refine (Cert.ReferenceIdeal.Hand.refKV_apply K _ _ _ _ _ i rfl ?_ ?_ ?_).symm
  · show (i 1).val = 128 * ((i 1).val / 128) + (i 1).val % 128; omega
  · show (i 2).val = (128 * (i 2).val + (i 3).val) / 128; omega
  · show (i 3).val = (128 * (i 2).val + (i 3).val) % 128; omega

end Cert.KernelIdeal.Hand

end
-- ==== Proof.ScalesEq.lean ====
/- The scales are the reference's: each result array of scales is cut from the rows that the kernel leaves. -/
module

public import proofs.«01_k».proof.Proof.CodesEq

@[expose] public section

noncomputable section

namespace Cert.KernelIdeal.Hand

open Idealize.ShloMosaic Idealize.ShloMosaic.ValueIdx
open Cert.KernelIdeal Cert.KernelIdeal.Gen Cert.Attn

/-! ## The scales -/

/-- A row of scales: the four query tiles', the key tile's, the value tile's, then zeros. -/
def scaleRow (q : Fin 4 → EReal) (k v : EReal) (l : ℕ) : EReal :=
  if h : l < 4 then q ⟨l, h⟩ else if l = 4 then k else if l = 5 then v else 0

theorem scaleRow_lanes (a0 a1 a2 a3 k v : EReal) (l : ℕ) :
    (if l = 5 then v else if l = 4 then k else if l = 3 then a3 else if l = 2 then a2 else if l = 1 then a1 else if l = 0 then a0 else 0)
      = scaleRow ![a0, a1, a2, a3] k v l := by
  unfold scaleRow
  by_cases h : l < 4
  · rw [dif_pos h]
    interval_cases l <;> rfl
  · rw [dif_neg h]
    by_cases h4 : l = 4
    · subst h4; rfl
    · rw [if_neg h4, if_neg h4, if_neg (show ¬l = 3 by omega), if_neg (show ¬l = 2 by omega), if_neg (show ¬l = 1 by omega), if_neg (show ¬l = 0 by omega)]

theorem word_eq (l g : ℕ) (hl : l < 128) (hg : g < 128) : IntOp.cmpi .eq (BitVec.ofNat 32 l) (BitVec.ofNat 32 g) = BitVec.ofBool (decide (l = g)) := by
  show BitVec.ofBool (BitVec.ofNat 32 l == BitVec.ofNat 32 g) = _
  refine congrArg BitVec.ofBool ?_
  rw [Bool.beq_eq_decide_eq]
  refine decide_eq_decide.2 ⟨fun h => ?_, fun h => by rw [h]⟩
  have := congrArg BitVec.toNat h
  simp only [BitVec.toNat_ofNat] at this
  omega

theorem iota_lane (l : Fin 128) : (iota .tc S1x128 32 [1] iota_S1x128_d1_w32 : IVec S1x128 32) (ix2 (0 : Fin 1) l) = BitVec.ofNat 32 l.val := by
  show BitVec.ofNat 32 (0 * 128 + l.val) = _
  rw [Nat.zero_mul, Nat.zero_add]

theorem setLane_apply (g : ℕ) (hg : g < 128) (s : FVec Ideal S1x1 .f32) (z : EReal) (hs : ∀ i, s i = z) (row : FVec Ideal S1x128 .f32) (l : Fin 128) :
    setLane (F := Ideal) (BitVec.ofNat 32 g) s row (ix2 (0 : Fin 1) l) = if l.val = g then z else row (ix2 (0 : Fin 1) l) := by
  unfold setLane
  rw [select_apply]
  have hc : (cmpi .eq (iota .tc S1x128 32 [1] iota_S1x128_d1_w32) (broadcast S1x128 (BitVec.ofNat 32 g)) : IVec S1x128 1) (ix2 (0 : Fin 1) l)
      = BitVec.ofBool (decide (l.val = g)) := by
    refine Eq.trans ?_ (word_eq l.val g l.isLt hg)
    exact congrArg (fun w => IntOp.cmpi .eq w (BitVec.ofNat 32 g)) (iota_lane l)
  rw [hc]
  by_cases h : l.val = g
  · rw [decide_eq_true h, if_pos h]; exact hs _
  · rw [decide_eq_false h, if_neg h]; rfl

theorem zeros_apply (i : S1x128.Idx) : (broadcast S1x128 (Scalar.ofBits .f32 0x00000000#32) : FVec Ideal S1x128 .f32) i = 0 := ofBits_zero

theorem lanes_apply (s0 s1 s2 s3 s4 s5 : FVec Ideal S1x1 .f32) (z0 z1 z2 z3 z4 z5 : EReal) (h0 : ∀ i, s0 i = z0) (h1 : ∀ i, s1 i = z1) (h2 : ∀ i, s2 i = z2)
    (h3 : ∀ i, s3 i = z3) (h4 : ∀ i, s4 i = z4) (h5 : ∀ i, s5 i = z5) (l : Fin 128) :
    setLane (F := Ideal) 5#32 s5 (setLane 4#32 s4 (setLane 3#32 s3 (setLane 2#32 s2 (setLane 1#32 s1 (setLane 0#32 s0
      (broadcast S1x128 (Scalar.ofBits .f32 0x00000000#32))))))) (ix2 (0 : Fin 1) l) = scaleRow ![z0, z1, z2, z3] z4 z5 l.val := by
  rw [setLane_apply 5 (by decide) _ z5 h5, setLane_apply 4 (by decide) _ z4 h4, setLane_apply 3 (by decide) _ z3 h3,
    setLane_apply 2 (by decide) _ z2 h2, setLane_apply 1 (by decide) _ z1 h1, setLane_apply 0 (by decide) _ z0 h0, zeros_apply, scaleRow_lanes]

theorem cast_row (x : FVec Ideal S1x128 .f32) (l : ℕ) (hl : l < 128) : shapeCast S1x1x1x128 x shapeCasts_S1x128_S1x1x1x128 (ixL l hl) = x (ix2 (0 : Fin 1) ⟨l, hl⟩) := by
  refine shapeCast_apply x shapeCasts_S1x128_S1x1x1x128 _ _ ?_
  rw [Shape.rowMajor_val_two, Shape.rowMajor_val_four]
  show 0 * 128 + l = ((0 * 1 + 0) * 1 + 0) * 128 + l
  omega

theorem scalesOut_apply (q0 q1 q2 q3 k v : Vec Ideal S1x128x128 .bf16) (l : ℕ) (hl : l < 128) :
    scalesOut (F := Ideal) q0 q1 q2 q3 k v (ixL l hl)
      = scaleRow ![((sc (tile q0) : ℝ) : EReal), ((sc (tile q1) : ℝ) : EReal), ((sc (tile q2) : ℝ) : EReal), ((sc (tile q3) : ℝ) : EReal)]
        ((sc (tile k) : ℝ) : EReal) ((sc (tile v) : ℝ) : EReal) l :=
  (cast_row _ l hl).trans (lanes_apply _ _ _ _ _ _ _ _ _ _ _ _ (scaleOf_apply q0) (scaleOf_apply q1) (scaleOf_apply q2) (scaleOf_apply q3) (scaleOf_apply k)
    (scaleOf_apply v) ⟨l, hl⟩)

/-- The rows of scales that the region leaves, read at an index. -/
theorem arrSc_apply (X : Vec Ideal S8x2048x4096 .bf16) (K V : Vec Ideal S8x2048x1024 .bf16) (b j : Fin 8) (n : Fin 16) (l : Fin 128) :
    arrSc (F := Ideal) X K V (ix4 b j n l)
      = scaleRow (fun g => ((sc (tileX X b n (headOf j g)) : ℝ) : EReal)) ((sc (tileKV K b n j) : ℝ) : EReal) ((sc (tileKV V b n j) : ℝ) : EReal) l.val := by
  refine (scalesOut_apply _ _ _ _ _ _ _ _).trans ?_
  rw [tile_x, tile_x, tile_x, tile_x, tile_kv, tile_kv]
  refine congrArg (fun q => scaleRow q _ _ _) (funext fun g => ?_)
  match g with
  | ⟨0, _⟩ => rfl
  | ⟨1, _⟩ => rfl
  | ⟨2, _⟩ => rfl
  | ⟨3, _⟩ => rfl

/-! ## The cuts -/

theorem cutQ_apply (s : Vec Ideal S8x8x16x128 .f32) (b j : Fin 8) (n : Fin 16) (g : Fin 4) :
    cutQ (F := Ideal) s (ix3 b n (headOf j g)) = s (ix4 b j n (⟨g.val, by omega⟩ : Fin 128)) := by
  refine (shapeCast_apply _ shapeCasts_S8x16x8x4_S8x16x32 _ (ix4 b n j g) ?_).trans ?_
  · rw [Shape.rowMajor_val_three, Shape.rowMajor_val_four]
    show ((b.val * 16 + n.val) * 8 + j.val) * 4 + g.val = (b.val * 16 + n.val) * 32 + (4 * j.val + g.val)
    omega
  refine (transpose_apply [0, 2, 1, 3] _ transposes_S8x8x16x4_S8x16x8x4_0_2_1_3 _ (ix4 b j n g) fun a => match a with
    | ⟨0, _⟩ => rfl
    | ⟨1, _⟩ => rfl
    | ⟨2, _⟩ => rfl
    | ⟨3, _⟩ => rfl).trans ?_
  exact extractStridedSlice_apply (t := S8x8x16x4) ![0, 0, 0, 0] s slices_S8x8x16x128_S8x8x16x4_0_0_0_0 (ix4 b j n g)
    (ix4 b j n (⟨g.val, by omega⟩ : Fin 128)) fun a => match a with
    | ⟨0, _⟩ => (Nat.zero_add _).symm
    | ⟨1, _⟩ => (Nat.zero_add _).symm
    | ⟨2, _⟩ => (Nat.zero_add _).symm
    | ⟨3, _⟩ => (Nat.zero_add _).symm

theorem lane_apply (s : Vec Ideal S8x8x16x1 .f32) (b j : Fin 8) (n : Fin 16) :
    transpose S8x16x8 [0, 2, 1] (shapeCast S8x8x16 s shapeCasts_S8x8x16x1_S8x8x16 : Vec Ideal S8x8x16 .f32) transposes_S8x8x16_S8x16x8_0_2_1 (ix3 b n j)
      = s (ix4 b j n (0 : Fin 1)) := by
  refine (transpose_apply [0, 2, 1] _ transposes_S8x8x16_S8x16x8_0_2_1 _ (ix3 b j n) fun a => match a with
    | ⟨0, _⟩ => rfl
    | ⟨1, _⟩ => rfl
    | ⟨2, _⟩ => rfl).trans ?_
  refine shapeCast_apply s shapeCasts_S8x8x16x1_S8x8x16 _ _ ?_
  rw [Shape.rowMajor_val_three, Shape.rowMajor_val_four]
  show ((b.val * 8 + j.val) * 16 + n.val) * 1 + 0 = (b.val * 8 + j.val) * 16 + n.val
  omega

theorem cutK_apply (s : Vec Ideal S8x8x16x128 .f32) (b j : Fin 8) (n : Fin 16) : cutK (F := Ideal) s (ix3 b n j) = s (ix4 b j n (4 : Fin 128)) :=
  (lane_apply _ b j n).trans (extractStridedSlice_apply (t := S8x8x16x1) ![0, 0, 0, 4] s slices_S8x8x16x128_S8x8x16x1_0_0_0_4 (ix4 b j n (0 : Fin 1))
    (ix4 b j n (4 : Fin 128)) fun a => match a with
    | ⟨0, _⟩ => (Nat.zero_add _).symm
    | ⟨1, _⟩ => (Nat.zero_add _).symm
    | ⟨2, _⟩ => (Nat.zero_add _).symm
    | ⟨3, _⟩ => rfl)

theorem cutV_apply (s : Vec Ideal S8x8x16x128 .f32) (b j : Fin 8) (n : Fin 16) : cutV (F := Ideal) s (ix3 b n j) = s (ix4 b j n (5 : Fin 128)) :=
  (lane_apply _ b j n).trans (extractStridedSlice_apply (t := S8x8x16x1) ![0, 0, 0, 5] s slices_S8x8x16x128_S8x8x16x1_0_0_0_5 (ix4 b j n (0 : Fin 1))
    (ix4 b j n (5 : Fin 128)) fun a => match a with
    | ⟨0, _⟩ => (Nat.zero_add _).symm
    | ⟨1, _⟩ => (Nat.zero_add _).symm
    | ⟨2, _⟩ => (Nat.zero_add _).symm
    | ⟨3, _⟩ => rfl)

/-! ## The three arrays -/

variable (X : Vec Ideal S8x2048x4096 .bf16) (K V : Vec Ideal S8x2048x1024 .bf16)

theorem cutQ_eq : cutQ (F := Ideal) (arrSc X K V) = Cert.ReferenceIdeal.Hand.refQs (F := Ideal) X := by
  funext i
  have h2 : (i 2).val < 32 := (i 2).isLt
  have e : i = ix3 (n0 := 8) (n1 := 16) (n2 := 32) (i 0) (i 1) (headOf ⟨(i 2).val / 4, by omega⟩ ⟨(i 2).val % 4, by omega⟩) := by
    refine (eq_ix3 (n0 := 8) (n1 := 16) (n2 := 32) i).trans (congrArg (ix3 (n0 := 8) (n1 := 16) (n2 := 32) (i 0) (i 1)) (Fin.ext ?_))
    show (i 2).val = 4 * ((i 2).val / 4) + (i 2).val % 4
    omega
  rw [e]
  refine (cutQ_apply _ _ _ _ _).trans ((arrSc_apply X K V _ _ _ _).trans (Eq.trans ?_ (Cert.ReferenceIdeal.Hand.scaleX_apply X _ _ _).symm))
  unfold scaleRow
  rw [dif_pos (show (i 2).val % 4 < 4 by omega)]

theorem cutK_eq : cutK (F := Ideal) (arrSc X K V) = Cert.ReferenceIdeal.Hand.refKVs (F := Ideal) K := by
  funext i
  rw [eq_ix3 (n0 := 8) (n1 := 16) (n2 := 8) i]
  exact (cutK_apply _ _ _ _).trans ((arrSc_apply X K V _ _ _ _).trans (Cert.ReferenceIdeal.Hand.scaleKV_apply K _ _ _).symm)

theorem cutV_eq : cutV (F := Ideal) (arrSc X K V) = Cert.ReferenceIdeal.Hand.refKVs (F := Ideal) V := by
  funext i
  rw [eq_ix3 (n0 := 8) (n1 := 16) (n2 := 8) i]
  exact (cutV_apply _ _ _ _).trans ((arrSc_apply X K V _ _ _ _).trans (Cert.ReferenceIdeal.Hand.scaleKV_apply V _ _ _).symm)

end Cert.KernelIdeal.Hand

end
-- ==== Proof.Online.lean ====
/- Softmax over the extended reals, twice: block by block with a running maximum, as the program takes it, and over a whole
   row, as the reference does. Scores are reals `T k` where a condition holds and minus infinity elsewhere. -/
module

public import proofs.«01_k».proof.Proof.Scale

@[expose] public section

noncomputable section

open scoped BigOperators

namespace Cert.Attn

open Idealize.ShloMosaic

theorem coe_sum {ι : Type} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- A real score where `b` holds, minus infinity elsewhere. -/
def scoreAt {ι : Type} (T : ι → ℝ) (b : ι → Prop) [DecidablePred b] (k : ι) : EReal := if b k then (T k : EReal) else ⊥

section Max
variable {ι : Type} [Fintype ι] (T : ι → ℝ) (b : ι → Prop) [DecidablePred b]

theorem sup_lt_top : Finset.univ.sup (scoreAt T b) < ⊤ := by
  rw [Finset.sup_lt_iff (by exact bot_lt_top)]
  intro k _
  unfold scoreAt
  split_ifs
  · exact EReal.coe_lt_top _
  · exact bot_lt_top

/-- The largest score beside `m` is real. -/
theorem max_real {m : EReal} (hm : m < ⊤) (hb : ∃ k, b k) : ∃ μ : ℝ, max m (Finset.univ.sup (scoreAt T b)) = (μ : EReal) ∧ ∀ k, b k → T k ≤ μ := by
  obtain ⟨k0, h0⟩ := hb
  have hk : ∀ k, b k → (T k : EReal) ≤ max m (Finset.univ.sup (scoreAt T b)) := fun k h =>
    le_trans (by rw [← (if_pos h : scoreAt T b k = T k)]; exact Finset.le_sup (f := scoreAt T b) (Finset.mem_univ k)) (le_max_right _ _)
  have h1 : max m (Finset.univ.sup (scoreAt T b)) ≠ ⊤ := (max_lt hm (sup_lt_top T b)).ne
  have h2 : max m (Finset.univ.sup (scoreAt T b)) ≠ ⊥ := ne_of_gt (lt_of_lt_of_le (EReal.bot_lt_coe _) (hk k0 h0))
  refine ⟨(max m (Finset.univ.sup (scoreAt T b))).toReal, (EReal.coe_toReal h1 h2).symm, fun k h => ?_⟩
  rw [← EReal.coe_le_coe_iff, EReal.coe_toReal h1 h2]
  exact hk k h

end Max

theorem clip_of_mem {r : ℝ} (h0 : 0 ≤ r) (h1 : r ≤ 448) : clip (r : EReal) = (r : EReal) := by
  rw [clip_coe, max_eq_right (by linarith), min_eq_right h1]

/-! ## Block by block -/

/-- What is carried, against the sums over the keys seen so far: the running maximum is minus infinity and the rest zero,
    or the maximum is some real `μ` and the sums carry the factor `2^(8-μ)`. -/
def Inv (m l a : EReal) (L A : ℝ) : Prop :=
  (m = ⊥ ∧ l = 0 ∧ a = 0 ∧ L = 0 ∧ A = 0) ∨
    ∃ μ : ℝ, m = (μ : EReal) ∧ l = (((2 : ℝ) ^ (8 - μ) * L : ℝ) : EReal) ∧ a = (((2 : ℝ) ^ (8 - μ) * A : ℝ) : EReal)

theorem Inv.lt_top {m l a : EReal} {L A : ℝ} (h : Inv m l a L A) : m < ⊤ := by
  rcases h with ⟨h, _⟩ | ⟨μ, h, _⟩
  · rw [h]; exact bot_lt_top
  · rw [h]; exact EReal.coe_lt_top _

theorem weight_coe (T : ℝ) (p : Prop) [Decidable p] (μ : ℝ) :
    Ideal.exp2 ((if p then (T : EReal) else ⊥) - ((μ : EReal) - ((8 : ℝ) : EReal))) = ((if p then (2 : ℝ) ^ (8 - μ) * (2 : ℝ) ^ T else 0 : ℝ) : EReal) := by
  split_ifs
  · rw [← EReal.coe_sub, ← EReal.coe_sub]
    show (((2 : ℝ) ^ (T - (μ - 8)) : ℝ) : EReal) = _
    rw [← Real.rpow_add (by norm_num)]
    congr 2; ring
  · rw [← EReal.coe_sub, EReal.bot_sub]; rfl

theorem Inv.step {m l a : EReal} {L A : ℝ} (h : Inv m l a L A) {ι : Type} [Fintype ι] (T : ι → ℝ) (b : ι → Prop) [DecidablePred b] (hb : ∃ k, b k)
    (v : ι → ℝ) (vs : ℝ) {M : EReal} (hM : M = max m (Finset.univ.sup (scoreAt T b))) :
    Inv M (Ideal.exp2 (m - M) * l + ∑ k, Ideal.exp2 (scoreAt T b k - (M - ((8 : ℝ) : EReal))))
      (Ideal.exp2 (m - M) * a + (∑ k, (v k : EReal) * clip (Ideal.exp2 (scoreAt T b k - (M - ((8 : ℝ) : EReal))))) * (vs : EReal))
      (L + ∑ k, if b k then (2 : ℝ) ^ T k else 0) (A + ∑ k, if b k then (2 : ℝ) ^ T k * (v k * vs) else 0) := by
  obtain ⟨μ', e, hle⟩ := max_real T b h.lt_top hb
  rw [e] at hM
  subst hM
  have hp : ∀ k, Ideal.exp2 (scoreAt T b k - ((μ' : EReal) - ((8 : ℝ) : EReal))) = ((if b k then (2 : ℝ) ^ (8 - μ') * (2 : ℝ) ^ T k else 0 : ℝ) : EReal) :=
    fun k => weight_coe (T k) (b k) μ'
  have hc : ∀ k, clip (Ideal.exp2 (scoreAt T b k - ((μ' : EReal) - ((8 : ℝ) : EReal)))) = ((if b k then (2 : ℝ) ^ (8 - μ') * (2 : ℝ) ^ T k else 0 : ℝ) : EReal) := by
    intro k
    rw [hp]
    refine clip_of_mem ?_ ?_
    · split_ifs <;> positivity
    · split_ifs with hk
      · rw [← Real.rpow_add (by norm_num)]
        calc (2 : ℝ) ^ (8 - μ' + T k) ≤ (2 : ℝ) ^ (8 : ℝ) := Real.rpow_le_rpow_of_exponent_le (by norm_num) (by have := hle k hk; linarith)
          _ ≤ 448 := by norm_num
      · norm_num
  have hs : ∑ k, Ideal.exp2 (scoreAt T b k - ((μ' : EReal) - ((8 : ℝ) : EReal))) = (((2 : ℝ) ^ (8 - μ') * ∑ k, if b k then (2 : ℝ) ^ T k else 0 : ℝ) : EReal) := by
    rw [Finset.sum_congr rfl fun k _ => hp k, ← coe_sum, Finset.mul_sum]
    congr 1
    exact Finset.sum_congr rfl fun k _ => by split_ifs <;> simp
  have hd : (∑ k, (v k : EReal) * clip (Ideal.exp2 (scoreAt T b k - ((μ' : EReal) - ((8 : ℝ) : EReal))))) * (vs : EReal)
      = (((2 : ℝ) ^ (8 - μ') * ∑ k, if b k then (2 : ℝ) ^ T k * (v k * vs) else 0 : ℝ) : EReal) := by
    rw [Finset.sum_congr rfl fun k _ => by rw [hc k, ← EReal.coe_mul], ← coe_sum, ← EReal.coe_mul, Finset.mul_sum, Finset.sum_mul]
    congr 1
    refine Finset.sum_congr rfl fun k _ => ?_
    split_ifs
    · ring
    · ring
  rw [hs, hd]
  refine Or.inr ⟨μ', rfl, ?_⟩
  rcases h with ⟨rfl, rfl, rfl, rfl, rfl⟩ | ⟨μ, rfl, rfl, rfl⟩
  · rw [mul_zero, zero_add, zero_add, zero_add, zero_add]; exact ⟨rfl, rfl⟩
  · have ha : Ideal.exp2 ((μ : EReal) - (μ' : EReal)) = (((2 : ℝ) ^ (μ - μ') : ℝ) : EReal) := by rw [← EReal.coe_sub]; rfl
    have hr : (2 : ℝ) ^ (μ - μ') * (2 : ℝ) ^ (8 - μ) = (2 : ℝ) ^ (8 - μ') := by
      rw [← Real.rpow_add (by norm_num)]; congr 1; ring
    rw [ha, ← EReal.coe_mul, ← EReal.coe_mul, ← EReal.coe_add, ← EReal.coe_add, ← mul_assoc, ← mul_assoc, hr, mul_add, mul_add]
    exact ⟨rfl, rfl⟩

/-- The quotient after the last block. -/
theorem Inv.div {m l a : EReal} {L A : ℝ} (h : Inv m l a L A) (hL : 0 < L) : Ideal.div a l = ((A / L : ℝ) : EReal) := by
  rcases h with ⟨_, _, _, h, _⟩ | ⟨μ, _, rfl, rfl⟩
  · exact absurd h hL.ne'
  · have hp : (0 : ℝ) < (2 : ℝ) ^ (8 - μ) := by positivity
    rw [Ideal.div_coe (mul_pos hp hL).ne', ← EReal.coe_mul]
    congr 1
    field_simp

/-! ## A whole row -/

theorem softmax_row {ι : Type} [Fintype ι] (S : ι → ℝ) (b : ι → Prop) [DecidablePred b] (hb : ∃ k, b k) (v : ι → ℝ) {M : EReal}
    (hM : M = Finset.univ.sup (scoreAt S b)) :
    Ideal.div ((∑ k, clip (Ideal.exp (scoreAt S b k - M) * ((256 : ℝ) : EReal)) * (v k : EReal)) * ((1 / 256 : ℝ) : EReal)) (∑ k, Ideal.exp (scoreAt S b k - M))
      = (((∑ k, if b k then Real.exp (S k) * v k else 0) / (∑ k, if b k then Real.exp (S k) else 0) : ℝ) : EReal) := by
  obtain ⟨μ, e, hle⟩ := max_real S b (m := ⊥) bot_lt_top hb
  rw [max_eq_right bot_le] at e
  rw [e] at hM
  subst hM
  have hp : ∀ k, Ideal.exp (scoreAt S b k - (μ : EReal)) = ((if b k then Real.exp (-μ) * Real.exp (S k) else 0 : ℝ) : EReal) := by
    intro k
    unfold scoreAt
    split_ifs
    · rw [← EReal.coe_sub, ← Real.exp_add]
      show ((Real.exp (S k - μ) : ℝ) : EReal) = _
      congr 2; ring
    · rw [EReal.bot_sub]; rfl
  have hc : ∀ k, clip (Ideal.exp (scoreAt S b k - (μ : EReal)) * ((256 : ℝ) : EReal)) = (((if b k then Real.exp (-μ) * Real.exp (S k) else 0) * 256 : ℝ) : EReal) := by
    intro k
    rw [hp, ← EReal.coe_mul]
    refine clip_of_mem ?_ ?_
    · split_ifs <;> positivity
    · split_ifs with hk
      · rw [← Real.exp_add]
        have : Real.exp (-μ + S k) ≤ 1 := Real.exp_le_one_iff.2 (by have := hle k hk; linarith)
        linarith
      · norm_num
  obtain ⟨k0, h0⟩ := hb
  have hL : 0 < ∑ k, if b k then Real.exp (S k) else 0 := by
    refine Finset.sum_pos' (fun k _ => by split_ifs <;> positivity) ⟨k0, Finset.mem_univ _, ?_⟩
    rw [if_pos h0]; positivity
  have h1 : ∑ k, Ideal.exp (scoreAt S b k - (μ : EReal)) = ((Real.exp (-μ) * ∑ k, if b k then Real.exp (S k) else 0 : ℝ) : EReal) := by
    rw [Finset.sum_congr rfl fun k _ => hp k, ← coe_sum, Finset.mul_sum]
    congr 1
    exact Finset.sum_congr rfl fun k _ => by split_ifs <;> simp
  have h2 : (∑ k, clip (Ideal.exp (scoreAt S b k - (μ : EReal)) * ((256 : ℝ) : EReal)) * (v k : EReal)) * ((1 / 256 : ℝ) : EReal)
      = ((Real.exp (-μ) * ∑ k, if b k then Real.exp (S k) * v k else 0 : ℝ) : EReal) := by
    rw [Finset.sum_congr rfl fun k _ => by rw [hc k, ← EReal.coe_mul], ← coe_sum, ← EReal.coe_mul, Finset.mul_sum, Finset.sum_mul]
    congr 1
    refine Finset.sum_congr rfl fun k _ => ?_
    split_ifs
    · ring
    · ring
  have hp : (0 : ℝ) < Real.exp (-μ) := Real.exp_pos _
  rw [h1, h2, Ideal.div_coe (mul_pos hp hL).ne', ← EReal.coe_mul]
  congr 1
  rw [mul_one_div, mul_div_mul_left _ _ hp.ne']

end Cert.Attn

end
-- ==== Proof.Causal.lean ====
/- The sums of causal attention, and their split into blocks of 128 keys: every key of the blocks before the query's, then the
   keys of its own block up to it. -/
module

public import proofs.«01_k».proof.Proof.Online
public import Mathlib.Algebra.BigOperators.Fin
public import Mathlib.Logic.Equiv.Fin.Basic

@[expose] public section

noncomputable section

open scoped BigOperators

namespace Cert.Attn

/-- The block of a key and its place there. -/
def blk (t : Fin 2048) : Fin 16 := ⟨t.val / 128, by omega⟩
def pos (t : Fin 2048) : Fin 128 := ⟨t.val % 128, Nat.mod_lt _ (by decide)⟩

/-- The sum over the blocks before the `n`-th. -/
def below (f : Fin 16 → Fin 128 → ℝ) (n : ℕ) : ℝ := ∑ j : Fin 16, if j.val < n then ∑ s, f j s else 0

theorem below_zero (f : Fin 16 → Fin 128 → ℝ) : below f 0 = 0 := Finset.sum_eq_zero fun _ _ => if_neg (Nat.not_lt_zero _)

theorem below_succ (f : Fin 16 → Fin 128 → ℝ) (n : ℕ) (h : n < 16) : below f (n + 1) = below f n + ∑ s, f ⟨n, h⟩ s := by
  have e : ∑ s, f ⟨n, h⟩ s = ∑ j : Fin 16, if j = ⟨n, h⟩ then ∑ s, f j s else 0 := by
    rw [Finset.sum_ite_eq' Finset.univ, if_pos (Finset.mem_univ _)]
  unfold below
  rw [e, ← Finset.sum_add_distrib]
  refine Finset.sum_congr rfl fun j _ => ?_
  by_cases h1 : j.val < n
  · rw [if_pos h1, if_pos (by omega), if_neg (fun e => by rw [e] at h1; exact lt_irrefl _ h1), add_zero]
  · by_cases h2 : j = ⟨n, h⟩
    · have h3 : j.val = n := congrArg Fin.val h2
      rw [if_neg h1, if_pos (by omega), if_pos h2, zero_add]
    · have h3 : j.val ≠ n := fun e => h2 (Fin.ext e)
      rw [if_neg h1, if_neg (by omega), if_neg h2, zero_add]

theorem sum_blocks (F : Fin 2048 → ℝ) : ∑ t, F t = ∑ j : Fin 16, ∑ s : Fin 128, F ⟨128 * j.val + s.val, by omega⟩ := by
  rw [← Fintype.sum_prod_type' (f := fun (j : Fin 16) (s : Fin 128) => F ⟨128 * j.val + s.val, by omega⟩)]
  refine (Equiv.sum_comp (finProdFinEquiv (m := 16) (n := 128)) F).symm.trans ?_
  refine Finset.sum_congr rfl fun p _ => congrArg F (Fin.ext ?_)
  show p.2.val + 128 * p.1.val = 128 * p.1.val + p.2.val
  omega

/-- The causal sum, block by block. -/
theorem causal_sum (f : Fin 16 → Fin 128 → ℝ) (n : Fin 16) (r : Fin 128) :
    (∑ t : Fin 2048, if t.val ≤ 128 * n.val + r.val then f (blk t) (pos t) else 0) = below f n.val + ∑ s : Fin 128, if s.val ≤ r.val then f n s else 0 := by
  rw [sum_blocks]
  have e : (∑ s : Fin 128, if s.val ≤ r.val then f n s else 0) = ∑ j : Fin 16, if j = n then ∑ s : Fin 128, (if s.val ≤ r.val then f j s else 0) else 0 := by
    rw [Finset.sum_ite_eq' Finset.univ, if_pos (Finset.mem_univ _)]
  unfold below
  rw [e, ← Finset.sum_add_distrib]
  refine Finset.sum_congr rfl fun j _ => ?_
  have hf : ∀ s : Fin 128, f (blk ⟨128 * j.val + s.val, by omega⟩) (pos ⟨128 * j.val + s.val, by omega⟩) = f j s := fun s => by
    congr 1
    · exact Fin.ext (by show (128 * j.val + s.val) / 128 = j.val; omega)
    · exact Fin.ext (by show (128 * j.val + s.val) % 128 = s.val; omega)
  simp only [hf]
  rcases lt_trichotomy j.val n.val with h | h | h
  · rw [if_pos h, if_neg (fun e => by rw [e] at h; exact lt_irrefl _ h), add_zero]
    exact Finset.sum_congr rfl fun s _ => if_pos (by omega)
  · rw [if_neg (by omega), if_pos (Fin.ext h), zero_add]
    exact Finset.sum_congr rfl fun s _ => if_congr (by omega) rfl rfl
  · rw [if_neg (by omega), if_neg (fun e => by rw [e] at h; exact lt_irrefl _ h), add_zero]
    exact Finset.sum_eq_zero fun s _ => if_neg (by omega)

/-- The factor of the exponents, base two. -/
def softC : ℝ := (Real.log 2)⁻¹ * (Real.sqrt 128)⁻¹

/-- The exponent, base two, of query `r` of a tile at key `s` of another, -/
def score (q k : Tile) (r s : Fin 128) : ℝ := (∑ d : Fin 128, code k s d * code q r d) * ((sc q * softC) * sc k)
/-- the weight, -/
def weight (q k : Tile) (r s : Fin 128) : ℝ := (2 : ℝ) ^ score q k r s
/-- the weighted value's feature `d`, -/
def weighted (q k v : Tile) (r d s : Fin 128) : ℝ := weight q k r s * (code v s d * sc v)
/-- and the sums over the keys a query sees. -/
def den (q : Tile) (K : Fin 16 → Tile) (n : Fin 16) (r : Fin 128) : ℝ :=
  ∑ t : Fin 2048, if t.val ≤ 128 * n.val + r.val then weight q (K (blk t)) r (pos t) else 0
def num (q : Tile) (K V : Fin 16 → Tile) (n : Fin 16) (r d : Fin 128) : ℝ :=
  ∑ t : Fin 2048, if t.val ≤ 128 * n.val + r.val then weighted q (K (blk t)) (V (blk t)) r d (pos t) else 0

theorem den_pos (q : Tile) (K : Fin 16 → Tile) (n : Fin 16) (r : Fin 128) : 0 < den q K n r := by
  refine Finset.sum_pos' (fun t _ => ?_) ⟨⟨0, by decide⟩, Finset.mem_univ _, ?_⟩
  · split_ifs
    · exact (Real.rpow_pos_of_pos (by norm_num) _).le
    · exact le_rfl
  · rw [if_pos (Nat.zero_le _)]; exact Real.rpow_pos_of_pos (by norm_num) _

end Cert.Attn

end
-- ==== Proof.KernelAttn.lean ====
/- The kernel's attention over the extended reals, at one lane (a query of one head) and one feature: each value of a key
   block's step as a formula, and what the whole fold leaves. -/
module

public import proofs.«01_k».proof.Proof.Causal
public import proofs.«01_k».proof.Proof.KernelQuant
public import Idealize.ShloMosaic.Lib.MatmulPlain

@[expose] public section

noncomputable section

open scoped BigOperators

namespace Cert.KernelIdeal.Hand

open Idealize.ShloMosaic Idealize.ShloMosaic.ValueIdx
open Cert.KernelIdeal Cert.KernelIdeal.Gen Cert.Attn

/-! ## Layout at a lane -/

theorem cast_lane {α : Type} (x : S512.Idx → α) (w : Fin 512) : shapeCast S1x512 x shapeCasts_S512_S1x512 (ix2 (0 : Fin 1) w) = x (ix1 w) := by
  refine shapeCast_apply x shapeCasts_S512_S1x512 _ _ ?_
  rw [Shape.rowMajor_val_one, Shape.rowMajor_val_two]
  show w.val = 0 * 512 + w.val
  omega

/-- A row of 512 lanes, of a block of one row. -/
abbrev ixW (w : Fin 512) : S1x1x512.Idx := ix3 (0 : Fin 1) (0 : Fin 1) w

theorem cast_wide {α : Type} (x : S1x1x512.Idx → α) (w : Fin 512) : shapeCast S1x512 x shapeCasts_S1x1x512_S1x512 (ix2 (0 : Fin 1) w) = x (ixW w) := by
  refine shapeCast_apply x shapeCasts_S1x1x512_S1x512 _ _ ?_
  rw [Shape.rowMajor_val_three, Shape.rowMajor_val_two]
  show (0 * 1 + 0) * 512 + w.val = 0 * 512 + w.val
  omega

theorem down_rows {α : Type} (x : S1x512.Idx → α) (s : Fin 128) (w : Fin 512) : broadcastTo S128x512 x broadcasts_S1x512_S128x512 (ix2 s w) = x (ix2 (0 : Fin 1) w) :=
  broadcastTo_apply x _ _ _ fun a => match a with
    | ⟨0, _⟩ => rfl
    | ⟨1, _⟩ => rfl

/-! ## One step's values -/

theorem newMax_apply (m : FVec Ideal S1x512 .f32) (t : FVec Ideal S128x512 .f32) (w : Fin 512) :
    newMax (F := Ideal) m t (ix2 (0 : Fin 1) w) = max (m (ix2 (0 : Fin 1) w)) (Finset.univ.sup fun s : Fin 128 => t (ix2 s w)) := by
  unfold newMax
  refine congrArg (max (m (ix2 (0 : Fin 1) w))) ?_
  refine (cast_lane _ w).trans ?_
  refine (Ideal.multiReduction_maximumf_single (φ := .f32) t _ reduces_S128x512_S512 _ _ (ix1 w)).trans ?_
  show Finset.fold max (Ideal.ofBits .f32 0xFF800000#32) _ _ = _
  rw [ofBits_bot]
  show Finset.univ.sup _ = _
  refine Finset.sup_congr rfl fun s _ => congrArg t (funext fun a => Fin.ext ?_)
  match a with
  | ⟨0, _⟩ => rfl
  | ⟨1, _⟩ => rfl

theorem weights_apply (m : FVec Ideal S1x512 .f32) (t : FVec Ideal S128x512 .f32) (s : Fin 128) (w : Fin 512) :
    weights (F := Ideal) m t (ix2 s w) = Ideal.exp2 (t (ix2 s w) - (newMax (F := Ideal) m t (ix2 (0 : Fin 1) w) - ((8 : ℝ) : EReal))) := by
  unfold weights
  rw [← ofBits_eight]
  exact congrArg (fun z => Ideal.exp2 (t (ix2 s w) - z)) (down_rows _ s w)

theorem newSum_apply (m l : FVec Ideal S1x512 .f32) (t : FVec Ideal S128x512 .f32) (w : Fin 512) :
    newSum (F := Ideal) m l t (ix2 (0 : Fin 1) w)
      = Ideal.exp2 (m (ix2 (0 : Fin 1) w) - newMax (F := Ideal) m t (ix2 (0 : Fin 1) w)) * l (ix2 (0 : Fin 1) w) + ∑ s : Fin 128, weights (F := Ideal) m t (ix2 s w) := by
  unfold newSum
  refine congrArg (Ideal.exp2 (m (ix2 (0 : Fin 1) w) - newMax (F := Ideal) m t (ix2 (0 : Fin 1) w)) * l (ix2 (0 : Fin 1) w) + ·) ?_
  refine (cast_lane _ w).trans ?_
  refine (Ideal.multiReduction_add_single (φ := .f32) _ _ reduces_S128x512_S512 _ _ (ix1 w)).trans ?_
  refine Finset.sum_congr rfl fun s _ => congrArg (weights m t) (funext fun a => Fin.ext ?_)
  match a with
  | ⟨0, _⟩ => rfl
  | ⟨1, _⟩ => rfl

theorem newAcc_apply (m : FVec Ideal S1x512 .f32) (t : FVec Ideal S128x512 .f32) (vb : Vec Ideal S1x128x128 .fp8e4m3) (vs : Vec Ideal S1x1x512 .f32)
    (a : Vec Ideal S128x512 .f32) (d : Fin 128) (w : Fin 512) :
    newAcc (F := Ideal) m t vb vs a (ix2 d w)
      = Ideal.exp2 (m (ix2 (0 : Fin 1) w) - newMax (F := Ideal) m t (ix2 (0 : Fin 1) w)) * a (ix2 d w)
        + (∑ s : Fin 128, vb (ixT d.val s.val d.isLt s.isLt) * clip (weights (F := Ideal) m t (ix2 s w))) * vs (ixW w) := by
  unfold newAcc
  refine congrArg₂ (· + ·) (congrArg (· * a (ix2 d w)) (down_rows _ d w)) (congrArg₂ (· * ·) ?_ ((down_rows _ d w).trans (cast_wide vs w)))
  refine (Ideal.matmul_plain_apply (M := 128) (K := 128) (N := 512) (φ₁ := .fp8e4m3) (φ₂ := .fp8e4m3) none _ _ _ d w).trans ?_
  show Ideal.ofBits .f32 0x00000000#32 + _ = _
  rw [ofBits_zero, zero_add]
  refine Finset.sum_congr rfl fun s _ => congrArg₂ (· * ·) (cast_tile vb shapeCasts_S1x128x128_S128x128 d s) ?_
  unfold clip
  rw [← ofBits_448, ← ofBits_neg448]
  rfl

theorem scoresOf_apply (q : FVec Ideal S512x128 .fp8e4m3) (qs : FVec Ideal S1x512 .f32) (kb : Vec Ideal S1x128x128 .fp8e4m3) (ks : Vec Ideal S1x1x512 .f32)
    (s : Fin 128) (w : Fin 512) :
    scoresOf (F := Ideal) q qs kb ks (ix2 s w)
      = (∑ d : Fin 128, kb (ixT s.val d.val s.isLt d.isLt) * q (ix2 w d)) * (qs (ix2 (0 : Fin 1) w) * ks (ixW w)) := by
  unfold scoresOf
  refine congrArg₂ (· * ·) ?_ ((down_rows _ s w).trans (congrArg (qs (ix2 (0 : Fin 1) w) * ·) (cast_wide ks w)))
  refine (Ideal.matmul_transposedRhs_apply (M := 128) (K := 128) (N := 512) (φ₁ := .fp8e4m3) (φ₂ := .fp8e4m3) none _ _ _ s w).trans ?_
  show Ideal.ofBits .f32 0x00000000#32 + _ = _
  rw [ofBits_zero, zero_add]
  exact Finset.sum_congr rfl fun d _ => congrArg (· * q (ix2 w d)) (cast_tile kb shapeCasts_S1x128x128_S128x128 s d)

/-! ## What the blocks hold -/

theorem kvScaleOut_apply (v : Vec Ideal S1x128x128 .bf16) (w : Fin 512) : kvScaleOut (F := Ideal) v (ixW w) = ((sc (tile v) : ℝ) : EReal) := by
  unfold kvScaleOut
  refine (shapeCast_apply _ shapeCasts_S1x512_S1x1x512 _ (ix2 (0 : Fin 1) w) ?_).trans ?_
  · rw [Shape.rowMajor_val_three, Shape.rowMajor_val_two]
    show 0 * 512 + w.val = (0 * 1 + 0) * 512 + w.val
    omega
  · rw [shapeCast_self]
    exact scaleOf_apply v _

theorem qScaleOut_apply (v : Vec Ideal S1x128x128 .bf16) (l : Fin 128) :
    qScaleOut (F := Ideal) v (ix3 (0 : Fin 1) (0 : Fin 1) l) = ((sc (tile v) * softC : ℝ) : EReal) := by
  unfold qScaleOut
  refine (shapeCast_apply _ shapeCasts_S1x128_S1x1x128 _ (ix2 (0 : Fin 1) l) ?_).trans ?_
  · rw [Shape.rowMajor_val_three, Shape.rowMajor_val_two]
    show 0 * 128 + l.val = (0 * 1 + 0) * 128 + l.val
    omega
  · rw [shapeCast_self, EReal.coe_mul]
    refine congrArg₂ (· * ·) (scaleOf_apply v _) ?_
    exact IdealRules.named_const.ideal_named_scalar _ _ _ _ rfl

theorem qCat_apply (q0 q1 q2 q3 : Vec Ideal S1x128x128 .fp8e4m3) (g : Fin 4) (r d : Fin 128) (w : Fin 512) (hw : w.val = 128 * g.val + r.val) :
    qCat (F := Ideal) q0 q1 q2 q3 (ix2 w d) = (![q0, q1, q2, q3] g) (ixT r.val d.val r.isLt d.isLt) := by
  unfold qCat
  have other : ∀ a : Fin 2, a ≠ 0 → (ix2 r d a).val = (ix2 w d a).val := by
    intro a ha
    match a, ha with
    | ⟨0, _⟩, ha => exact absurd rfl ha
    | ⟨1, _⟩, _ => rfl
  match g, hw with
  | ⟨0, _⟩, hw =>
    refine (concatenate_apply_piece (t := S512x128) 0 [⟨S128x128, _⟩, ⟨S128x128, _⟩, ⟨S128x128, _⟩, ⟨S128x128, _⟩] _ (ix2 w d)
      0 (show 0 < 4 by decide) S128x128 _ rfl rfl 0 rfl (ix2 r d) other ?_).trans (cast_tile q0 shapeCasts_S1x128x128_S128x128 r d)
    show 0 + r.val = w.val; rw [hw]; show 0 + r.val = 128 * 0 + r.val; omega
  | ⟨1, _⟩, hw =>
    refine (concatenate_apply_piece (t := S512x128) 0 [⟨S128x128, _⟩, ⟨S128x128, _⟩, ⟨S128x128, _⟩, ⟨S128x128, _⟩] _ (ix2 w d)
      1 (show 1 < 4 by decide) S128x128 _ rfl rfl 128 rfl (ix2 r d) other ?_).trans (cast_tile q1 shapeCasts_S1x128x128_S128x128 r d)
    show 128 + r.val = w.val; rw [hw]; show 128 + r.val = 128 * 1 + r.val; omega
  | ⟨2, _⟩, hw =>
    refine (concatenate_apply_piece (t := S512x128) 0 [⟨S128x128, _⟩, ⟨S128x128, _⟩, ⟨S128x128, _⟩, ⟨S128x128, _⟩] _ (ix2 w d)
      2 (show 2 < 4 by decide) S128x128 _ rfl rfl 256 rfl (ix2 r d) other ?_).trans (cast_tile q2 shapeCasts_S1x128x128_S128x128 r d)
    show 256 + r.val = w.val; rw [hw]; show 256 + r.val = 128 * 2 + r.val; omega
  | ⟨3, _⟩, hw =>
    refine (concatenate_apply_piece (t := S512x128) 0 [⟨S128x128, _⟩, ⟨S128x128, _⟩, ⟨S128x128, _⟩, ⟨S128x128, _⟩] _ (ix2 w d)
      3 (show 3 < 4 by decide) S128x128 _ rfl rfl 384 rfl (ix2 r d) other ?_).trans (cast_tile q3 shapeCasts_S1x128x128_S128x128 r d)
    show 384 + r.val = w.val; rw [hw]; show 384 + r.val = 128 * 3 + r.val; omega

end Cert.KernelIdeal.Hand

end
-- ==== Proof.KernelFold.lean ====
/- The kernel's fold over the key blocks: it carries the sums of causal attention up to the factor of the running maximum,
   and what it stores is their quotient. -/
module

public import proofs.«01_k».proof.Proof.KernelAttn
public import Idealize.ShloMosaic.Lib.WordCmp

@[expose] public section

noncomputable section

open scoped BigOperators

namespace Cert.KernelIdeal.Hand

open Idealize.ShloMosaic Idealize.ShloMosaic.ValueIdx
open Cert.KernelIdeal Cert.KernelIdeal.Gen Cert.Attn

/-! ## The mask -/

theorem causal_apply (s : Fin 128) (w : Fin 512) : causal (ix2 s w) = BitVec.ofBool (decide (s.val ≤ w.val % 128)) := by
  have e : IntOp.andi (BitVec.ofNat 32 w.val) 127#32 = BitVec.ofNat 32 (w.val % 128) := by
    apply BitVec.eq_of_toNat_eq
    show (BitVec.ofNat 32 w.val &&& 127#32).toNat = _
    rw [BitVec.toNat_and, BitVec.toNat_ofNat, BitVec.toNat_ofNat, BitVec.toNat_ofNat, Nat.mod_eq_of_lt (show w.val < 2 ^ 32 by omega),
      Nat.mod_eq_of_lt (show w.val % 128 < 2 ^ 32 by omega)]
    exact Nat.and_two_pow_sub_one_eq_mod w.val 7
  show IntOp.cmpi .sge (IntOp.andi (BitVec.ofNat 32 (0 * 512 + w.val)) 127#32) (BitVec.ofNat 32 (0 * 128 + s.val)) = _
  rw [show 0 * 512 + w.val = w.val by omega, show 0 * 128 + s.val = s.val by omega, e]
  exact WordCmp.cmpi_sle_ofNat (by show s.val < 2 ^ 31; omega) (by show w.val % 128 < 2 ^ 31; omega)

theorem masked_apply (t : FVec Ideal S128x512 .f32) (s : Fin 128) (w : Fin 512) :
    masked (F := Ideal) t (ix2 s w) = if s.val ≤ w.val % 128 then t (ix2 s w) else ⊥ := by
  show Scalar.select (causal (ix2 s w)) (t (ix2 s w)) (Ideal.ofBits .f32 0xFF800000#32) = _
  rw [causal_apply, ofBits_bot, WordCmp.select_decide]

/-! ## The stored tile -/

theorem slice_apply (o : FVec Ideal S128x512 .f32) (g : Fin 4) (r d : Fin 128) (hw : 128 * g.val + r.val < 512) :
    extractStridedSlice S128x128 ![0, 128 * g.val] o (slG g) (ix2 d r) = o (ix2 d (⟨128 * g.val + r.val, hw⟩ : Fin 512)) :=
  extractStridedSlice_apply ![0, 128 * g.val] o (slG g) _ _ fun a => match a with
    | ⟨0, _⟩ => (Nat.zero_add d.val).symm
    | ⟨1, _⟩ => rfl

theorem flip_apply (o : FVec Ideal S128x128 .f32) (r d : Fin 128) :
    transpose S128x128 [1, 0] o transposes_S128x128_p1_0_S128x128 (ix2 r d) = o (ix2 d r) :=
  transpose_apply [1, 0] o transposes_S128x128_p1_0_S128x128 _ _ fun b => match b with
    | ⟨0, _⟩ => rfl
    | ⟨1, _⟩ => rfl

theorem outTile_apply (o : FVec Ideal S128x512 .f32) (g : Fin 4) (r d : ℕ) (hr : r < 128) (hd : d < 128) (hw : 128 * g.val + r < 512) :
    outTile (F := Ideal) o ![0, 128 * g.val] (slG g) (ixT r d hr hd) = o (ix2 (⟨d, hd⟩ : Fin 128) (⟨128 * g.val + r, hw⟩ : Fin 512)) := by
  unfold outTile
  refine (cast_block _ shapeCasts_S128x128_S1x128x128 (ixT r d hr hd)).trans ?_
  exact (flip_apply _ ⟨r, hr⟩ ⟨d, hd⟩).trans (slice_apply o g ⟨r, hr⟩ ⟨d, hd⟩ hw)

/-! ## The fold -/

section Fold

variable (x : Vec Ideal S1x2048x512 .bf16) (k v : Vec Ideal S1x2048x128 .bf16)

/-- The tiles of a block. -/
def qT (n : Fin 16) (g : Fin 4) : Tile := tile (tl (F := Ideal) x (rX n g))
def kvT (n : Fin 16) : Tile := tile (tl (F := Ideal) k (rKV n))

theorem qCodes_apply (n : Fin 16) (g : Fin 4) (r d : Fin 128) (w : Fin 512) (hw : w.val = 128 * g.val + r.val) :
    qCodes (F := Ideal) x n (ix2 w d) = ((code (qT x n g) r d : ℝ) : EReal) := by
  refine (qCat_apply _ _ _ _ g r d w hw).trans (Eq.trans (congrFun ?_ _) (codesOut_apply (tl (F := Ideal) x (rX n g)) r.val d.val r.isLt d.isLt))
  match g with
  | ⟨0, _⟩ => rfl
  | ⟨1, _⟩ => rfl
  | ⟨2, _⟩ => rfl
  | ⟨3, _⟩ => rfl

theorem qRow_apply (n : Fin 16) (g : Fin 4) (r : Fin 128) (w : Fin 512) (hw : w.val = 128 * g.val + r.val) :
    qRow (F := Ideal) x n (ixW w) = ((sc (qT x n g) * softC : ℝ) : EReal) := by
  have e : (⟨w.val / 128, by omega⟩ : Fin 4) = g := Fin.ext (by show w.val / 128 = g.val; omega)
  refine Eq.trans (congrArg (qScaleOut (F := Ideal) (tl x (rX n ⟨w.val / 128, by omega⟩))) (a₂ := ix3 (0 : Fin 1) (0 : Fin 1) ⟨w.val % 128, Nat.mod_lt _ (by decide)⟩)
    (funext fun a => Fin.ext ?_)) ?_
  · match a with
    | ⟨0, _⟩ => rfl
    | ⟨1, _⟩ => rfl
    | ⟨2, _⟩ => rfl
  · rw [e]; exact qScaleOut_apply _ _

theorem scores_apply (n j : Fin 16) (g : Fin 4) (r s : Fin 128) (w : Fin 512) (hw : w.val = 128 * g.val + r.val) :
    scoresOf (F := Ideal) (qCodes x n) (shapeCast S1x512 (qRow x n) shapeCasts_S1x1x512_S1x512) (codesOut (tl k (rKV j))) (kvScaleOut (tl k (rKV j))) (ix2 s w)
      = ((score (qT x n g) (kvT k j) r s : ℝ) : EReal) := by
  rw [scoresOf_apply, cast_wide, qRow_apply x n g r w hw, kvScaleOut_apply]
  unfold score
  rw [EReal.coe_mul, EReal.coe_mul, coe_sum]
  refine congrArg (· * _) (Finset.sum_congr rfl fun d _ => ?_)
  rw [codesOut_apply, qCodes_apply x n g r d w hw, EReal.coe_mul]
  rfl

/-- One key block, at a lane and a feature. -/
theorem step_inv (msk : FVec Ideal S128x512 .f32 → FVec Ideal S128x512 .f32) (n j : Fin 16) (g : Fin 4) (r d : Fin 128) (w : Fin 512) (hw : w.val = 128 * g.val + r.val)
    (b : Fin 128 → Prop) [DecidablePred b] (hb : ∃ s, b s) (hm : ∀ t s, msk t (ix2 s w) = if b s then t (ix2 s w) else ⊥)
    (S : Carry Ideal) {L A : ℝ} (h : Inv (S.m (ix2 (0 : Fin 1) w)) (S.l (ix2 (0 : Fin 1) w)) (S.a (ix2 d w)) L A) :
    Inv ((S.at x k v msk n j).m (ix2 (0 : Fin 1) w)) ((S.at x k v msk n j).l (ix2 (0 : Fin 1) w)) ((S.at x k v msk n j).a (ix2 d w))
      (L + ∑ s, if b s then weight (qT x n g) (kvT k j) r s else 0) (A + ∑ s, if b s then weighted (qT x n g) (kvT k j) (kvT v j) r d s else 0) := by
  have ht : ∀ s, msk (scoresOf (F := Ideal) (qCodes x n) (shapeCast S1x512 (qRow x n) shapeCasts_S1x1x512_S1x512) (codesOut (tl k (rKV j))) (kvScaleOut (tl k (rKV j)))) (ix2 s w)
      = scoreAt (score (qT x n g) (kvT k j) r) b s := fun s => by
    rw [hm, scores_apply x k n j g r s w hw]; rfl
  unfold Carry.at Carry.step
  dsimp only
  generalize msk (scoresOf (F := Ideal) (qCodes x n) (shapeCast S1x512 (qRow x n) shapeCasts_S1x1x512_S1x512) (codesOut (tl k (rKV j))) (kvScaleOut (tl k (rKV j)))) = t at ht
  rw [newSum_apply, newAcc_apply, kvScaleOut_apply]
  simp only [weights_apply, codesOutT_apply, ht]
  refine h.step (score (qT x n g) (kvT k j) r) b hb (fun s => code (kvT v j) s d) (sc (kvT v j)) ?_
  rw [newMax_apply]
  simp only [ht]

theorem upTo_inv (n : Fin 16) (g : Fin 4) (r d : Fin 128) (w : Fin 512) (hw : w.val = 128 * g.val + r.val) : ∀ j, j ≤ 16 →
    Inv ((Carry.upTo x k v n j).m (ix2 (0 : Fin 1) w)) ((Carry.upTo x k v n j).l (ix2 (0 : Fin 1) w)) ((Carry.upTo x k v n j).a (ix2 d w))
      (below (fun j s => weight (qT x n g) (kvT k j) r s) j) (below (fun j s => weighted (qT x n g) (kvT k j) (kvT v j) r d s) j)
  | 0, _ => Or.inl ⟨ofBits_bot, ofBits_zero, ofBits_zero, below_zero _, below_zero _⟩
  | j + 1, h => by
    rw [Carry.upTo_succ _ _ _ _ j h, below_succ _ _ h, below_succ _ _ h]
    have := step_inv x k v id n ⟨j, h⟩ g r d w hw (fun _ => True) ⟨0, trivial⟩ (fun t s => by rw [if_pos trivial]; rfl) _ (upTo_inv n g r d w hw j (by omega))
    simpa only [if_true] using this

theorem last_inv (n : Fin 16) (g : Fin 4) (r d : Fin 128) (w : Fin 512) (hw : w.val = 128 * g.val + r.val) :
    Inv ((Carry.last x k v n).m (ix2 (0 : Fin 1) w)) ((Carry.last x k v n).l (ix2 (0 : Fin 1) w)) ((Carry.last x k v n).a (ix2 d w))
      (den (qT x n g) (kvT k) n r) (num (qT x n g) (kvT k) (kvT v) n r d) := by
  unfold den num
  rw [causal_sum (fun j s => weight (qT x n g) (kvT k j) r s), causal_sum (fun j s => weighted (qT x n g) (kvT k j) (kvT v j) r d s)]
  have hr : w.val % 128 = r.val := by omega
  exact step_inv x k v masked n n g r d w hw (fun s => s.val ≤ r.val) ⟨r, le_rfl⟩ (fun t s => by rw [masked_apply, hr]) _
    (upTo_inv x k v n g r d w hw n.val n.isLt.le)

/-- What is stored of a query, of a head, at a feature. -/
theorem outAt_apply (n : Fin 16) (g : Fin 4) (r d : ℕ) (hr : r < 128) (hd : d < 128) :
    outAt (F := Ideal) x k v n g (ixT r d hr hd)
      = ((num (qT x n g) (kvT k) (kvT v) n ⟨r, hr⟩ ⟨d, hd⟩ / den (qT x n g) (kvT k) n ⟨r, hr⟩ : ℝ) : EReal) := by
  have hw : 128 * g.val + r < 512 := by omega
  unfold outAt
  rw [outTile_apply _ g r d hr hd hw]
  unfold quotient
  refine (congrArg (Ideal.div _) (down_rows _ _ _)).trans ?_
  exact (last_inv x k v n g ⟨r, hr⟩ ⟨d, hd⟩ ⟨128 * g.val + r, hw⟩ rfl).div (den_pos _ _ _ _)

end Fold

end Cert.KernelIdeal.Hand

end
-- ==== Proof.RefAttn.lean ====
/- The reference's attention over the extended reals, read at an index: a query's output is the quotient of the sums of causal
   attention. -/
module

public import proofs.«01_k».proof.Proof.Causal
public import proofs.«01_k».proof.Proof.RefQuant
public import Idealize.ShloMosaic.Lib.WordCmp
public import Idealize.ShloMosaic.Lib.IdealHost
public import Idealize.ShloMosaic.PureOps.Ideal.Laws

@[expose] public section

set_option maxRecDepth 16384

noncomputable section

open scoped BigOperators

namespace Cert.Attn

/-- The score of query `r` of a tile at key `s` of another, as the reference scales it. -/
def refScore (q k : Tile) (r s : Fin 128) : ℝ := (∑ d : Fin 128, (code k s d * sc k) * (code q r d * sc q)) * (Real.sqrt 128)⁻¹

theorem exp_refScore (q k : Tile) (r s : Fin 128) : Real.exp (refScore q k r s) = weight q k r s := by
  unfold weight
  rw [Real.rpow_def_of_pos (by norm_num)]
  congr 1
  unfold refScore score softC
  have h : (∑ d : Fin 128, (code k s d * sc k) * (code q r d * sc q)) = (∑ d : Fin 128, code k s d * code q r d) * (sc k * sc q) := by
    rw [Finset.sum_mul]; exact Finset.sum_congr rfl fun d _ => by ring
  have h2 := log_two_pos.ne'
  rw [h]
  field_simp

end Cert.Attn

namespace Cert.ReferenceIdeal.Hand

open Idealize.ShloMosaic Idealize.ShloMosaic.ValueIdx
open Cert.ReferenceIdeal Cert.ReferenceIdeal.Gen Cert.Attn

/-! ## The operations at an index -/

theorem dotScores_apply (k : FVec Ideal S8x2048x8x128 .f32) (q : FVec Ideal S8x2048x8x4x128 .f32) (b j : Fin 8) (t s : Fin 2048) (g : Fin 4) :
    (Host.dotGeneral dot_S8x2048x8x128_S8x2048x8x4x128_S8x8x2048x2048x4_3_4_1_13_02_02 none k q : FVec Ideal S8x8x2048x2048x4 .f32) (ix5 b j t s g)
      = ∑ d : Fin 128, k (ix4 b t j d) * q (ix5 b s j g d) := by
  let D := dot_S8x2048x8x128_S8x2048x8x4x128_S8x8x2048x2048x4_3_4_1_13_02_02
  refine (Ideal.dotGeneral_apply D none _ k q _).trans ?_
  rw [← Equiv.sum_comp (contrEquiv1 D 128 rfl rfl).symm]
  refine Finset.sum_congr rfl fun d _ => ?_
  have hk := contrEquiv1_symm_val D 128 rfl rfl d
  refine congrArg₂ (· * ·) (congrArg k (funext fun a => Fin.ext ?_)) (congrArg q (funext fun a => Fin.ext ?_))
  · match a with
    | ⟨0, _⟩ => rfl
    | ⟨1, _⟩ => rfl
    | ⟨2, _⟩ => rfl
    | ⟨3, _⟩ => exact hk
  · match a with
    | ⟨0, _⟩ => rfl
    | ⟨1, _⟩ => rfl
    | ⟨2, _⟩ => rfl
    | ⟨3, _⟩ => rfl
    | ⟨4, _⟩ => exact hk

theorem dotAverage_apply (p : FVec Ideal S8x8x4x2048x2048 .f32) (v : FVec Ideal S8x2048x8x128 .f32) (b j : Fin 8) (g : Fin 4) (s : Fin 2048) (d : Fin 128) :
    (Host.dotGeneral dot_S8x8x4x2048x2048_S8x2048x8x128_S8x8x4x2048x128_4_1_23_3_01_02 none p v : FVec Ideal S8x8x4x2048x128 .f32) (ix5 b j g s d)
      = ∑ t : Fin 2048, p (ix5 b j g s t) * v (ix4 b t j d) := by
  let D := dot_S8x8x4x2048x2048_S8x2048x8x128_S8x8x4x2048x128_4_1_23_3_01_02
  refine (Ideal.dotGeneral_apply D none _ p v _).trans ?_
  rw [← Equiv.sum_comp (contrEquiv1 D 2048 rfl rfl).symm]
  refine Finset.sum_congr rfl fun t _ => ?_
  have hk := contrEquiv1_symm_val D 2048 rfl rfl t
  refine congrArg₂ (· * ·) (congrArg p (funext fun a => Fin.ext ?_)) (congrArg v (funext fun a => Fin.ext ?_))
  · match a with
    | ⟨0, _⟩ => rfl
    | ⟨1, _⟩ => rfl
    | ⟨2, _⟩ => rfl
    | ⟨3, _⟩ => rfl
    | ⟨4, _⟩ => exact hk
  · match a with
    | ⟨0, _⟩ => rfl
    | ⟨1, _⟩ => exact hk
    | ⟨2, _⟩ => rfl
    | ⟨3, _⟩ => rfl

/-- A value per query, at every element of the last axis. -/
theorem spreadRow_apply {α : Type} {E : ℕ} (x : S8x8x4x2048.Idx → α) (h : S8x8x4x2048x1.BroadcastsInDim ⟨5, ![8, 8, 4, 2048, E]⟩ ![0, 1, 2, 3, 4])
    (b j : Fin 8) (g : Fin 4) (s : Fin 2048) (e : Fin E) :
    broadcastInDim ⟨5, ![8, 8, 4, 2048, E]⟩ ![0, 1, 2, 3, 4] h (broadcastInDim S8x8x4x2048x1 ![0, 1, 2, 3] bcast_S8x8x4x2048_S8x8x4x2048x1_0_1_2_3 x) (ix5 b j g s e)
      = x (ix4 b j g s) := by
  refine (broadcastInDim_apply _ _ _ _ (ix5 b j g s (0 : Fin 1)) fun a => ?_).trans (broadcastInDim_apply _ _ _ _ _ fun a => ?_)
  · match a with
    | ⟨0, _⟩ => rfl
    | ⟨1, _⟩ => rfl
    | ⟨2, _⟩ => rfl
    | ⟨3, _⟩ => rfl
    | ⟨4, _⟩ => rfl
  · match a with
    | ⟨0, _⟩ => rfl
    | ⟨1, _⟩ => rfl
    | ⟨2, _⟩ => rfl
    | ⟨3, _⟩ => rfl

theorem maxRow_apply (x : FVec Ideal S8x8x4x2048x2048 .f32) (b j : Fin 8) (g : Fin 4) (s : Fin 2048) :
    (Host.reduce (FloatOps.maximumf (F := Ideal) (φ := .f32)) x (constant S_ .f32 0xFF800000#32 : FVec Ideal S_ .f32) reducesTo_S8x8x4x2048x2048_S8x8x4x2048_d4 h_S_ : FVec Ideal S8x8x4x2048 .f32)
      (ix4 b j g s) = Finset.univ.sup fun t : Fin 2048 => x (ix5 b j g s t) := by
  refine (Host.reduce_eq_fold _ _ _ _ _ _).trans ?_
  show Finset.fold max (Ideal.ofBits .f32 0xFF800000#32) _ _ = _
  rw [ofBits_bot]
  show Finset.sup _ (fun i => x i) = _
  refine le_antisymm (Finset.sup_le fun i hi => ?_) (Finset.sup_le fun t _ => ?_)
  · have hd := (Finset.mem_filter.1 hi).2
    have h0 : i 0 = b := Fin.ext (congrArg Fin.val (congrFun hd 0))
    have h1 : i 1 = j := Fin.ext (congrArg Fin.val (congrFun hd 1))
    have h2 : i 2 = g := Fin.ext (congrArg Fin.val (congrFun hd 2))
    have h3 : i 3 = s := Fin.ext (congrArg Fin.val (congrFun hd 3))
    have e : i = ix5 b j g s (i 4) := by rw [← h0, ← h1, ← h2, ← h3]; exact eq_ix5 i
    rw [e]
    exact Finset.le_sup (f := fun t : Fin 2048 => x (ix5 b j g s t)) (Finset.mem_univ (i 4))
  · refine Finset.le_sup (f := fun i => x i) (b := ix5 b j g s t) (Finset.mem_filter.2 ⟨Finset.mem_univ _, ?_⟩)
    funext a; apply Fin.ext
    match a with
    | ⟨0, _⟩ => rfl
    | ⟨1, _⟩ => rfl
    | ⟨2, _⟩ => rfl
    | ⟨3, _⟩ => rfl

theorem reduces_last : S8x8x4x2048x2048.Reduces [4] S8x8x4x2048 := by decide

theorem sums_apply (p : FVec Ideal S8x8x4x2048x2048 .f32) (b j : Fin 8) (g : Fin 4) (s : Fin 2048) :
    sums (F := Ideal) p (ix4 b j g s) = ∑ t : Fin 2048, p (ix5 b j g s t) := by
  unfold sums
  refine (Ideal.hostReduceAdd_single reducesTo_S8x8x4x2048x2048_S8x8x4x2048_d4 reduces_last p _ (ix4 b j g s)).trans ?_
  show Ideal.ofBits .f32 0x00000000#32 + _ = _
  rw [ofBits_zero, zero_add]
  refine Finset.sum_congr rfl fun t _ => congrArg p (funext fun a => Fin.ext ?_)
  match a with
  | ⟨0, _⟩ => rfl
  | ⟨1, _⟩ => rfl
  | ⟨2, _⟩ => rfl
  | ⟨3, _⟩ => rfl
  | ⟨4, _⟩ => rfl

theorem seen_apply (s t : Fin 2048) : seen (ix2 s t) = BitVec.ofBool (decide (t.val ≤ s.val)) := by
  have e1 : (broadcastInDim S2048x2048 ![0, 1] bcast_S2048x1_S2048x2048_0_1 (broadcastInDim S2048x1 ![0] bcast_S2048_S2048x1_0 (iotaInDim S2048 32 0)) : IVec S2048x2048 32) (ix2 s t)
      = BitVec.ofNat 32 s.val :=
    (broadcastInDim_apply _ _ _ _ (ix2 s (0 : Fin 1)) fun a => match a with
      | ⟨0, _⟩ => rfl
      | ⟨1, _⟩ => rfl).trans (broadcastInDim_apply _ _ _ _ (ix1 s) fun a => match a with
      | ⟨0, _⟩ => rfl)
  have e2 : (broadcastInDim S2048x2048 ![0, 1] bcast_S1x2048_S2048x2048_0_1 (broadcastInDim S1x2048 ![1] bcast_S2048_S1x2048_1 (iotaInDim S2048 32 0)) : IVec S2048x2048 32) (ix2 s t)
      = BitVec.ofNat 32 t.val :=
    (broadcastInDim_apply _ _ _ _ (ix2 (0 : Fin 1) t) fun a => match a with
      | ⟨0, _⟩ => rfl
      | ⟨1, _⟩ => rfl).trans (broadcastInDim_apply _ _ _ _ (ix1 t) fun a => match a with
      | ⟨0, _⟩ => rfl)
  unfold seen
  refine (congrArg₂ (IntOp.cmpi .sge) e1 e2).trans ?_
  exact WordCmp.cmpi_sle_ofNat (by show t.val < 2 ^ 31; omega) (by show s.val < 2 ^ 31; omega)

theorem maskedScores_apply (x : FVec Ideal S8x8x4x2048x2048 .f32) (b j : Fin 8) (g : Fin 4) (s t : Fin 2048) :
    maskedScores (F := Ideal) x (ix5 b j g s t) = if t.val ≤ s.val then x (ix5 b j g s t) else ⊥ := by
  have e : broadcastInDim S8x8x4x2048x2048 ![3, 4] bcast_S2048x2048_S8x8x4x2048x2048_3_4 seen (ix5 b j g s t) = BitVec.ofBool (decide (t.val ≤ s.val)) :=
    (broadcastInDim_apply _ _ _ _ (ix2 s t) fun a => match a with
      | ⟨0, _⟩ => rfl
      | ⟨1, _⟩ => rfl).trans (seen_apply s t)
  unfold maskedScores
  show Scalar.select (broadcastInDim S8x8x4x2048x2048 ![3, 4] bcast_S2048x2048_S8x8x4x2048x2048_3_4 seen (ix5 b j g s t)) (x (ix5 b j g s t)) (Ideal.ofBits .f32 0xFF800000#32) = _
  rw [e, ofBits_bot, WordCmp.select_decide]

theorem expScores_apply (x : FVec Ideal S8x8x4x2048x2048 .f32) (b j : Fin 8) (g : Fin 4) (s t : Fin 2048) :
    expScores (F := Ideal) x (ix5 b j g s t) = Ideal.exp (x (ix5 b j g s t) - Finset.univ.sup fun t : Fin 2048 => x (ix5 b j g s t)) := by
  unfold expScores
  exact congrArg (fun z => Ideal.exp (x (ix5 b j g s t) - z)) ((spreadRow_apply _ _ b j g s t).trans (maxRow_apply x b j g s))

theorem average_apply (p : FVec Ideal S8x8x4x2048x2048 .f32) (v : FVec Ideal S8x2048x8x128 .f32) (b j : Fin 8) (g : Fin 4) (s : Fin 2048) (d : Fin 128) :
    average (F := Ideal) p v (ix5 b j g s d)
      = Ideal.div ((∑ t : Fin 2048, clip (p (ix5 b j g s t) * ((256 : ℝ) : EReal)) * v (ix4 b t j d)) * ((1 / 256 : ℝ) : EReal)) (∑ t : Fin 2048, p (ix5 b j g s t)) := by
  unfold average
  refine congrArg₂ Ideal.div (congrArg₂ (· * ·) ((dotAverage_apply _ v b j g s d).trans (Finset.sum_congr rfl fun t _ => congrArg (· * v (ix4 b t j d)) ?_)) ofBits_inv256)
    ((spreadRow_apply _ _ b j g s d).trans (sums_apply p b j g s))
  unfold clip
  rw [← ofBits_448, ← ofBits_neg448, ← ofBits_256]
  rfl

theorem scores_apply (q : FVec Ideal S8x2048x8x4x128 .f32) (k : FVec Ideal S8x2048x8x128 .f32) (b j : Fin 8) (g : Fin 4) (s t : Fin 2048) :
    scores (F := Ideal) q k (ix5 b j g s t) = (∑ d : Fin 128, k (ix4 b t j d) * q (ix5 b s j g d)) * (((Real.sqrt 128)⁻¹ : ℝ) : EReal) := by
  unfold scores
  refine congrArg₂ (· * ·) ((transpose_apply [0, 1, 4, 3, 2] _ transposes_S8x8x2048x2048x4_S8x8x4x2048x2048_0_1_4_3_2 _ (ix5 b j t s g) fun a => match a with
    | ⟨0, _⟩ => rfl
    | ⟨1, _⟩ => rfl
    | ⟨2, _⟩ => rfl
    | ⟨3, _⟩ => rfl
    | ⟨4, _⟩ => rfl).trans (dotScores_apply k q b j t s g)) ?_
  show Ideal.rsqrt (Ideal.ofBits .f32 0x43000000#32) = _
  rw [ofBits_128]
  show (if (128 : ℝ) < 0 then (⊥ : EReal) else if (128 : ℝ) = 0 then ⊤ else (((Real.sqrt 128)⁻¹ : ℝ) : EReal)) = _
  rw [if_neg (by norm_num), if_neg (by norm_num)]

/-! ## What is read back -/

theorem join2_apply {α : Type} (x : S8x16x128x32x128.Idx → α) (b j : Fin 8) (g : Fin 4) (t : Fin 2048) (d : Fin 128) :
    shapeCast S8x2048x8x4x128 (shapeCast S8x2048x32x128 x shapeCasts_S8x16x128x32x128_S8x2048x32x128) shapeCasts_S8x2048x32x128_S8x2048x8x4x128 (ix5 b t j g d)
      = x (ix5 b (blk t) (pos t) (headOf j g) d) := by
  refine (shapeCast_apply _ shapeCasts_S8x2048x32x128_S8x2048x8x4x128 _ (ix4 b t (headOf j g) d) ?_).trans
    (shapeCast_apply x shapeCasts_S8x16x128x32x128_S8x2048x32x128 _ (ix5 b (blk t) (pos t) (headOf j g) d) ?_)
  · rw [Shape.rowMajor_val_four, Shape.rowMajor_val_five]
    show ((b.val * 2048 + t.val) * 32 + (4 * j.val + g.val)) * 128 + d.val = (((b.val * 2048 + t.val) * 8 + j.val) * 4 + g.val) * 128 + d.val
    omega
  · rw [Shape.rowMajor_val_four, Shape.rowMajor_val_five]
    show (((b.val * 16 + t.val / 128) * 128 + t.val % 128) * 32 + (4 * j.val + g.val)) * 128 + d.val = ((b.val * 2048 + t.val) * 32 + (4 * j.val + g.val)) * 128 + d.val
    omega

theorem join1_apply {α : Type} (x : S8x16x128x8x128.Idx → α) (b j : Fin 8) (t : Fin 2048) (d : Fin 128) :
    shapeCast S8x2048x8x128 x shapeCasts_S8x16x128x8x128_S8x2048x8x128 (ix4 b t j d) = x (ix5 b (blk t) (pos t) j d) := by
  refine shapeCast_apply x shapeCasts_S8x16x128x8x128_S8x2048x8x128 _ (ix5 b (blk t) (pos t) j d) ?_
  rw [Shape.rowMajor_val_four, Shape.rowMajor_val_five]
  show (((b.val * 16 + t.val / 128) * 128 + t.val % 128) * 8 + j.val) * 128 + d.val = ((b.val * 2048 + t.val) * 8 + j.val) * 128 + d.val
  omega

theorem qd_apply (X : Vec Ideal S8x2048x4096 .bf16) (b j : Fin 8) (g : Fin 4) (t : Fin 2048) (d : Fin 128) :
    qd (F := Ideal) (tilesX X) (ix5 b t j g d)
      = ((code (tileX X b (blk t) (headOf j g)) (pos t) d * sc (tileX X b (blk t) (headOf j g)) : ℝ) : EReal) := by
  unfold qd
  refine (join2_apply _ b j g t d).trans ?_
  rw [EReal.coe_mul]
  exact congrArg₂ (· * ·) (codesX_apply X b _ _ _ d) ((spreadX_apply _ b _ _ _ d).trans (scaleX_apply X b _ _))

theorem kvd_apply (K : Vec Ideal S8x2048x1024 .bf16) (b j : Fin 8) (t : Fin 2048) (d : Fin 128) :
    kvd (F := Ideal) (tilesKV K) (ix4 b t j d) = ((code (tileKV K b (blk t) j) (pos t) d * sc (tileKV K b (blk t) j) : ℝ) : EReal) := by
  unfold kvd
  refine (join1_apply _ b j t d).trans ?_
  rw [EReal.coe_mul]
  exact congrArg₂ (· * ·) (codesKV_apply K b _ _ _ d) ((spreadKV_apply _ b _ _ _ d).trans (scaleKV_apply K b _ _))

/-! ## The output -/

theorem outLayout_apply (o : FVec Ideal S8x8x4x2048x128 .f32) (b j : Fin 8) (g : Fin 4) (s : Fin 2048) (d : Fin 128) (i : S8x2048x4096.Idx)
    (h0 : (i 0).val = b.val) (h1 : (i 1).val = s.val) (h2 : (i 2).val = 128 * (4 * j.val + g.val) + d.val) :
    outLayout (F := Ideal) o i = o (ix5 b j g s d) := by
  unfold outLayout
  refine (shapeCast_apply _ shapeCasts_S8x2048x8x4x128_S8x2048x4096 i (ix5 b s j g d) ?_).trans
    (transpose_apply [0, 3, 1, 2, 4] o transposes_S8x8x4x2048x128_S8x2048x8x4x128_0_3_1_2_4 _ (ix5 b j g s d) fun a => match a with
    | ⟨0, _⟩ => rfl
    | ⟨1, _⟩ => rfl
    | ⟨2, _⟩ => rfl
    | ⟨3, _⟩ => rfl
    | ⟨4, _⟩ => rfl)
  rw [Shape.rowMajor_val_three, Shape.rowMajor_val_five, h0, h1, h2]
  show (((b.val * 2048 + s.val) * 8 + j.val) * 4 + g.val) * 128 + d.val = (b.val * 2048 + s.val) * 4096 + (128 * (4 * j.val + g.val) + d.val)
  omega

/-- The weights of a query. -/
theorem weights_row (X : Vec Ideal S8x2048x4096 .bf16) (K : Vec Ideal S8x2048x1024 .bf16) (b j : Fin 8) (g : Fin 4) (s t : Fin 2048) :
    maskedScores (F := Ideal) (scores (qd (tilesX X)) (kvd (tilesKV K))) (ix5 b j g s t)
      = scoreAt (fun t => refScore (tileX X b (blk s) (headOf j g)) (tileKV K b (blk t) j) (pos s) (pos t)) (fun t => t.val ≤ s.val) t := by
  rw [maskedScores_apply, scores_apply]
  unfold scoreAt refScore
  simp only [qd_apply, kvd_apply, ← EReal.coe_mul, ← coe_sum]

theorem refY_apply (X : Vec Ideal S8x2048x4096 .bf16) (K V : Vec Ideal S8x2048x1024 .bf16) (b j : Fin 8) (n : Fin 16) (g : Fin 4) (r d : Fin 128) (i : S8x2048x4096.Idx)
    (h0 : (i 0).val = b.val) (h1 : (i 1).val = 128 * n.val + r.val) (h2 : (i 2).val = 128 * (4 * j.val + g.val) + d.val) :
    refY (F := Ideal) X K V i
      = ((num (tileX X b n (headOf j g)) (fun m => tileKV K b m j) (fun m => tileKV V b m j) n r d / den (tileX X b n (headOf j g)) (fun m => tileKV K b m j) n r : ℝ) : EReal) := by
  have hs : 128 * n.val + r.val < 2048 := by omega
  have hb : blk ⟨128 * n.val + r.val, hs⟩ = n := Fin.ext (by show (128 * n.val + r.val) / 128 = n.val; omega)
  have hp : pos ⟨128 * n.val + r.val, hs⟩ = r := Fin.ext (by show (128 * n.val + r.val) % 128 = r.val; omega)
  unfold refY
  rw [outLayout_apply _ b j g ⟨128 * n.val + r.val, hs⟩ d i h0 h1 h2, average_apply]
  simp only [expScores_apply, weights_row, kvd_apply, hb, hp]
  refine (softmax_row (fun t => refScore (tileX X b n (headOf j g)) (tileKV K b (blk t) j) r (pos t)) (fun t : Fin 2048 => t.val ≤ 128 * n.val + r.val)
    ⟨⟨0, by decide⟩, Nat.zero_le _⟩ (fun t => code (tileKV V b (blk t) j) (pos t) d * sc (tileKV V b (blk t) j)) rfl).trans ?_
  simp only [exp_refScore]
  rfl

end Cert.ReferenceIdeal.Hand

end
-- ==== Proof.OutputEq.lean ====
/- The attention output is the reference's: every element of each is the quotient of the same sums. -/
module

public import proofs.«01_k».proof.Proof.KernelFold
public import proofs.«01_k».proof.Proof.RefAttn
public import proofs.«01_k».proof.Proof.CodesEq

@[expose] public section

noncomputable section

namespace Cert.KernelIdeal.Hand

open Idealize.ShloMosaic Idealize.ShloMosaic.ValueIdx
open Cert.KernelIdeal Cert.KernelIdeal.Gen Cert.Attn

theorem arrY_eq (X : Vec Ideal S8x2048x4096 .bf16) (K V : Vec Ideal S8x2048x1024 .bf16) : arrY (F := Ideal) X K V = Cert.ReferenceIdeal.Hand.refY (F := Ideal) X K V := by
  funext i
  have h0 : (i 0).val < 8 := (i 0).isLt
  have h1 : (i 1).val < 2048 := (i 1).isLt
  have h2 : (i 2).val < 4096 := (i 2).isLt
  refine (outAt_apply _ _ _ _ _ _ _ _ _).trans ?_
  have eK : ∀ K : Vec Ideal S8x2048x1024 .bf16, ∀ b j, kvT (blkKV (F := Ideal) K b j) = fun m => tileKV K b m j := fun K b j => funext fun m => tile_kv K b j m
  have eQ : ∀ b j n g, qT (blkX (F := Ideal) X b j) n g = tileX X b n (headOf j g) := fun b j n g => tile_x X b j n g
  rw [eK, eK, eQ]
  refine (Cert.ReferenceIdeal.Hand.refY_apply X K V _ _ _ _ _ _ i rfl ?_ ?_).symm
  · show (i 1).val = 128 * ((i 1).val / 128) + (i 1).val % 128; omega
  · show (i 2).val = 128 * (4 * ((i 2).val / 512) + (i 2).val % 512 / 128) + (i 2).val % 512 % 128; omega

end Cert.KernelIdeal.Hand

end
-- ==== Proof.Algebraic.lean ====
/- The kernel and the reference end with equal results over the extended reals. -/
module

public import proofs.«01_k».proof.Defs
public import proofs.«01_k».proof.Proof.KernelResults
public import proofs.«01_k».proof.Proof.RefRun
public import proofs.«01_k».proof.Proof.ScalesEq
public import proofs.«01_k».proof.Proof.OutputEq

@[expose] public section

set_option maxRecDepth 16384

noncomputable section

namespace Cert.Proof

open Idealize.ShloMosaic Idealize.ShloMosaic.TcCoe Idealize.SL.Sem
open Cert.KernelIdeal.Hand

theorem algebraic : Cert.algebraic_KernelIdeal_ReferenceIdeal (hKernelIdeal := Cert.KernelIdeal.Gen.facts) (hReferenceIdeal := Cert.ReferenceIdeal.Gen.facts) := by
  intro m g m' g' _ hargs
  refine ⟨_, _, _, _, _, _, _, Cert.KernelIdeal.Hand.run (F := Ideal) m g, (θ_run _ _ _).mono (fun r h c => ?_) (Cert.ReferenceIdeal.Hand.run (F := Ideal) m' g')⟩
  obtain ⟨y, q, qs, k, ks, v, vs, k0, k1, k2⟩ := h c
  obtain ⟨e0, e1, e2⟩ := hargs c
  rw [e0, e1, e2] at y
  rw [e0] at q qs
  rw [e1] at k ks
  rw [e2] at v vs
  exact ⟨y.trans (arrY_eq _ _ _).symm, q.trans (resQ_eq _).symm, qs.trans (cutQ_eq _ _ _).symm, k.trans (resKV_eq _).symm, ks.trans (cutK_eq _ _ _).symm,
    v.trans (resKV_eq _).symm, vs.trans (cutV_eq _ _ _).symm, k0, k1, k2⟩

/-- The reference keeps its arguments, by its run, and ends with every counter at zero, since it declares no semaphore. -/
theorem frame_reference : Cert.quiescent_ReferenceIdeal (hReferenceIdeal := Cert.ReferenceIdeal.Gen.facts) := by
  intro m ρ _
  exact (θ_run Cert.ReferenceIdeal.defs _ _).mono (fun r h => ⟨fun c => ⟨(h c).2.2.2.2.2.2.2.1, (h c).2.2.2.2.2.2.2.2.1, (h c).2.2.2.2.2.2.2.2.2⟩,
    sem_eq_zero_of_no_sems (by decide) r.2⟩) (Cert.ReferenceIdeal.Hand.run m ρ)

end Cert.Proof

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.KernelFrame
public import proofs.«01_k».proof.Proof.KernelIdealFrame
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ, frame_reference,
    IdealRules.named_const.statement Cert.KernelIdeal.κ "log2e_inv_sqrt_d" .f32 0x3E0293EE#32
      (((Real.log 2)⁻¹ * (Real.sqrt 128)⁻¹ : ℝ) : EReal) rfl,
    algebraic⟩

end Cert.Proof

end
